-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "rbf_step" .f32 0x3FAAAAAB#32 ((4 / 3 : ℝ) : EReal)
  ∧ IdealRules.named_const.Statement Cert.KernelIdeal.κ "inv_spread_sq" .f32 0x3F23D70A#32 ((16 / 25 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8192x4x3 : Shape := ⟨3, ![8192, 4, 3]⟩
abbrev S8192x3x3 : Shape := ⟨3, ![8192, 3, 3]⟩
abbrev S8192 : Shape := ⟨1, ![8192]⟩
abbrev S256 : Shape := ⟨1, ![256]⟩
abbrev S256x256 : Shape := ⟨2, ![256, 256]⟩
abbrev S9x256 : Shape := ⟨2, ![9, 256]⟩
abbrev S66x256 : Shape := ⟨2, ![66, 256]⟩
abbrev S768 : Shape := ⟨1, ![768]⟩
abbrev S768x256 : Shape := ⟨2, ![768, 256]⟩
abbrev S8192x1x3 : Shape := ⟨3, ![8192, 1, 3]⟩
abbrev S8192x3 : Shape := ⟨2, ![8192, 3]⟩
abbrev S_ : Shape := ⟨0, ![]⟩
abbrev S8191 : Shape := ⟨1, ![8191]⟩

class Facts : Prop where
  slices_S8192x4x3_S8192x1x3_0_1_0 : S8192x4x3.Slices ![0, 1, 0] S8192x1x3
  shapeCasts_S8192x1x3_S8192x3 : S8192x1x3.ShapeCasts S8192x3
  bcast_S_S8192x3 : S_.BroadcastsInDim S8192x3 (![] : Fin 0 → Fin S8192x3.rank)
  slices_S8192_S8191_0 : S8192.Slices ![0] S8191
  slices_S8192_S8191_1 : S8192.Slices ![1] S8191
  bcast_S_S8192 : S_.BroadcastsInDim S8192 (![] : Fin 0 → Fin S8192.rank)

variable [Facts]

def fn {F : FTy → Type} [FloatOps F] (main_arg0 : FVec F S8192x4x3 .f32) (main_arg1 : FVec F S8192x3x3 .f32) (main_arg2 : IVec S8192 32) (main_arg3 : IVec S8192 32) (main_arg4 : IVec S8192 32) (main_arg5 : FVec F S256 .f32) (main_arg6 : FVec F S256 .f32) (main_arg7 : FVec F S256x256 .f32) (main_arg8 : FVec F S256 .f32) (main_arg9 : FVec F S9x256 .f32) (main_arg10 : FVec F S256 .f32) (main_arg11 : FVec F S66x256 .f32) (main_arg12 : FVec F S768 .f32) (main_arg13 : FVec F S768 .f32) (main_arg14 : FVec F S768x256 .f32) (main_arg15 : FVec F S256 .f32) (main_arg16 : FVec F S256x256 .f32) (main_arg17 : FVec F S256 .f32) (main_arg18 : FVec F S256x256 .f32) (main_arg19 : FVec F S256 .f32) : IVec S8192x3 1 × IVec S8191 1 × IVec S8192 1 :=
  let main_v0 : FVec F S8192x1x3 .f32 := (extractStridedSlice S8192x1x3 ![0, 1, 0] · slices_S8192x4x3_S8192x1x3_0_1_0) main_arg0
  let main_v1 : FVec F S8192x3 .f32 := shapeCast S8192x3 main_v0 shapeCasts_S8192x1x3_S8192x3
  let main_v2 : FVec F S8192x3 .f32 := Host.absf main_v1
  let main_cst : FVec F S_ .f32 := constant S_ .f32 0x7F800000#32
  let main_v3 : FVec F S8192x3 .f32 := broadcastInDim S8192x3 ![] bcast_S_S8192x3 main_cst
  let main_v4 : IVec S8192x3 1 := cmpf .olt main_v2 main_v3
  let main_v5 : IVec S8191 32 := (extractStridedSlice S8191 ![0] · slices_S8192_S8191_0) main_arg4
  let main_v6 : IVec S8191 32 := (extractStridedSlice S8191 ![1] · slices_S8192_S8191_1) main_arg4
  let main_v7 : IVec S8191 1 := cmpi .sle main_v5 main_v6
  let main_c : IVec S_ 32 := constantI S_ 32 0#32
  let main_v8 : IVec S8192 32 := broadcastInDim S8192 ![] bcast_S_S8192 main_c
  let main_v9 : IVec S8192 1 := cmpi .sge main_arg2 main_v8
  (main_v4, main_v7, main_v9)
-- ==== Kernel.lean ====
abbrev S8192x4x3 : Shape := ⟨3, ![8192, 4, 3]⟩
abbrev S8192x3x3 : Shape := ⟨3, ![8192, 3, 3]⟩
abbrev S8192 : Shape := ⟨1, ![8192]⟩
abbrev S256 : Shape := ⟨1, ![256]⟩
abbrev S256x256 : Shape := ⟨2, ![256, 256]⟩
abbrev S9x256 : Shape := ⟨2, ![9, 256]⟩
abbrev S66x256 : Shape := ⟨2, ![66, 256]⟩
abbrev S768 : Shape := ⟨1, ![768]⟩
abbrev S768x256 : Shape := ⟨2, ![768, 256]⟩
abbrev S8192x1x3 : Shape := ⟨3, ![8192, 1, 3]⟩
abbrev S8192x3 : Shape := ⟨2, ![8192, 3]⟩
abbrev S3x8192 : Shape := ⟨2, ![3, 8192]⟩
abbrev S3x16x512 : Shape := ⟨3, ![3, 16, 512]⟩
abbrev S16x3x512 : Shape := ⟨3, ![16, 3, 512]⟩
abbrev S8192x1 : Shape := ⟨2, ![8192, 1]⟩
abbrev S1x16x512 : Shape := ⟨3, ![1, 16, 512]⟩
abbrev S16x1x512 : Shape := ⟨3, ![16, 1, 512]⟩
abbrev S64 : Shape := ⟨1, ![64]⟩
abbrev S16 : Shape := ⟨1, ![16]⟩
abbrev S128 : Shape := ⟨1, ![128]⟩
abbrev S8192x16 : Shape := ⟨2, ![8192, 16]⟩
abbrev S128x3 : Shape := ⟨2, ![128, 3]⟩
abbrev S128x1 : Shape := ⟨2, ![128, 1]⟩
abbrev S128x16 : Shape := ⟨2, ![128, 16]⟩
abbrev S1 : Shape := ⟨1, ![1]⟩
abbrev S128x512 : Shape := ⟨2, ![128, 512]⟩
abbrev S128x32 : Shape := ⟨2, ![128, 32]⟩
abbrev S1x1x512 : Shape := ⟨3, ![1, 1, 512]⟩
abbrev S1x512 : Shape := ⟨2, ![1, 512]⟩
abbrev S_ : Shape := ⟨0, ![]⟩
abbrev S8192x12 : Shape := ⟨2, ![8192, 12]⟩
abbrev S8192x9 : Shape := ⟨2, ![8192, 9]⟩
abbrev S8192x32 : Shape := ⟨2, ![8192, 32]⟩
abbrev S16x512x32 : Shape := ⟨3, ![16, 512, 32]⟩
abbrev S131072x1 : Shape := ⟨2, ![131072, 1]⟩
abbrev S62x256 : Shape := ⟨2, ![62, 256]⟩
abbrev S128x256 : Shape := ⟨2, ![128, 256]⟩
abbrev S1x256 : Shape := ⟨2, ![1, 256]⟩
abbrev S1x768 : Shape := ⟨2, ![1, 768]⟩
abbrev S131072x256 : Shape := ⟨2, ![131072, 256]⟩
abbrev S1024x1 : Shape := ⟨2, ![1024, 1]⟩
abbrev S1024x256 : Shape := ⟨2, ![1024, 256]⟩
abbrev S1024x512 : Shape := ⟨2, ![1024, 512]⟩
abbrev S1024x32 : Shape := ⟨2, ![1024, 32]⟩
abbrev S1x512x32 : Shape := ⟨3, ![1, 512, 32]⟩
abbrev S512x32 : Shape := ⟨2, ![512, 32]⟩
abbrev S1x64x32 : Shape := ⟨3, ![1, 64, 32]⟩
abbrev S64x32 : Shape := ⟨2, ![64, 32]⟩
abbrev S1024x64 : Shape := ⟨2, ![1024, 64]⟩
abbrev S1024x16 : Shape := ⟨2, ![1024, 16]⟩
abbrev S1024 : Shape := ⟨1, ![1024]⟩
abbrev S1024x128 : Shape := ⟨2, ![1024, 128]⟩
abbrev S1024x768 : Shape := ⟨2, ![1024, 768]⟩
abbrev S8192x16x256 : Shape := ⟨3, ![8192, 16, 256]⟩

abbrev nBuf : Space → Nat
  | .hbm => 59
  | .vmem => 30
  | .smem => 6
  | _ => 0

abbrev bufTy : (tb : Table) → Fin (tcTables nBuf tb) → BufTy
  | .hbm, ⟨0, _⟩ => ⟨S8192x4x3, .f32⟩
  | .hbm, ⟨1, _⟩ => ⟨S8192x3x3, .f32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S9x256, .f32⟩
  | .hbm, ⟨10, _⟩ => ⟨S256, .f32⟩
  | .hbm, ⟨11, _⟩ => ⟨S66x256, .f32⟩
  | .hbm, ⟨12, _⟩ => ⟨S768, .f32⟩
  | .hbm, ⟨13, _⟩ => ⟨S768, .f32⟩
  | .hbm, ⟨14, _⟩ => ⟨S768x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S8192x1x3, .f32⟩
  | .hbm, ⟨21, _⟩ => ⟨S8192x3, .f32⟩
  | .hbm, ⟨22, _⟩ => ⟨S3x8192, .f32⟩
  | .hbm, ⟨23, _⟩ => ⟨S3x16x512, .f32⟩
  | .hbm, ⟨24, _⟩ => ⟨S16x3x512, .f32⟩
  | .hbm, ⟨25, _⟩ => ⟨S8192x1, .i32⟩
  | .hbm, ⟨26, _⟩ => ⟨S1x16x512, .i32⟩
  | .hbm, ⟨27, _⟩ => ⟨S16x1x512, .i32⟩
  | .hbm, ⟨28, _⟩ => ⟨S8192x16, .i32⟩
  | .hbm, ⟨29, _⟩ => ⟨S8192x16, .i32⟩
  | .hbm, ⟨30, _⟩ => ⟨S_, .i32⟩
  | .hbm, ⟨31, _⟩ => ⟨S8192x16, .i32⟩
  | .hbm, ⟨32, _⟩ => ⟨S8192x16, .i1⟩
  | .hbm, ⟨33, _⟩ => ⟨S8192x16, .i1⟩
  | .hbm, ⟨34, _⟩ => ⟨S8192x12, .f32⟩
  | .hbm, ⟨35, _⟩ => ⟨S8192x9, .f32⟩
  | .hbm, ⟨36, _⟩ => ⟨S8192, .f32⟩
  | .hbm, ⟨37, _⟩ => ⟨S8192x1, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x9, .f32⟩
  | .hbm, ⟨42, _⟩ => ⟨S8192x32, .f32⟩
  | .hbm, ⟨43, _⟩ => ⟨S16x512x32, .f32⟩
  | .hbm, ⟨44, _⟩ => ⟨S131072x1, .i32⟩
  | .hbm, ⟨45, _⟩ => ⟨S_, .f32⟩
  | .hbm, ⟨46, _⟩ => ⟨S62x256, .f32⟩
  | .hbm, ⟨47, _⟩ => ⟨S128x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x768, .f32⟩
  | .hbm, ⟨53, _⟩ => ⟨S1x768, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S131072x256, .f32⟩
  | .hbm, ⟨58, _⟩ => ⟨S8192x16x256, .f32⟩
  | .local _ .vmem, ⟨0, _⟩ => ⟨S128x3, .f32⟩
  | .local _ .vmem, ⟨1, _⟩ => ⟨S128x3, .f32⟩
  | .local _ .vmem, ⟨2, _⟩ => ⟨S16x3x512, .f32⟩
  | .local _ .vmem, ⟨3, _⟩ => ⟨S128x1, .i32⟩
  | .local _ .vmem, ⟨4, _⟩ => ⟨S128x1, .i32⟩
  | .local _ .vmem, ⟨5, _⟩ => ⟨S16x1x512, .i32⟩
  | .local _ .vmem, ⟨6, _⟩ => ⟨S128x16, .i32⟩
  | .local _ .vmem, ⟨7, _⟩ => ⟨S128x16, .i32⟩
  | .local _ .vmem, ⟨8, _⟩ => ⟨S128x16, .i32⟩
  | .local _ .vmem, ⟨9, _⟩ => ⟨S128x16, .i32⟩
  | .local _ .vmem, ⟨10, _⟩ => ⟨S16x512x32, .f32⟩
  | .local _ .vmem, ⟨11, _⟩ => ⟨S1024x1, .i32⟩
  | .local _ .vmem, ⟨12, _⟩ => ⟨S1024x1, .i32⟩
  | .local _ .vmem, ⟨13, _⟩ => ⟨S1x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S9x256, .f32⟩
  | .local _ .vmem, ⟨18, _⟩ => ⟨S1x256, .f32⟩
  | .local _ .vmem, ⟨19, _⟩ => ⟨S128x256, .f32⟩
  | .local _ .vmem, ⟨20, _⟩ => ⟨S1x768, .f32⟩
  | .local _ .vmem, ⟨21, _⟩ => ⟨S1x768, .f32⟩
  | .local _ .vmem, ⟨22, _⟩ => ⟨S768x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S1024x256, .f32⟩
  | .local _ .vmem, ⟨29, _⟩ => ⟨S1024x256, .f32⟩
  | .local _ .smem, ⟨0, _⟩ => ⟨S64, .i32⟩
  | .local _ .smem, ⟨1, _⟩ => ⟨S64, .i32⟩
  | .local _ .smem, ⟨2, _⟩ => ⟨S16, .i32⟩
  | .local _ .smem, ⟨3, _⟩ => ⟨S16, .i32⟩
  | .local _ .smem, ⟨4, _⟩ => ⟨S128, .i32⟩
  | .local _ .smem, ⟨5, _⟩ => ⟨S128, .i32⟩
  | _, _ => ⟨S8192x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v14_0 : Ref sig .tc := ⟨.hbm, 28, rfl⟩
abbrev main_v14_1 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v8 : Ref sig .tc := ⟨.smem, 0, rfl⟩
abbrev main_v9 : Ref sig .tc := ⟨.smem, 1, rfl⟩
abbrev main_v10 : Ref sig .tc := ⟨.smem, 2, rfl⟩
abbrev main_v11 : Ref sig .tc := ⟨.smem, 3, rfl⟩
abbrev main_v12 : Ref sig .tc := ⟨.smem, 4, rfl⟩
abbrev main_v13 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg16_0 : Ref sig .tc := ⟨.vmem, 27, rfl⟩
abbrev cc1_stg17_0 : Ref sig .tc := ⟨.vmem, 28, rfl⟩
abbrev cc1_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem16_0 : DmaSem sig := 27
abbrev cc1_sem17_0 : DmaSem sig := 28
abbrev cc1_sem17_1 : DmaSem sig := 29

abbrev nD : Nat := 1
abbrev τ : Topo := Topo.v7x

variable {F : FTy → Type} [FloatOps F]

abbrev grid0 : Pipeline.Grid := ⟨1, ![64], ![false]⟩

abbrev pre0 : Pipeline.Prefetch sig := ⟨4, ![main_v8.idx, main_v9.idx, main_v10.idx, main_v11.idx], fun | 0 => main_v8.names | 1 => main_v9.names | 2 => main_v10.names | 3 => main_v11.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_3 : BitVec 32 := 0#32
  let c16_i32 : BitVec 32 := 16#32
  let v15 : BitVec 32 := Scalar.addi c0_i32_3 c16_i32
  let c1_i32 : BitVec 32 := 1#32
  ⟨c0_i32_3, v15, c1_i32⟩
def k0_off2 (k0_t1 : Fin k0_t1_loop.trips) : Fin 1 → Nat :=
  let c0_i32_3 : BitVec 32 := 0#32
  let c1_i32 : BitVec 32 := 1#32
  let arg11 : BitVec 32 := Scf.iv c0_i32_3 c1_i32 k0_t1
  let v27 : Index := Scalar.indexCast arg11
  ![v27.toNat]
def k0_off3 (k0_t1 : Fin k0_t1_loop.trips) : Fin 3 → Nat :=
  let c0_i32_3 : BitVec 32 := 0#32
  let c1_i32 : BitVec 32 := 1#32
  let arg11 : BitVec 32 := Scf.iv c0_i32_3 c1_i32 k0_t1
  let v37 : Index := Scalar.indexCast arg11
  let c0_11 : Index := 0#32
  let c0_12 : Index := 0#32
  ![v37.toNat, 0, 0]
def k0_off4 (k0_t1 : Fin k0_t1_loop.trips) : Fin 3 → Nat :=
  let c0_i32_3 : BitVec 32 := 0#32
  let c1_i32 : BitVec 32 := 1#32
  let arg11 : BitVec 32 := Scf.iv c0_i32_3 c1_i32 k0_t1
  let v40 : Index := Scalar.indexCast arg11
  let c1 : Index := 1#32
  let c0_13 : Index := 0#32
  ![v40.toNat, 1, 0]
def k0_off5 (k0_t1 : Fin k0_t1_loop.trips) : Fin 3 → Nat :=
  let c0_i32_3 : BitVec 32 := 0#32
  let c1_i32 : BitVec 32 := 1#32
  let arg11 : BitVec 32 := Scf.iv c0_i32_3 c1_i32 k0_t1
  let v43 : Index := Scalar.indexCast arg11
  let c2 : Index := 2#32
  let c0_14 : Index := 0#32
  ![v43.toNat, 2, 0]
def k0_off6 (k0_t1 : Fin k0_t1_loop.trips) : Fin 3 → Nat :=
  let c0_i32_3 : BitVec 32 := 0#32
  let c1_i32 : BitVec 32 := 1#32
  let arg11 : BitVec 32 := Scf.iv c0_i32_3 c1_i32 k0_t1
  let v46 : Index := Scalar.indexCast arg11
  let c0_15 : Index := 0#32
  let c0_16 : Index := 0#32
  ![v46.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

abbrev pre1 : Pipeline.Prefetch sig := ⟨4, ![main_v12.idx, main_v13.idx, main_v10.idx, main_v11.idx], fun | 0 => main_v12.names | 1 => main_v13.names | 2 => main_v10.names | 3 => main_v11.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
@[reducible] def k1_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k1_off2 (k1_t1 : Fin k1_t1_loop.trips) : Fin 1 → Nat :=
  let c0_i32 : BitVec 32 := 0#32
  let c1_i32 : BitVec 32 := 1#32
  let arg23 : BitVec 32 := Scf.iv c0_i32 c1_i32 k1_t1
  let v707 : Index := Scalar.indexCast arg23
  ![v707.toNat]
def k1_off3 (k1_t1 : Fin k1_t1_loop.trips) : Fin 3 → Nat :=
  let c0_i32 : BitVec 32 := 0#32
  let c1_i32 : BitVec 32 := 1#32
  let arg23 : BitVec 32 := Scf.iv c0_i32 c1_i32 k1_t1
  let v724 : Index := Scalar.indexCast arg23
  let c0_121 : Index := 0#32
  let c0_122 : Index := 0#32
  ![v724.toNat, 0, 0]
def k1_off4 (i : grid1.Coords) : Fin 3 → Nat :=
  let arg0 : BitVec 32 := BitVec.ofNat 32 (i 0).val
  let c0_i32_2 : BitVec 32 := 0#32
  let v11 : BitVec 1 := Scalar.cmpi .sgt arg0 c0_i32_2
  let v12 : BitVec 32 := Scalar.extui v11
  let c0_i32_3 : BitVec 32 := 0#32
  let v13 : BitVec 1 := Scalar.cmpi .slt arg0 c0_i32_3
  let v14 : BitVec 32 := Scalar.extui v13
  let v15 : BitVec 32 := Scalar.subi v12 v14
  let c8_i32 : BitVec 32 := 8#32
  let c0_i32_4 : BitVec 32 := 0#32
  let v16 : BitVec 1 := Scalar.cmpi .sgt c8_i32 c0_i32_4
  let v17 : BitVec 32 := Scalar.extui v16
  let c0_i32_5 : BitVec 32 := 0#32
  let v18 : BitVec 1 := Scalar.cmpi .slt c8_i32 c0_i32_5
  let v19 : BitVec 32 := Scalar.extui v18
  let v20 : BitVec 32 := Scalar.subi v17 v19
  let v21 : BitVec 1 := Scalar.cmpi .ne v15 v20
  let v22 : BitVec 32 := Scalar.remsi arg0 c8_i32
  let c0_i32_6 : BitVec 32 := 0#32
  let v23 : BitVec 1 := Scalar.cmpi .ne v22 c0_i32_6
  let v24 : BitVec 1 := Scalar.andi v21 v23
  let v10 : BitVec 32 := Scalar.divsi arg0 c8_i32
  let c1_i32_7 : BitVec 32 := 1#32
  let v25 : BitVec 32 := Scalar.subi v10 c1_i32_7
  let v26 : BitVec 32 := Scalar.select v24 v25 v10
  let v38 : Index := Scalar.indexCast v26
  let c8_i32_8 : BitVec 32 := 8#32
  let c0_i32_9 : BitVec 32 := 0#32
  let v27 : BitVec 1 := Scalar.cmpi .eq c8_i32_8 c0_i32_9
  let c1_i32_10 : BitVec 32 := 1#32
  let v28 : BitVec 32 := Scalar.select v27 c1_i32_10 c8_i32_8
  let v29 : BitVec 32 := Scalar.remsi arg0 v28
  let c0_i32_12 : BitVec 32 := 0#32
  let v31 : BitVec 1 := Scalar.cmpi .slt v29 c0_i32_12
  let c0_i32_13 : BitVec 32 := 0#32
  let v32 : BitVec 1 := Scalar.cmpi .slt v28 c0_i32_13
  let v33 : BitVec 1 := Scalar.xori v31 v32
  let c0_i32_11 : BitVec 32 := 0#32
  let v30 : BitVec 1 := Scalar.cmpi .ne v29 c0_i32_11
  let v34 : BitVec 1 := Scalar.andi v33 v30
  let v35 : BitVec 32 := Scalar.addi v29 v28
  let v36 : BitVec 32 := Scalar.select v34 v35 v29
  let c64_i32 : BitVec 32 := 64#32
  let v37 : BitVec 32 := Scalar.muli v36 c64_i32
  let v39 : Index := Scalar.indexCast v37
  let c0_14 : Index := 0#32
  ![v38.toNat, v39.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x512x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S9x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S768x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1024x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== KernelIdeal.lean ====
variable {F : FTy → Type} [FloatOps F] [Named F]
def κ : String → Option EReal := fun
  | "inv_spread_sq" => some ((16 / 25 : ℝ) : EReal)
  | "rbf_step" => some ((4 / 3 : ℝ) : EReal)
  | _ => none
-- ==== ReferenceIdeal.lean ====
abbrev S8192x4x3 : Shape := ⟨3, ![8192, 4, 3]⟩
abbrev S8192x3x3 : Shape := ⟨3, ![8192, 3, 3]⟩
abbrev S8192 : Shape := ⟨1, ![8192]⟩
abbrev S256 : Shape := ⟨1, ![256]⟩
abbrev S256x256 : Shape := ⟨2, ![256, 256]⟩
abbrev S9x256 : Shape := ⟨2, ![9, 256]⟩
abbrev S66x256 : Shape := ⟨2, ![66, 256]⟩
abbrev S768 : Shape := ⟨1, ![768]⟩
abbrev S768x256 : Shape := ⟨2, ![768, 256]⟩
abbrev S8192x1x3 : Shape := ⟨3, ![8192, 1, 3]⟩
abbrev S8192x3 : Shape := ⟨2, ![8192, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S1x8192 : Shape := ⟨2, ![1, 8192]⟩
abbrev S8192x1 : Shape := ⟨2, ![8192, 1]⟩
abbrev S8192x16 : Shape := ⟨2, ![8192, 16]⟩
abbrev S8192x16x1 : Shape := ⟨3, ![8192, 16, 1]⟩
abbrev S8192x16x4x3 : Shape := ⟨4, ![8192, 16, 4, 3]⟩
abbrev S8192x1x4x1x3 : Shape := ⟨5, ![8192, 1, 4, 1, 3]⟩
abbrev S8192x16x1x4x3 : Shape := ⟨5, ![8192, 16, 1, 4, 3]⟩
abbrev S8192x16x4x4x3 : Shape := ⟨5, ![8192, 16, 4, 4, 3]⟩
abbrev S8192x16x4x4 : Shape := ⟨4, ![8192, 16, 4, 4]⟩
abbrev S16 : Shape := ⟨1, ![16]⟩
abbrev S8192x16x4x4x1 : Shape := ⟨5, ![8192, 16, 4, 4, 1]⟩
abbrev S1x1x1x1x16 : Shape := ⟨5, ![1, 1, 1, 1, 16]⟩
abbrev S8192x16x4x4x16 : Shape := ⟨5, ![8192, 16, 4, 4, 16]⟩
abbrev S8192x16x256 : Shape := ⟨3, ![8192, 16, 256]⟩
abbrev S1x1x256 : Shape := ⟨3, ![1, 1, 256]⟩
abbrev S8192x16x3x3 : Shape := ⟨4, ![8192, 16, 3, 3]⟩
abbrev S8192x1x3x3 : Shape := ⟨4, ![8192, 1, 3, 3]⟩
abbrev S8192x3x16x3 : Shape := ⟨4, ![8192, 3, 16, 3]⟩
abbrev S8192x16x9 : Shape := ⟨3, ![8192, 16, 9]⟩
abbrev S8192x16x768 : Shape := ⟨3, ![8192, 16, 768]⟩
abbrev S1x1x768 : Shape := ⟨3, ![1, 1, 768]⟩

abbrev nBuf : Space → Nat
  | .hbm => 260
  | .vmem => 0
  | .smem => 0
  | _ => 0

abbrev hbmTy0_0 (i : Nat) : BufTy := match i % 128 with
  | 0 => ⟨S8192x4x3, .f32⟩
  | 1 => ⟨S8192x3x3, .f32⟩
  | 2 => ⟨S8192, .i32⟩
  | 3 => ⟨S8192, .i32⟩
  | 4 => ⟨S8192, .i32⟩
  | 5 => ⟨S256, .f32⟩
  | 6 => ⟨S256, .f32⟩
  | 7 => ⟨S256x256, .f32⟩
  | 8 => ⟨S256, .f32⟩
  | 9 => ⟨S9x256, .f32⟩
  | 10 => ⟨S256, .f32⟩
  | 11 => ⟨S66x256, .f32⟩
  | 12 => ⟨S768, .f32⟩
  | 13 => ⟨S768, .f32⟩
  | 14 => ⟨S768x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S8192x1x3, .f32⟩
  | 21 => ⟨S8192x3, .f32⟩
  | 22 => ⟨S1x8192x3, .f32⟩
  | 23 => ⟨S8192x1x3, .f32⟩
  | 24 => ⟨S8192x8192x3, .f32⟩
  | 25 => ⟨S8192x8192x3, .f32⟩
  | 26 => ⟨S8192x8192x3, .f32⟩
  | 27 => ⟨S8192x8192x3, .f32⟩
  | 28 => ⟨S_, .f32⟩
  | 29 => ⟨S8192x8192, .f32⟩
  | 30 => ⟨S8192x8192, .f32⟩
  | 31 => ⟨S1x8192, .i32⟩
  | 32 => ⟨S8192x1, .i32⟩
  | 33 => ⟨S8192x8192, .i32⟩
  | 34 => ⟨S8192x8192, .i32⟩
  | 35 => ⟨S8192x8192, .i1⟩
  | 36 => ⟨S_, .f32⟩
  | 37 => ⟨S_, .f32⟩
  | 38 => ⟨S8192x8192, .f32⟩
  | 39 => ⟨S8192x8192, .f32⟩
  | 40 => ⟨S8192x8192, .f32⟩
  | 41 => ⟨S8192x16, .f32⟩
  | 42 => ⟨S8192x16, .i32⟩
  | 43 => ⟨S_, .i32⟩
  | 44 => ⟨S8192x16, .i32⟩
  | 45 => ⟨S8192x16, .i1⟩
  | 46 => ⟨S_, .i32⟩
  | 47 => ⟨S8192x16, .i32⟩
  | 48 => ⟨S8192x16, .i32⟩
  | 49 => ⟨S8192x16, .i32⟩
  | 50 => ⟨S8192x16x1, .i32⟩
  | 51 => ⟨S8192x16, .i32⟩
  | 52 => ⟨S8192x1, .i32⟩
  | 53 => ⟨S8192x16, .i32⟩
  | 54 => ⟨S8192x16, .i1⟩
  | 55 => ⟨S8192, .i32⟩
  | 56 => ⟨S8192x1, .i32⟩
  | 57 => ⟨S8192x16, .i32⟩
  | 58 => ⟨S8192x16, .i32⟩
  | 59 => ⟨S_, .i32⟩
  | 60 => ⟨S8192x16, .i32⟩
  | 61 => ⟨S8192x16, .i1⟩
  | 62 => ⟨S_, .i32⟩
  | 63 => ⟨S8192x16, .i32⟩
  | 64 => ⟨S8192x16, .i32⟩
  | 65 => ⟨S8192x16, .i32⟩
  | 66 => ⟨S8192x16x1, .i32⟩
  | 67 => ⟨S8192x16x4x3, .f32⟩
  | 68 => ⟨S8192x1x4x1x3, .f32⟩
  | 69 => ⟨S8192x16x1x4x3, .f32⟩
  | 70 => ⟨S8192x16x4x4x3, .f32⟩
  | 71 => ⟨S8192x16x4x4x3, .f32⟩
  | 72 => ⟨S8192x16x4x4x3, .f32⟩
  | 73 => ⟨S8192x16x4x4x3, .f32⟩
  | 74 => ⟨S_, .f32⟩
  | 75 => ⟨S8192x16x4x4, .f32⟩
  | 76 => ⟨S8192x16x4x4, .f32⟩
  | 77 => ⟨S16, .i32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S8192x16x4x4x1, .f32⟩
  | 89 => ⟨S1x1x1x1x16, .f32⟩
  | 90 => ⟨S8192x16x4x4x16, .f32⟩
  | 91 => ⟨S8192x16x4x4x16, .f32⟩
  | 92 => ⟨S8192x16x4x4x16, .f32⟩
  | 93 => ⟨S8192x16x4x4x16, .f32⟩
  | 94 => ⟨S8192x16x4x4x16, .f32⟩
  | 95 => ⟨S_, .f32⟩
  | 96 => ⟨S8192x16x4x4x16, .f32⟩
  | 97 => ⟨S8192x16x4x4x16, .f32⟩
  | 98 => ⟨S8192x16x4x4x16, .f32⟩
  | 99 => ⟨S8192x16x256, .f32⟩
  | 100 => ⟨S_, .f32⟩
  | 101 => ⟨S8192x16, .f32⟩
  | 102 => ⟨S8192x16x1, .f32⟩
  | 103 => ⟨S_, .f32⟩
  | 104 => ⟨S8192x16x1, .f32⟩
  | 105 => ⟨S8192x16x1, .f32⟩
  | 106 => ⟨S8192x16x256, .f32⟩
  | 107 => ⟨S8192x16x256, .f32⟩
  | 108 => ⟨S8192x16x256, .f32⟩
  | 109 => ⟨S_, .f32⟩
  | 110 => ⟨S8192x16, .f32⟩
  | 111 => ⟨S8192x16x1, .f32⟩
  | 112 => ⟨S_, .f32⟩
  | 113 => ⟨S8192x16x1, .f32⟩
  | 114 => ⟨S8192x16x1, .f32⟩
  | 115 => ⟨S8192x16x256, .f32⟩
  | 116 => ⟨S8192x16x256, .f32⟩
  | 117 => ⟨S_, .f32⟩
  | 118 => ⟨S8192x16x1, .f32⟩
  | 119 => ⟨S8192x16x1, .f32⟩
  | 120 => ⟨S8192x16x1, .f32⟩
  | 121 => ⟨S8192x16x256, .f32⟩
  | 122 => ⟨S8192x16x256, .f32⟩
  | 123 => ⟨S1x1x256, .f32⟩
  | 124 => ⟨S8192x16x256, .f32⟩
  | 125 => ⟨S8192x16x256, .f32⟩
  | 126 => ⟨S1x1x256, .f32⟩
  | 127 => ⟨S8192x16x256, .f32⟩
  | _ => ⟨S8192x4x3, .f32⟩

abbrev hbmTy0_1 (i : Nat) : BufTy := match i % 128 with
  | 0 => ⟨S8192x16x256, .f32⟩
  | 1 => ⟨S8192x16x256, .f32⟩
  | 2 => ⟨S1x1x256, .f32⟩
  | 3 => ⟨S8192x16x256, .f32⟩
  | 4 => ⟨S8192x16x256, .f32⟩
  | 5 => ⟨S_, .i32⟩
  | 6 => ⟨S8192x16, .i32⟩
  | 7 => ⟨S8192x16, .i1⟩
  | 8 => ⟨S_, .i32⟩
  | 9 => ⟨S8192x16, .i32⟩
  | 10 => ⟨S8192x16, .i32⟩
  | 11 => ⟨S8192x16, .i32⟩
  | 12 => ⟨S8192x16x1, .i32⟩
  | 13 => ⟨S8192x16x3x3, .f32⟩
  | 14 => ⟨S8192x1x3x3, .f32⟩
  | 15 => ⟨S8192x1x3x3, .f32⟩
  | 16 => ⟨S8192x3x3, .f32⟩
  | 17 => ⟨S8192x3x16x3, .f32⟩
  | 18 => ⟨S8192x16x3x3, .f32⟩
  | 19 => ⟨S8192x16x9, .f32⟩
  | 20 => ⟨S8192x16x256, .f32⟩
  | 21 => ⟨S1x1x256, .f32⟩
  | 22 => ⟨S8192x16x256, .f32⟩
  | 23 => ⟨S8192x16x256, .f32⟩
  | 24 => ⟨S_, .i32⟩
  | 25 => ⟨S8192x16, .i32⟩
  | 26 => ⟨S8192x16, .i1⟩
  | 27 => ⟨S_, .i32⟩
  | 28 => ⟨S8192x16, .i32⟩
  | 29 => ⟨S8192x16, .i32⟩
  | 30 => ⟨S8192x16, .i32⟩
  | 31 => ⟨S8192x16x1, .i32⟩
  | 32 => ⟨S8192x16, .i32⟩
  | 33 => ⟨S_, .i32⟩
  | 34 => ⟨S8192x16, .i32⟩
  | 35 => ⟨S8192x16, .i1⟩
  | 36 => ⟨S_, .i32⟩
  | 37 => ⟨S8192x16, .i32⟩
  | 38 => ⟨S8192x16, .i32⟩
  | 39 => ⟨S8192x16, .i32⟩
  | 40 => ⟨S8192x16x1, .i32⟩
  | 41 => ⟨S8192x16, .i32⟩
  | 42 => ⟨S8192x1, .i32⟩
  | 43 => ⟨S8192x16, .i32⟩
  | 44 => ⟨S8192x16, .i32⟩
  | 45 => ⟨S_, .i32⟩
  | 46 => ⟨S_, .i32⟩
  | 47 => ⟨S_, .i32⟩
  | 48 => ⟨S8192x16, .i32⟩
  | 49 => ⟨S8192x16, .i32⟩
  | 50 => ⟨S_, .i32⟩
  | 51 => ⟨S8192x16, .i32⟩
  | 52 => ⟨S8192x16, .i32⟩
  | 53 => ⟨S8192x1, .i32⟩
  | 54 => ⟨S8192x16, .i32⟩
  | 55 => ⟨S8192x16, .i1⟩
  | 56 => ⟨S_, .i32⟩
  | 57 => ⟨S_, .i32⟩
  | 58 => ⟨S8192x16, .i32⟩
  | 59 => ⟨S8192x16, .i32⟩
  | 60 => ⟨S_, .i32⟩
  | 61 => ⟨S8192x16, .i32⟩
  | 62 => ⟨S8192x16, .i32⟩
  | 63 => ⟨S_, .i32⟩
  | 64 => ⟨S8192x16, .i32⟩
  | 65 => ⟨S8192x16, .i1⟩
  | 66 => ⟨S_, .i32⟩
  | 67 => ⟨S8192x16, .i32⟩
  | 68 => ⟨S8192x16, .i32⟩
  | 69 => ⟨S8192x16, .i32⟩
  | 70 => ⟨S8192x16x1, .i32⟩
  | 71 => ⟨S8192x16x256, .f32⟩
  | 72 => ⟨S8192x16x768, .f32⟩
  | 73 => ⟨S_, .f32⟩
  | 74 => ⟨S8192x16, .f32⟩
  | 75 => ⟨S8192x16x1, .f32⟩
  | 76 => ⟨S_, .f32⟩
  | 77 => ⟨S8192x16x1, .f32⟩
  | 78 => ⟨S8192x16x1, .f32⟩
  | 79 => ⟨S8192x16x768, .f32⟩
  | 80 => ⟨S8192x16x768, .f32⟩
  | 81 => ⟨S8192x16x768, .f32⟩
  | 82 => ⟨S_, .f32⟩
  | 83 => ⟨S8192x16, .f32⟩
  | 84 => ⟨S8192x16x1, .f32⟩
  | 85 => ⟨S_, .f32⟩
  | 86 => ⟨S8192x16x1, .f32⟩
  | 87 => ⟨S8192x16x1, .f32⟩
  | 88 => ⟨S8192x16x768, .f32⟩
  | 89 => ⟨S8192x16x768, .f32⟩
  | 90 => ⟨S_, .f32⟩
  | 91 => ⟨S8192x16x1, .f32⟩
  | 92 => ⟨S8192x16x1, .f32⟩
  | 93 => ⟨S8192x16x1, .f32⟩
  | 94 => ⟨S8192x16x768, .f32⟩
  | 95 => ⟨S8192x16x768, .f32⟩
  | 96 => ⟨S1x1x768, .f32⟩
  | 97 => ⟨S8192x16x768, .f32⟩
  | 98 => ⟨S8192x16x768, .f32⟩
  | 99 => ⟨S1x1x768, .f32⟩
  | 100 => ⟨S8192x16x768, .f32⟩
  | 101 => ⟨S8192x16x768, .f32⟩
  | 102 => ⟨S8192x16x256, .f32⟩
  | 103 => ⟨S1x1x256, .f32⟩
  | 104 => ⟨S8192x16x256, .f32⟩
  | 105 => ⟨S8192x16x256, .f32⟩
  | 106 => ⟨S8192x16x256, .f32⟩
  | 107 => ⟨S8192x16x256, .f32⟩
  | 108 => ⟨S_, .f32⟩
  | 109 => ⟨S8192x16x256, .f32⟩
  | 110 => ⟨S8192x16x256, .f32⟩
  | 111 => ⟨S_, .f32⟩
  | 112 => ⟨S8192x16x256, .f32⟩
  | 113 => ⟨S8192x16x256, .f32⟩
  | 114 => ⟨S8192x16x256, .f32⟩
  | 115 => ⟨S8192x16x256, .f32⟩
  | 116 => ⟨S1x1x256, .f32⟩
  | 117 => ⟨S8192x16x256, .f32⟩
  | 118 => ⟨S8192x16x256, .f32⟩
  | 119 => ⟨S8192x16x256, .f32⟩
  | 120 => ⟨S8192x16x256, .f32⟩
  | 121 => ⟨S_, .f32⟩
  | 122 => ⟨S8192x16x256, .f32⟩
  | 123 => ⟨S8192x16x256, .f32⟩
  | 124 => ⟨S_, .f32⟩
  | 125 => ⟨S8192x16x256, .f32⟩
  | 126 => ⟨S8192x16x256, .f32⟩
  | 127 => ⟨S8192x16x256, .f32⟩
  | _ => ⟨S8192x4x3, .f32⟩

abbrev hbmTy0_2 (i : Nat) : BufTy := match i % 128 with
  | 0 => ⟨S8192x16x256, .f32⟩
  | 1 => ⟨S1x1x256, .f32⟩
  | 2 => ⟨S8192x16x256, .f32⟩
  | 3 => ⟨S8192x16x256, .f32⟩
  | _ => ⟨S8192x4x3, .f32⟩

abbrev hbmTy (i : Nat) : BufTy := match i / 128 with
  | 0 => hbmTy0_0 i
  | 1 => hbmTy0_1 i
  | 2 => hbmTy0_2 i
  | _ => ⟨S8192x4x3, .f32⟩

abbrev bufTy : (tb : Table) → Fin (tcTables nBuf tb) → BufTy
  | .hbm, ⟨i, _⟩ => hbmTy i
  | _, _ => ⟨S8192x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_v16 : Ref sig .tc := ⟨.hbm, 40, rfl⟩
abbrev main_values : Ref sig .tc := ⟨.hbm, 41, rfl⟩
abbrev main_indices : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call1_v0 : Ref sig .tc := ⟨.hbm, 57, rfl⟩
abbrev main_v29 : Ref sig .tc := ⟨.hbm, 58, rfl⟩
abbrev main_c_2 : Ref sig .tc := ⟨.hbm, 59, rfl⟩
abbrev main_v30 : Ref sig .tc := ⟨.hbm, 60, rfl⟩
abbrev main_v31 : Ref sig .tc := ⟨.hbm, 61, rfl⟩
abbrev main_c_3 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_4 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_5 : Ref sig .tc := ⟨.hbm, 79, rfl⟩
abbrev main_v47 : Ref sig .tc := ⟨.hbm, 80, rfl⟩
abbrev main_v48 : Ref sig .tc := ⟨.hbm, 81, rfl⟩
abbrev main_cst_6 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_9 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_11 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_14 : Ref sig .tc := ⟨.hbm, 133, rfl⟩
abbrev main_v92 : Ref sig .tc := ⟨.hbm, 134, rfl⟩
abbrev main_v93 : Ref sig .tc := ⟨.hbm, 135, rfl⟩
abbrev main_c_15 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_16 : Ref sig .tc := ⟨.hbm, 152, rfl⟩
abbrev main_v109 : Ref sig .tc := ⟨.hbm, 153, rfl⟩
abbrev main_v110 : Ref sig .tc := ⟨.hbm, 154, rfl⟩
abbrev main_c_17 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_18 : Ref sig .tc := ⟨.hbm, 161, rfl⟩
abbrev main_v116 : Ref sig .tc := ⟨.hbm, 162, rfl⟩
abbrev main_v117 : Ref sig .tc := ⟨.hbm, 163, rfl⟩
abbrev main_c_19 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_20 : Ref sig .tc := ⟨.hbm, 173, rfl⟩
abbrev main_c_21 : Ref sig .tc := ⟨.hbm, 174, rfl⟩
abbrev main_call2_v0 : Ref sig .tc := ⟨.hbm, 175, rfl⟩
abbrev main_call2_v1 : Ref sig .tc := ⟨.hbm, 176, rfl⟩
abbrev main_call2_v2 : Ref sig .tc := ⟨.hbm, 177, rfl⟩
abbrev main_call2_v3 : Ref sig .tc := ⟨.hbm, 178, rfl⟩
abbrev main_call2_v4 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_c_22 : Ref sig .tc := ⟨.hbm, 184, rfl⟩
abbrev main_call3_v0 : Ref sig .tc := ⟨.hbm, 185, rfl⟩
abbrev main_call3_v1 : Ref sig .tc := ⟨.hbm, 186, rfl⟩
abbrev main_v130 : Ref sig .tc := ⟨.hbm, 187, rfl⟩
abbrev main_c_23 : Ref sig .tc := ⟨.hbm, 188, rfl⟩
abbrev main_v131 : Ref sig .tc := ⟨.hbm, 189, rfl⟩
abbrev main_v132 : Ref sig .tc := ⟨.hbm, 190, rfl⟩
abbrev main_c_24 : Ref sig .tc := ⟨.hbm, 191, rfl⟩
abbrev main_v133 : Ref sig .tc := ⟨.hbm, 192, rfl⟩
abbrev main_v134 : Ref sig .tc := ⟨.hbm, 193, rfl⟩
abbrev main_c_25 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_26 : Ref sig .tc := ⟨.hbm, 201, rfl⟩
abbrev main_v141 : Ref sig .tc := ⟨.hbm, 202, rfl⟩
abbrev main_v142 : Ref sig .tc := ⟨.hbm, 203, rfl⟩
abbrev main_cst_27 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_28 : Ref sig .tc := ⟨.hbm, 210, rfl⟩
abbrev main_v148 : Ref sig .tc := ⟨.hbm, 211, rfl⟩
abbrev main_v149 : Ref sig .tc := ⟨.hbm, 212, rfl⟩
abbrev main_cst_29 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_cst_30 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_call4_v0 : Ref sig .tc := ⟨.hbm, 234, rfl⟩
abbrev main_call4_v1 : Ref sig .tc := ⟨.hbm, 235, rfl⟩
abbrev main_call4_cst : Ref sig .tc := ⟨.hbm, 236, rfl⟩
abbrev main_call4_v2 : Ref sig .tc := ⟨.hbm, 237, rfl⟩
abbrev main_call4_v3 : Ref sig .tc := ⟨.hbm, 238, rfl⟩
abbrev main_call4_cst_0 : Ref sig .tc := ⟨.hbm, 239, rfl⟩
abbrev main_call4_v4 : Ref sig .tc := ⟨.hbm, 240, rfl⟩
abbrev main_call4_v5 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_call5_v0 : Ref sig .tc := ⟨.hbm, 247, rfl⟩
abbrev main_call5_v1 : Ref sig .tc := ⟨.hbm, 248, rfl⟩
abbrev main_call5_cst : Ref sig .tc := ⟨.hbm, 249, rfl⟩
abbrev main_call5_v2 : Ref sig .tc := ⟨.hbm, 250, rfl⟩
abbrev main_call5_v3 : Ref sig .tc := ⟨.hbm, 251, rfl⟩
abbrev main_call5_cst_0 : Ref sig .tc := ⟨.hbm, 252, rfl⟩
abbrev main_call5_v4 : Ref sig .tc := ⟨.hbm, 253, rfl⟩
abbrev main_call5_v5 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩

abbrev nD : Nat := 1
abbrev τ : Topo := Topo.v7x

variable {F : FTy → Type} [FloatOps F]
-- ==== Proof.KnnOps.lean ====
/-
  The neighbour search on one block of 128 rows, as the kernel computes it on whole vectors.

  For each tile of 512 candidate points the kernel takes sixteen times over the least distance of every row and the
  first column holding it, the column then being put out of the way (`nth`); the sixteen found are set beside the
  sixteen carried along, and sixteen are taken again out of the thirty-two (`merge`).  `tileStep` is one trip of the
  kernel's loop over the tiles, `tiles` the loop.
-/
module

public import proofs.«01_k».proof.Proof.Gen.KernelIdeal.Skeleton
public import proofs.«01_k».proof.Proof.Gen.KernelIdeal.Launch

@[expose] public section

set_option maxRecDepth 65536

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Taking the least of every row -/

section Extract

variable {n : Nat}
  (hr : (⟨2, ![128, n]⟩ : Shape).Reduces [1] S128) (hb : S128x1.Broadcasts (⟨2, ![128, n]⟩ : Shape))
  (io : IVec (⟨2, ![128, n]⟩ : Shape) 32)

/-- The least entry of every row. -/
def low (v : FVec F (⟨2, ![128, n]⟩ : Shape) .f32) : FVec F S128x1 .f32 :=
  shapeCast S128x1 (multiReduction .minimumf [1] S128 v 0x7F800000#32 hr (.inl rfl) rfl) shapeCasts_S128_S128x1

/-- The first column holding the least entry. -/
def pos (v : FVec F (⟨2, ![128, n]⟩ : Shape) .f32) : IVec S128x1 32 :=
  shapeCast S128x1 (multiReductionI .minsi [1] S128
    (select (cmpf .oeq v (broadcastTo (⟨2, ![128, n]⟩ : Shape) (low hr v) hb)) io (broadcast (⟨2, ![128, n]⟩ : Shape) 1073741824#32))
    2147483647#32 hr rfl) shapeCasts_S128_S128x1

/-- The places of that column. -/
def at1 (v : FVec F (⟨2, ![128, n]⟩ : Shape) .f32) : IVec (⟨2, ![128, n]⟩ : Shape) 1 :=
  cmpi .eq io (broadcastTo (⟨2, ![128, n]⟩ : Shape) (pos hr hb io v) hb)

/-- The matrix with that column put out of the way. -/
def upd (v : FVec F (⟨2, ![128, n]⟩ : Shape) .f32) : FVec F (⟨2, ![128, n]⟩ : Shape) .f32 :=
  select (at1 hr hb io v) (broadcast (⟨2, ![128, n]⟩ : Shape) (Scalar.ofBits .f32 0x7F800000#32)) v

/-- The matrix after `k` columns of every row are out of the way. -/
def nth (v : FVec F (⟨2, ![128, n]⟩ : Shape) .f32) : Nat → FVec F (⟨2, ![128, n]⟩ : Shape) .f32
  | 0 => v
  | k + 1 => upd hr hb io (nth v k)

/-- The entry of `ix` at the first column holding the least entry of `v`. -/
def pick (ix : IVec (⟨2, ![128, n]⟩ : Shape) 32) (v : FVec F (⟨2, ![128, n]⟩ : Shape) .f32) : IVec S128x1 32 :=
  shapeCast S128x1 (multiReductionI .minsi [1] S128
    (select (at1 hr hb io v) ix (broadcast (⟨2, ![128, n]⟩ : Shape) 1073741824#32)) 2147483647#32 hr rfl) shapeCasts_S128_S128x1

end Extract

/-- Sixteen columns side by side. -/
def side {α : Type} (f : Nat → S128x1.Idx → α) : S128x16.Idx → α :=
  concatenate S128x16 1 [⟨S128x1, f 0⟩, ⟨S128x1, f 1⟩, ⟨S128x1, f 2⟩, ⟨S128x1, f 3⟩, ⟨S128x1, f 4⟩, ⟨S128x1, f 5⟩, ⟨S128x1, f 6⟩, ⟨S128x1, f 7⟩, ⟨S128x1, f 8⟩, ⟨S128x1, f 9⟩, ⟨S128x1, f 10⟩, ⟨S128x1, f 11⟩, ⟨S128x1, f 12⟩, ⟨S128x1, f 13⟩, ⟨S128x1, f 14⟩, ⟨S128x1, f 15⟩] concatenates_S128x1_S128x1_S128x1_S128x1_S128x1_S128x1_S128x1_S128x1_S128x1_S128x1_S128x1_S128x1_S128x1_S128x1_S128x1_S128x1_S128x16_d1

/-! ## One tile -/

/-- The column numbers of a tile, and of the thirty-two. -/
abbrev columns512 : IVec S128x512 32 := iota .tc S128x512 32 [1] iota_S128x512_d1_w32
abbrev columns32 : IVec S128x32 32 := iota .tc S128x32 32 [1] iota_S128x32_d1_w32

/-- The sixteen least entries of a tile, and their columns. -/
def tile1 (d : FVec F S128x512 .f32) : FVec F S128x16 .f32 :=
  side fun j => low reduces_S128x512_S128 (nth reduces_S128x512_S128 broadcasts_S128x1_S128x512 columns512 d j)
def tile2 (d : FVec F S128x512 .f32) : IVec S128x16 32 :=
  side fun j => pos reduces_S128x512_S128 broadcasts_S128x1_S128x512 columns512 (nth reduces_S128x512_S128 broadcasts_S128x1_S128x512 columns512 d j)

/-- The thirty-two: the sixteen carried along, then the tile's. -/
def both1 (a : FVec F S128x16 .f32) (d : FVec F S128x512 .f32) : FVec F S128x32 .f32 :=
  concatenate S128x32 1 [⟨S128x16, a⟩, ⟨S128x16, tile1 d⟩] concatenates_S128x16_S128x16_S128x32_d1
def both2 (a : IVec S128x16 32) (k : BitVec 32) (d : FVec F S128x512 .f32) : IVec S128x32 32 :=
  concatenate S128x32 1 [⟨S128x16, a⟩, ⟨S128x16, addi (tile2 d) (broadcast S128x16 (Scalar.muli k 512#32))⟩] concatenates_S128x16_S128x16_S128x32_d1

/-- The sixteen least of thirty-two, and what stands beside them. -/
def merge1 (v : FVec F S128x32 .f32) : FVec F S128x16 .f32 :=
  side fun j => low reduces_S128x32_S128 (nth reduces_S128x32_S128 broadcasts_S128x1_S128x32 columns32 v j)
def merge2 (v : FVec F S128x32 .f32) (ix : IVec S128x32 32) (j : Nat) : IVec S128x1 32 :=
  pick reduces_S128x32_S128 broadcasts_S128x1_S128x32 columns32 ix (nth reduces_S128x32_S128 broadcasts_S128x1_S128x32 columns32 v j)

/-- The distances of the block's rows from a tile's points, points of another sample put out of the way. -/
def dist (x y z : FVec F S128x1 .f32) (s : IVec S128x1 32) (tx ty tz : Vec F S1x1x512 .f32) (ts : Vec F S1x1x512 .i32) : FVec F S128x512 .f32 :=
  have dx : FVec F S128x512 .f32 := subf (broadcastTo S128x512 (shapeCast S1x512 tx shapeCasts_S1x1x512_S1x512 : FVec F S1x512 .f32) broadcasts_S1x512_S128x512) (broadcastTo S128x512 x broadcasts_S128x1_S128x512)
  have dy : FVec F S128x512 .f32 := subf (broadcastTo S128x512 (shapeCast S1x512 ty shapeCasts_S1x1x512_S1x512 : FVec F S1x512 .f32) broadcasts_S1x512_S128x512) (broadcastTo S128x512 y broadcasts_S128x1_S128x512)
  have dz : FVec F S128x512 .f32 := subf (broadcastTo S128x512 (shapeCast S1x512 tz shapeCasts_S1x1x512_S1x512 : FVec F S1x512 .f32) broadcasts_S1x512_S128x512) (broadcastTo S128x512 z broadcasts_S128x1_S128x512)
  select (cmpi .ne (broadcastTo S128x512 (shapeCast S1x512 ts shapeCasts_S1x1x512_S1x512 : IVec S1x512 32) broadcasts_S1x512_S128x512) (broadcastTo S128x512 s broadcasts_S128x1_S128x512))
    (broadcast S128x512 (Scalar.ofBits .f32 0x7F800000#32)) (sqrt (addf (addf (mulf dx dx) (mulf dy dy)) (mulf dz dz)))

/-- The tile's part of the kernel: four loads and a function of what is loaded. -/
theorem part11_eq (i : grid0.Coords) (arg1 : Memref sig .tc .smem S64 .i32) (harg1 : arg1.IsWhole) (arg2 : Memref sig .tc .smem S64 .i32) (harg2 : arg2.IsWhole) (arg3 : Memref sig .tc .smem S16 .i32) (harg3 : arg3.IsWhole) (arg4 : Memref sig .tc .smem S16 .i32) (harg4 : arg4.IsWhole) (arg5 : Memref sig .tc .vmem S128x3 .f32) (harg5 : arg5.IsWhole) (arg6 : Memref sig .tc .vmem S16x3x512 .f32) (harg6 : arg6.IsWhole) (arg7 : Memref sig .tc .vmem S128x1 .i32) (harg7 : arg7.IsWhole) (arg8 : Memref sig .tc .vmem S16x1x512 .i32) (harg8 : arg8.IsWhole) (arg9 : Memref sig .tc .vmem S128x16 .i32) (harg9 : arg9.IsWhole) (arg10 : Memref sig .tc .vmem S128x16 .i32) (harg10 : arg10.IsWhole) (v6 : FVec F S128x1 .f32) (v7 : FVec F S128x1 .f32) (v8 : FVec F S128x1 .f32) (v10 : IVec S128x1 32) (k0_t1 : Fin k0_t1_loop.trips) (arg12 : FVec F S128x16 .f32) (arg13 : IVec S128x16 32) (arg11 : BitVec 32) :
    k0_part11 (F := F) i arg1 harg1 arg2 harg2 arg3 harg3 arg4 harg4 arg5 harg5 arg6 harg6 arg7 harg7 arg8 harg8 arg9 harg9 arg10 harg10 v6 v7 v8 v10 columns512 columns32 k0_t1 arg12 arg13 arg11 = (do
      let tx : Vec F S1x1x512 .f32 ← Prog.lift (.load arg6 (Rect.unit (s := S16x3x512) (k0_off3 k0_t1) S1x1x512.size (k0_off3_inb k0_t1)).toLoadRect (View.loadsAt_vmem h_S1x1x512))
      let ty : Vec F S1x1x512 .f32 ← Prog.lift (.load arg6 (Rect.unit (s := S16x3x512) (k0_off4 k0_t1) S1x1x512.size (k0_off4_inb k0_t1)).toLoadRect (View.loadsAt_vmem h_S1x1x512))
      let tz : Vec F S1x1x512 .f32 ← Prog.lift (.load arg6 (Rect.unit (s := S16x3x512) (k0_off5 k0_t1) S1x1x512.size (k0_off5_inb k0_t1)).toLoadRect (View.loadsAt_vmem h_S1x1x512))
      let ts : Vec F S1x1x512 .i32 ← Prog.lift (.load arg8 (Rect.unit (s := S16x1x512) (k0_off6 k0_t1) S1x1x512.size (k0_off6_inb k0_t1)).toLoadRect (View.loadsAt_vmem h_S1x1x512))
      have v := both1 arg12 (dist v6 v7 v8 v10 tx ty tz ts)
      have ix := both2 arg13 arg11 (dist v6 v7 v8 v10 tx ty tz ts)
      pure ⟨merge2 v ix 0, merge2 v ix 1, merge2 v ix 2, merge2 v ix 3, merge2 v ix 4, merge2 v ix 5, merge2 v ix 6, merge2 v ix 7, merge2 v ix 8, merge2 v ix 9, merge2 v ix 10, merge2 v ix 11, merge2 v ix 12, merge2 v ix 13, merge2 v ix 14, merge2 v ix 15, merge1 v⟩) := by
  chain_rfl

/-- Whether the tile's samples, `lo` to `hi`, meet the block's, `v1` to `v3`. -/
def live (v1 v3 lo hi : BitVec 32) : BitVec 1 :=
  Scalar.cmpi .ne (Scalar.extui (Scalar.andi (Scalar.cmpi .sle lo v3) (Scalar.cmpi .sge hi v1)) : BitVec 32) 0#32

/-- A tile merged into what is carried along. -/
def tileStep (r : Vec F S128x3 .f32) (s : Vec F S128x1 .i32) (k : BitVec 32) (tx ty tz : Vec F S1x1x512 .f32) (ts : Vec F S1x1x512 .i32)
    (acc : FVec F S128x16 .f32 × IVec S128x16 32) : FVec F S128x16 .f32 × IVec S128x16 32 :=
  have d := dist (k0_pay2 r) (k0_pay3 r) (k0_pay4 r) (k0_pay5 s) tx ty tz ts
  (merge1 (both1 acc.1 d), side (merge2 (both1 acc.1 d) (both2 acc.2 k d)))

end Cert.Proof.KernelIdeal
-- ==== Proof.KnnRun.lean ====
/-
  The neighbour search's body: its loop over the tiles by an invariant, and the whole body on the buffers it is handed.
-/
module

public import proofs.«01_k».proof.Proof.KnnOps
public import proofs.«01_k».proof.Proof.Gen.KernelIdeal.Loops

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the resources: the pipeline library's. -/
abbrev UU (nD : Nat) (τ : Topo) : Type := UR sig nD τ
abbrev 𝒱₀ : Variants := Variants.none

local notation "𝕄" => MT nD τ sig Unit (Elt F) ℕ (UU nD τ) ℕ

/-- A memref's buffer, held whole at contents `f`. -/
abbrev pt (c : Dev nD) {p : Space} {s : Shape} {e : EltTy} (M : Memref sig .tc p s e)
    (f : Buf (Elt F) (M.view.loc (c : Thread nD τ))) : sProp 𝕄 :=
  M.view.loc (c : Thread nD τ) ↦{fullShare} f
abbrev Bf (c : Dev nD) {p : Space} {s : Shape} {e : EltTy} (M : Memref sig .tc p s e) := Buf (Elt F) (M.view.loc (c : Thread nD τ))

/-- The word a table holds at an offset. -/
def word (c : Dev nD) {N : Nat} (M : Memref sig .tc .smem ⟨1, ![N]⟩ .i32) (off : Fin 1 → Nat)
    (h : ∀ a, off a + S1.size a ≤ (⟨1, ![N]⟩ : Shape).size a) (f : Bf (F := F) c M) : Elt F .i32 :=
  M.view.readAt (Elt F) (Rect.unit (s := ⟨1, ![N]⟩) off S1.size h).toLoadRect f (Shape.Idx.first (numel1_S1.symm ▸ Nat.one_pos))

section Knn

variable (c : Dev nD) (i : grid0.Coords) (arg1 : Memref sig .tc .smem S64 .i32) (harg1 : arg1.IsWhole) (arg2 : Memref sig .tc .smem S64 .i32) (harg2 : arg2.IsWhole) (arg3 : Memref sig .tc .smem S16 .i32) (harg3 : arg3.IsWhole) (arg4 : Memref sig .tc .smem S16 .i32) (harg4 : arg4.IsWhole) (arg5 : Memref sig .tc .vmem S128x3 .f32) (harg5 : arg5.IsWhole) (arg6 : Memref sig .tc .vmem S16x3x512 .f32) (harg6 : arg6.IsWhole) (arg7 : Memref sig .tc .vmem S128x1 .i32) (harg7 : arg7.IsWhole) (arg8 : Memref sig .tc .vmem S16x1x512 .i32) (harg8 : arg8.IsWhole) (arg9 : Memref sig .tc .vmem S128x16 .i32) (harg9 : arg9.IsWhole) (arg10 : Memref sig .tc .vmem S128x16 .i32) (harg10 : arg10.IsWhole)

/-- A trip of the loop: the tile's two table words, and under the comparison of samples the tile's step. -/
theorem trip_eq (v1 v3 : Elt F .i32) (v4 : Vec F S128x3 .f32) (v9 : Vec F S128x1 .i32) (k : Fin k0_t1_loop.trips) (acc : FVec F S128x16 .f32 × IVec S128x16 32) :
    k0_t1_body (F := F) i arg1 harg1 arg2 harg2 arg3 harg3 arg4 harg4 arg5 harg5 arg6 harg6 arg7 harg7 arg8 harg8 arg9 harg9 arg10 harg10 v1 v3 v4 v9 columns512 columns32 k acc = (do
      let lo : Elt F .i32 ← smemLoad arg3 (Rect.unit (s := S16) (k0_off2 k) S1.size (k0_off2_inb k)) numel1_S1 rfl
      let hi : Elt F .i32 ← smemLoad arg4 (Rect.unit (s := S16) (k0_off2 k) S1.size (k0_off2_inb k)) numel1_S1 rfl
      let r : FVec F S128x16 .f32 × IVec S128x16 32 ← if live v1 v3 lo hi = 1#1 then do
          let tx : Vec F S1x1x512 .f32 ← Prog.lift (.load arg6 (Rect.unit (s := S16x3x512) (k0_off3 k) S1x1x512.size (k0_off3_inb k)).toLoadRect (View.loadsAt_vmem h_S1x1x512))
          let ty : Vec F S1x1x512 .f32 ← Prog.lift (.load arg6 (Rect.unit (s := S16x3x512) (k0_off4 k) S1x1x512.size (k0_off4_inb k)).toLoadRect (View.loadsAt_vmem h_S1x1x512))
          let tz : Vec F S1x1x512 .f32 ← Prog.lift (.load arg6 (Rect.unit (s := S16x3x512) (k0_off5 k) S1x1x512.size (k0_off5_inb k)).toLoadRect (View.loadsAt_vmem h_S1x1x512))
          let ts : Vec F S1x1x512 .i32 ← Prog.lift (.load arg8 (Rect.unit (s := S16x1x512) (k0_off6 k) S1x1x512.size (k0_off6_inb k)).toLoadRect (View.loadsAt_vmem h_S1x1x512))
          pure (tileStep v4 v9 (Scf.iv 0#32 1#32 k) tx ty tz ts acc)
        else do
          pure acc
      pure r) := by
  obtain ⟨a, b⟩ := acc
  unfold k0_t1_body
  simp only [part11_eq]
  chain_rfl

/-- The carried pair after trip `k`: the tile merged in if its samples meet the block's. -/
def afterTrip (f3 : Bf (F := F) c arg3) (f4 : Bf (F := F) c arg4) (f6 : Bf (F := F) c arg6) (f8 : Bf (F := F) c arg8)
    (v1 v3 : Elt F .i32) (v4 : Vec F S128x3 .f32) (v9 : Vec F S128x1 .i32) (k : Fin k0_t1_loop.trips) (acc : FVec F S128x16 .f32 × IVec S128x16 32) :
    FVec F S128x16 .f32 × IVec S128x16 32 :=
  if live v1 v3 (word c arg3 (k0_off2 k) (k0_off2_inb k) f3) (word c arg4 (k0_off2 k) (k0_off2_inb k) f4) = 1#1 then
    tileStep v4 v9 (Scf.iv 0#32 1#32 k)
      (arg6.view.readAt (Elt F) (Rect.unit (s := S16x3x512) (k0_off3 k) S1x1x512.size (k0_off3_inb k)).toLoadRect f6)
      (arg6.view.readAt (Elt F) (Rect.unit (s := S16x3x512) (k0_off4 k) S1x1x512.size (k0_off4_inb k)).toLoadRect f6)
      (arg6.view.readAt (Elt F) (Rect.unit (s := S16x3x512) (k0_off5 k) S1x1x512.size (k0_off5_inb k)).toLoadRect f6)
      (arg8.view.readAt (Elt F) (Rect.unit (s := S16x1x512) (k0_off6 k) S1x1x512.size (k0_off6_inb k)).toLoadRect f8) acc
  else acc

/-- The carried pair before trip `k`. -/
def trips (f3 : Bf (F := F) c arg3) (f4 : Bf (F := F) c arg4) (f6 : Bf (F := F) c arg6) (f8 : Bf (F := F) c arg8)
    (v1 v3 : Elt F .i32) (v4 : Vec F S128x3 .f32) (v9 : Vec F S128x1 .i32) (init : FVec F S128x16 .f32 × IVec S128x16 32) :
    Nat → FVec F S128x16 .f32 × IVec S128x16 32
  | 0 => init
  | k + 1 => if h : k < k0_t1_loop.trips then afterTrip c arg3 arg4 arg6 arg8 f3 f4 f6 f8 v1 v3 v4 v9 ⟨k, h⟩ (trips f3 f4 f6 f8 v1 v3 v4 v9 init k)
      else trips f3 f4 f6 f8 v1 v3 v4 v9 init k

set_option backward.proofsInPublic true in
theorem knn_trip (f3 : Bf (F := F) c arg3) (f4 : Bf (F := F) c arg4) (f6 : Bf (F := F) c arg6) (f8 : Bf (F := F) c arg8)
    (v1 v3 : Elt F .i32) (v4 : Vec F S128x3 .f32) (v9 : Vec F S128x1 .i32) (k : Fin k0_t1_loop.trips) (acc : FVec F S128x16 .f32 × IVec S128x16 32) :
    iprop(pt c arg3 f3 ∗ pt c arg4 f4 ∗ pt c arg6 f6 ∗ pt c arg8 f8) ⊢ wp frame (wpE (defs₀ (F := F)) 𝒱₀ (c : Thread nD τ) none) Set.univ
      (k0_t1_body i arg1 harg1 arg2 harg2 arg3 harg3 arg4 harg4 arg5 harg5 arg6 harg6 arg7 harg7 arg8 harg8 arg9 harg9 arg10 harg10 v1 v3 v4 v9 columns512 columns32 k acc)
      (fun r => iprop(pt c arg3 f3 ∗ pt c arg4 f4 ∗ pt c arg6 f6 ∗ pt c arg8 f8 ∗ ⌜r = afterTrip c arg3 arg4 arg6 arg8 f3 f4 f6 f8 v1 v3 v4 v9 k acc⌝)) := by
  rw [trip_eq]
  iintro ⟨H3, H4, H6, H8⟩
  sl_exec
  split
  case isTrue h =>
    sl_exec
    sl_step
    isplitl [H3]; · iexact H3
    isplitl [H4]; · iexact H4
    isplitl [H6]; · iexact H6
    isplitl [H8]; · iexact H8
    ipureintro
    unfold afterTrip
    exact (if_pos h).symm
  case isFalse h =>
    sl_exec
    sl_step
    isplitl [H3]; · iexact H3
    isplitl [H4]; · iexact H4
    isplitl [H6]; · iexact H6
    isplitl [H8]; · iexact H8
    ipureintro
    unfold afterTrip
    exact (if_neg h).symm

set_option warn.classDefReducibility false in
/-- The invariant of the loop over the tiles: the buffers it reads, and the carried pair after the trips so far. -/
@[sl_loop] def knnLoop (f3 : Bf (F := F) c arg3) (f4 : Bf (F := F) c arg4) (f6 : Bf (F := F) c arg6) (f8 : Bf (F := F) c arg8)
    (v1 v3 : Elt F .i32) (v4 : Vec F S128x3 .f32) (v9 : Vec F S128x1 .i32) (init : FVec F S128x16 .f32 × IVec S128x16 32) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 v1 v3 v4 v9 columns512 columns32 init where
  inv k acc := iprop(pt c arg3 f3 ∗ pt c arg4 f4 ∗ pt c arg6 f6 ∗ pt c arg8 f8 ∗ ⌜acc = trips c arg3 arg4 arg6 arg8 f3 f4 f6 f8 v1 v3 v4 v9 init k⌝)
  step k acc := by
    have e : trips c arg3 arg4 arg6 arg8 f3 f4 f6 f8 v1 v3 v4 v9 init (k.val + 1)
        = afterTrip c arg3 arg4 arg6 arg8 f3 f4 f6 f8 v1 v3 v4 v9 k (trips c arg3 arg4 arg6 arg8 f3 f4 f6 f8 v1 v3 v4 v9 init k.val) := by
      rw [trips, dif_pos k.isLt]
    rw [e]
    iintro ⟨H3, H4, H6, H8, %h⟩
    rw [← h]
    iapply (knn_trip c i arg1 harg1 arg2 harg2 arg3 harg3 arg4 harg4 arg5 harg5 arg6 harg6 arg7 harg7 arg8 harg8 arg9 harg9 arg10 harg10 f3 f4 f6 f8 v1 v3 v4 v9 k acc)
    isplitl [H3]; · iexact H3
    isplitl [H4]; · iexact H4
    isplitl [H6]; · iexact H6
    iexact H8

/-- What the whole loop leaves, as a function of the buffers. -/
def knnAcc (f1 : Bf (F := F) c arg1) (f2 : Bf (F := F) c arg2) (f3 : Bf (F := F) c arg3) (f4 : Bf (F := F) c arg4)
    (f5 : Bf (F := F) c arg5) (f6 : Bf (F := F) c arg6) (f7 : Bf (F := F) c arg7) (f8 : Bf (F := F) c arg8) : FVec F S128x16 .f32 × IVec S128x16 32 :=
  trips c arg3 arg4 arg6 arg8 f3 f4 f6 f8 (word c arg1 (k0_off1 i) (k0_off1_inb i) f1) (word c arg2 (k0_off1 i) (k0_off1_inb i) f2)
    (arg5.view.readAt (Elt F) (Rect.unit (s := S128x3) ![0, 0] S128x3.size inb_S128x3_S128x3_0_0).toLoadRect f5)
    (arg7.view.readAt (Elt F) (Rect.unit (s := S128x1) ![0, 0] S128x1.size inb_S128x1_S128x1_0_0).toLoadRect f7)
    (k0_pay6 (F := F), k0_pay7) k0_t1_loop.trips

abbrev whole16 : Rect S128x16 := Rect.unit (s := S128x16) ![0, 0] S128x16.size inb_S128x16_S128x16_0_0

set_option backward.proofsInPublic true in
/-- The body: the inputs as they were, the neighbours and the mask written whole. -/
theorem knn_run (f1 : Bf (F := F) c arg1) (f2 : Bf (F := F) c arg2) (f3 : Bf (F := F) c arg3) (f4 : Bf (F := F) c arg4)
    (f5 : Bf (F := F) c arg5) (f6 : Bf (F := F) c arg6) (f7 : Bf (F := F) c arg7) (f8 : Bf (F := F) c arg8)
    (f9 : Bf (F := F) c arg9) (f10 : Bf (F := F) c arg10) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
      ∗ pt c arg9 f9 ∗ pt c arg10 f10
      ∗ (iprop(pt c arg1 f1 ∗ pt c arg2 f2 ∗ pt c arg3 f3 ∗ pt c arg4 f4 ∗ pt c arg5 f5 ∗ pt c arg6 f6 ∗ pt c arg7 f7 ∗ pt c arg8 f8
        ∗ pt c arg9 (arg9.view.writes (Elt F) f9 [⟨whole16, k0_pay10 i (knnAcc c i arg1 arg2 arg3 arg4 arg5 arg6 arg7 arg8 f1 f2 f3 f4 f5 f6 f7 f8).1 (knnAcc c i arg1 arg2 arg3 arg4 arg5 arg6 arg7 arg8 f1 f2 f3 f4 f5 f6 f7 f8).2⟩])
        ∗ pt c arg10 (arg10.view.writes (Elt F) f10 [⟨whole16, k0_pay11 (F := F) (knnAcc c i arg1 arg2 arg3 arg4 arg5 arg6 arg7 arg8 f1 f2 f3 f4 f5 f6 f7 f8).1⟩])) -∗ Q ⟨⟩))
    ⊢ wp frame (wpE (defs₀ (F := F)) 𝒱₀ (c : Thread nD τ) none) Set.univ (cc0__knn_kernel i arg1 harg1 arg2 harg2 arg3 harg3 arg4 harg4 arg5 harg5 arg6 harg6 arg7 harg7 arg8 harg8 arg9 harg9 arg10 harg10) Q := by
  iintro ⟨H1, H2, H3, H4, H5, H6, H7, H8, H9, H10, Hk⟩
  sl_unfold [cc0__knn_kernel]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Knn

end Cert.Proof.KernelIdeal
-- ==== Proof.EdgeOps.lean ====
/-
  The features of one block's 1024 edges, as the kernel computes them on whole vectors: from the rows' own features and
  their neighbours' (32 columns each: four atoms, a frame, the position and the chain), the radial features of the
  sixteen pairs of atoms, the nine direction products, the relative position, and the network over them.
-/
module

public import proofs.«01_k».proof.Proof.KnnRun

@[expose] public section

set_option maxRecDepth 65536

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Column `k` of the features is a block of them. -/
theorem col_slices (k : Fin 32) : S1024x32.Slices ![0, k.val] S1024x1 := by
  refine ⟨rfl, fun a => ?_⟩
  have := k.isLt
  fin_cases a
  · exact Nat.le_refl 1024
  · show k.val + 1 ≤ 32
    omega

/-- Column `k` of the features. -/
def col (v : FVec F S1024x32 .f32) (k : Fin 32) : FVec F S1024x1 .f32 := extractStridedSlice S1024x1 ![0, k.val] v (col_slices k)

/-- The distance between atom `a` of the row and atom `b` of its neighbour. -/
def atomDist (ce nb : FVec F S1024x32 .f32) (a b : Fin 4) : FVec F S1024x1 .f32 :=
  have dx := subf (col ce ⟨3 * a.val, by omega⟩) (col nb ⟨3 * b.val, by omega⟩)
  have dy := subf (col ce ⟨3 * a.val + 1, by omega⟩) (col nb ⟨3 * b.val + 1, by omega⟩)
  have dz := subf (col ce ⟨3 * a.val + 2, by omega⟩) (col nb ⟨3 * b.val + 2, by omega⟩)
  sqrt (addf (addf (mulf dx dx) (mulf dy dy)) (mulf dz dz))

/-- The factor in the exponent. -/
def spread : F .f32 := Named.named κ "inv_spread_sq" 0x3F23D70A#32

/-- A distance's sixteen radial features. -/
def radial (d : FVec F S1024x1 .f32) : FVec F S1024x16 .f32 :=
  have t := subf (broadcastTo S1024x16 d broadcasts_S1024x1_S1024x16) k1_pay4
  exp (mulf (subf (broadcast S1024x16 (Scalar.ofBits .f32 0x00000000#32)) (mulf t t)) (broadcast S1024x16 spread))

/-- The sixteen pairs of atoms' features side by side. -/
def sixteen {α : Type} (f : Fin 4 → Fin 4 → S1024x16.Idx → α) : S1024x256.Idx → α :=
  concatenate S1024x256 1 [⟨S1024x16, f 0 0⟩, ⟨S1024x16, f 0 1⟩, ⟨S1024x16, f 0 2⟩, ⟨S1024x16, f 0 3⟩, ⟨S1024x16, f 1 0⟩, ⟨S1024x16, f 1 1⟩, ⟨S1024x16, f 1 2⟩, ⟨S1024x16, f 1 3⟩, ⟨S1024x16, f 2 0⟩, ⟨S1024x16, f 2 1⟩, ⟨S1024x16, f 2 2⟩, ⟨S1024x16, f 2 3⟩, ⟨S1024x16, f 3 0⟩, ⟨S1024x16, f 3 1⟩, ⟨S1024x16, f 3 2⟩, ⟨S1024x16, f 3 3⟩] concatenates_S1024x16_S1024x16_S1024x16_S1024x16_S1024x16_S1024x16_S1024x16_S1024x16_S1024x16_S1024x16_S1024x16_S1024x16_S1024x16_S1024x16_S1024x16_S1024x16_S1024x256_d1

def radials (ce nb : FVec F S1024x32 .f32) : FVec F S1024x256 .f32 := sixteen fun a b => radial (atomDist ce nb a b)

/-- Layer normalisation of rows of `n` numbers; `cn` is `n` as a float. -/
def norm {n : Nat} (cn : F .f32) (hr : (⟨2, ![1024, n]⟩ : Shape).Reduces [1] S1024) (hb : S1024x1.Broadcasts (⟨2, ![1024, n]⟩ : Shape))
    (hg : (⟨2, ![1, n]⟩ : Shape).Broadcasts (⟨2, ![1024, n]⟩ : Shape)) (hs : (⟨2, ![1, n]⟩ : Shape).ShapeCasts (⟨2, ![1, n]⟩ : Shape))
    (v : FVec F (⟨2, ![1024, n]⟩ : Shape) .f32) (g b : FVec F (⟨2, ![1, n]⟩ : Shape) .f32) : FVec F (⟨2, ![1024, n]⟩ : Shape) .f32 :=
  have mean := divf (shapeCast S1024x1 (multiReduction .add [1] S1024 v 0x00000000#32 hr (.inl rfl) rfl) shapeCasts_S1024_S1024x1 : FVec F S1024x1 .f32) (broadcast S1024x1 cn)
  have t := subf v (broadcastTo (⟨2, ![1024, n]⟩ : Shape) mean hb)
  have var := divf (shapeCast S1024x1 (multiReduction .add [1] S1024 (mulf t t) 0x00000000#32 hr (.inl rfl) rfl) shapeCasts_S1024_S1024x1 : FVec F S1024x1 .f32) (broadcast S1024x1 cn)
  addf (mulf (divf t (broadcastTo (⟨2, ![1024, n]⟩ : Shape) (sqrt (addf var (broadcast S1024x1 (Scalar.ofBits .f32 0x3727C5AC#32)))) hb))
    (broadcastTo (⟨2, ![1024, n]⟩ : Shape) (shapeCast (⟨2, ![1, n]⟩ : Shape) g hs) hg)) (broadcastTo (⟨2, ![1024, n]⟩ : Shape) (shapeCast (⟨2, ![1, n]⟩ : Shape) b hs) hg)

def norm256 (v : FVec F S1024x256 .f32) (g b : Vec F S1x256 .f32) : FVec F S1024x256 .f32 :=
  norm (n := 256) (Scalar.ofBits .f32 0x43800000#32) reduces_S1024x256_S1024 broadcasts_S1024x1_S1024x256 broadcasts_S1x256_S1024x256 shapeCasts_S1x256_S1x256 v g b
def norm768 (v : FVec F S1024x768 .f32) (g b : Vec F S1x768 .f32) : FVec F S1024x768 .f32 :=
  norm (n := 768) (Scalar.ofBits .f32 0x44400000#32) reduces_S1024x768_S1024 broadcasts_S1024x1_S1024x768 broadcasts_S1x768_S1024x768 shapeCasts_S1x768_S1x768 v g b

/-- One row over all the edges. -/
def bias (b : Vec F S1x256 .f32) : FVec F S1024x256 .f32 :=
  broadcastTo S1024x256 (shapeCast S1x256 b shapeCasts_S1x256_S1x256 : FVec F S1x256 .f32) broadcasts_S1x256_S1024x256

def dense256 (v : FVec F S1024x256 .f32) (w : Vec F S256x256 .f32) (b : Vec F S1x256 .f32) : FVec F S1024x256 .f32 :=
  addf (matmul dot_S1024x256_S256x256_S1024x256_1_0_0_1_n_n none v w (constant S1024x256 .f32 0x00000000#32)) (bias b)
def dense768 (v : FVec F S1024x768 .f32) (w : Vec F S768x256 .f32) (b : Vec F S1x256 .f32) : FVec F S1024x256 .f32 :=
  addf (matmul dot_S1024x768_S768x256_S1024x256_1_0_0_1_n_n none v w (constant S1024x256 .f32 0x00000000#32)) (bias b)

/-- `v / (1 + exp (0 - v))`. -/
def act (v : FVec F S1024x256 .f32) : FVec F S1024x256 .f32 :=
  divf v (addf (broadcast S1024x256 (Scalar.ofBits .f32 0x3F800000#32)) (exp (subf (broadcast S1024x256 (Scalar.ofBits .f32 0x00000000#32)) v)))

/-- The product of frame vector `a` of the row with `b` of its neighbour, times a row of weights. -/
def dirTerm (ce nb : FVec F S1024x32 .f32) (a b : Fin 3) (w : Vec F S1x256 .f32) : FVec F S1024x256 .f32 :=
  have dot := addf (addf (mulf (col ce ⟨12 + a.val, by omega⟩) (col nb ⟨12 + b.val, by omega⟩)) (mulf (col ce ⟨15 + a.val, by omega⟩) (col nb ⟨15 + b.val, by omega⟩)))
    (mulf (col ce ⟨18 + a.val, by omega⟩) (col nb ⟨18 + b.val, by omega⟩))
  mulf (broadcastTo S1024x256 dot broadcasts_S1024x1_S1024x256) (broadcastTo S1024x256 (w : FVec F S1x256 .f32) broadcasts_S1x256_S1024x256)

/-- The relative position's place in the table of embeddings, as a row of zeros and a one, times the table. -/
def place (ce nb : FVec F S1024x32 .f32) : IVec S1024x1 32 :=
  have r := minimumf (broadcast S1024x1 (Scalar.ofBits .f32 0x42000000#32)) (maximumf (broadcast S1024x1 (Scalar.ofBits .f32 0xC2000000#32)) (subf (col nb 21) (col ce 21)))
  have other := cmpf .one (roundeven (col nb 22)) (roundeven (col ce 22))
  fptosi 32 (roundeven (addf (select other (broadcast S1024x1 (Scalar.ofBits .f32 0x42040000#32)) r) (broadcast S1024x1 (Scalar.ofBits .f32 0x42000000#32))))
def relative (ce nb : FVec F S1024x32 .f32) (se : Vec F S128x256 .f32) : FVec F S1024x256 .f32 :=
  matmul dot_S1024x128_S128x256_S1024x256_1_0_0_1_n_n (some .fp32)
    (sitofp .f32 (extui 32 (cmpi .eq (broadcastTo S1024x128 (place ce nb) broadcasts_S1024x1_S1024x128) (iota .tc S1024x128 32 [1] iota_S1024x128_d1_w32)) natLt_1_32) : FVec F S1024x128 .f32)
    (shapeCast S128x256 se shapeCasts_S128x256_S128x256 : FVec F S128x256 .f32) (constant S1024x256 .f32 0x00000000#32)

/-- The nine direction products' share. -/
def directions (ce nb : FVec F S1024x32 .f32) (d0 d1 d2 d3 d4 d5 d6 d7 d8 db : Vec F S1x256 .f32) : FVec F S1024x256 .f32 :=
  addf (addf (addf (addf (addf (addf (addf (addf (addf (dirTerm ce nb 0 0 d0) (dirTerm ce nb 0 1 d1)) (dirTerm ce nb 0 2 d2)) (dirTerm ce nb 1 0 d3)) (dirTerm ce nb 1 1 d4)) (dirTerm ce nb 1 2 d5)) (dirTerm ce nb 2 0 d6)) (dirTerm ce nb 2 1 d7)) (dirTerm ce nb 2 2 d8)) (bias db)

/-- The three shares side by side. -/
def three (x y z : FVec F S1024x256 .f32) : FVec F S1024x768 .f32 :=
  concatenate S1024x768 1 [⟨S1024x256, x⟩, ⟨S1024x256, y⟩, ⟨S1024x256, z⟩] concatenates_S1024x256_S1024x256_S1024x256_S1024x768_d1

/-- The block's output from the row features `ce`, the neighbours' `nb`, and the weights. -/
def edge (ce nb : FVec F S1024x32 .f32) (g1 : Vec F S1x256 .f32) (b1 : Vec F S1x256 .f32) (w1 : Vec F S256x256 .f32) (c1 : Vec F S1x256 .f32) (d0 : Vec F S1x256 .f32) (d1 : Vec F S1x256 .f32) (d2 : Vec F S1x256 .f32) (d3 : Vec F S1x256 .f32) (d4 : Vec F S1x256 .f32) (d5 : Vec F S1x256 .f32) (d6 : Vec F S1x256 .f32) (d7 : Vec F S1x256 .f32) (d8 : Vec F S1x256 .f32) (db : Vec F S1x256 .f32) (se : Vec F S128x256 .f32) (g2 : Vec F S1x768 .f32) (b2 : Vec F S1x768 .f32) (w2 : Vec F S768x256 .f32) (c2 : Vec F S1x256 .f32) (w3 : Vec F S256x256 .f32) (c3 : Vec F S1x256 .f32) (w4 : Vec F S256x256 .f32) (c4 : Vec F S1x256 .f32) : FVec F S1024x256 .f32 :=
  dense256 (act (dense256 (act (dense768 (norm768 (three (dense256 (norm256 (radials ce nb) g1 b1) w1 c1)
    (directions ce nb d0 d1 d2 d3 d4 d5 d6 d7 d8 db) (relative ce nb se)) g2 b2) w2 c2)) w3 c3)) w4 c4

/-- The printed parts after the two gathers, from the gathered features. -/
def edgeParts (i : grid1.Coords) (arg1 : Memref sig .tc .smem S128 .i32) (harg1 : arg1.IsWhole) (arg2 : Memref sig .tc .smem S128 .i32) (harg2 : arg2.IsWhole) (arg3 : Memref sig .tc .smem S16 .i32) (harg3 : arg3.IsWhole) (arg4 : Memref sig .tc .smem S16 .i32) (harg4 : arg4.IsWhole) (arg5 : Memref sig .tc .vmem S16x512x32 .f32) (harg5 : arg5.IsWhole) (arg6 : Memref sig .tc .vmem S1024x1 .i32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S9x256 .f32) (harg11 : arg11.IsWhole) (arg12 : Memref sig .tc .vmem S1x256 .f32) (harg12 : arg12.IsWhole) (arg13 : Memref sig .tc .vmem S128x256 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S768x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1024x256 .f32) (harg22 : arg22.IsWhole) (v9 : FVec F S1024x32 .f32) (v40 : Vec F S1x64x32 .f32) : Prog (TpuEff nD τ sig (Elt F) Λ₀ .tc) PUnit := do
  have v72 := k1_pay3 v40
  have v78 := k1_pay4 (F := F)
  have v81 := k1_pay5 v9 v40
  have v84 := k1_pay6 v9 v40
  have v85 := k1_pay7 v40
  have v86 := k1_pay8 v9
  let ⟨v101, v124, v142⟩ : Σ' (v101 : FVec F S1024x16 .f32) (v124 : FVec F S1024x16 .f32), FVec F S1024x16 .f32 ← k1_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v78 v81 v84 v85 v86
  let ⟨v147, v170, v193, v196⟩ : Σ' (v147 : FVec F S1024x16 .f32) (v170 : FVec F S1024x16 .f32) (v193 : FVec F S1024x16 .f32), FVec F S1024x1 .f32 ← k1_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v78 v142
  let ⟨v216, v239, v251, v252⟩ : Σ' (v216 : FVec F S1024x16 .f32) (v239 : FVec F S1024x16 .f32) (v251 : FVec F S1024x1 .f32), FVec F S1024x1 .f32 ← k1_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v78 v196
  let ⟨v262, v285, v305, v306⟩ : Σ' (v262 : FVec F S1024x16 .f32) (v285 : FVec F S1024x16 .f32) (v305 : FVec F S1024x16 .f32), FVec F S1024x16 .f32 ← k1_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v78 v251 v252
  let ⟨v308, v331, v354, v357, v360, v361, v362⟩ : Σ' (v308 : FVec F S1024x16 .f32) (v331 : FVec F S1024x16 .f32) (v354 : FVec F S1024x16 .f32) (v357 : FVec F S1024x1 .f32) (v360 : FVec F S1024x1 .f32) (v361 : FVec F S1024x1 .f32), FVec F S1024x1 .f32 ← k1_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v78 v305 v306
  let ⟨v377, v400, v418⟩ : Σ' (v377 : FVec F S1024x16 .f32) (v400 : FVec F S1024x16 .f32), FVec F S1024x16 .f32 ← k1_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v78 v357 v360 v361 v362
  let ⟨v449, v451, v457, v465⟩ : Σ' (v449 : FVec F S1x256 .f32) (v451 : FVec F S1x256 .f32) (v457 : FVec F S1024x256 .f32), FVec F S1024x1 .f32 ← k1_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v78 v101 v124 v147 v170 v193 v216 v239 v262 v285 v308 v331 v354 v377 v400 v418
  let ⟨v477, v508, v515, v516⟩ : Σ' (v477 : FVec F S1024x256 .f32) (v508 : FVec F S1024x256 .f32) (v515 : FVec F S1024x1 .f32), FVec F S1024x1 .f32 ← k1_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v449 v451 v457 v465
  let ⟨v556, v567, v568⟩ : Σ' (v556 : FVec F S1024x256 .f32) (v567 : FVec F S1024x1 .f32), Vec F S1x256 .f32 ← k1_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v508 v515 v516
  let v620 : FVec F S1024x256 .f32 ← k1_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v556 v567 v568
  let ⟨v653, v655, v661, v664, v665⟩ : Σ' (v653 : FVec F S1x768 .f32) (v655 : FVec F S1x768 .f32) (v661 : FVec F S1024x768 .f32) (v664 : FVec F S1024x1 .f32), FVec F S1024x1 .f32 ← k1_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v72 v477 v620
  let v705 : FVec F S1024x256 .f32 ← k1_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v653 v655 v661 v664 v665
  let _ : Vec F S1024x256 .f32 ← Prog.lift (.load arg22 (Rect.unit (s := S1024x256) ![0, 0] S1024x256.size inb_S1024x256_S1024x256_0_0).toLoadRect (View.loadsAt_vmem h_S1024x256))
  Prog.lift (.store arg22 (Rect.unit (s := S1024x256) ![0, 0] S1024x256.size inb_S1024x256_S1024x256_0_0) (v705) Finset.univ (View.stores_vmem_bits_univ h_S1024x256 rfl) (.inl rfl))
  Pure.pure ⟨⟩

/-- The loads of the weights and the store. -/
def edgeTail (i : grid1.Coords) (arg1 : Memref sig .tc .smem S128 .i32) (harg1 : arg1.IsWhole) (arg2 : Memref sig .tc .smem S128 .i32) (harg2 : arg2.IsWhole) (arg3 : Memref sig .tc .smem S16 .i32) (harg3 : arg3.IsWhole) (arg4 : Memref sig .tc .smem S16 .i32) (harg4 : arg4.IsWhole) (arg5 : Memref sig .tc .vmem S16x512x32 .f32) (harg5 : arg5.IsWhole) (arg6 : Memref sig .tc .vmem S1024x1 .i32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S9x256 .f32) (harg11 : arg11.IsWhole) (arg12 : Memref sig .tc .vmem S1x256 .f32) (harg12 : arg12.IsWhole) (arg13 : Memref sig .tc .vmem S128x256 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S768x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1024x256 .f32) (harg22 : arg22.IsWhole) (nb : FVec F S1024x32 .f32) (own : Vec F S1x64x32 .f32) : Prog (TpuEff nD τ sig (Elt F) Λ₀ .tc) PUnit := do
  let g1 : Vec F S1x256 .f32 ← Prog.lift (.load arg7 (Rect.unit (s := S1x256) ![0, 0] S1x256.size inb_S1x256_S1x256_0_0).toLoadRect (View.loadsAt_vmem h_S1x256))
  let b1 : Vec F S1x256 .f32 ← Prog.lift (.load arg8 (Rect.unit (s := S1x256) ![0, 0] S1x256.size inb_S1x256_S1x256_0_0).toLoadRect (View.loadsAt_vmem h_S1x256))
  let w1 : Vec F S256x256 .f32 ← Prog.lift (.load arg9 (Rect.unit (s := S256x256) ![0, 0] S256x256.size inb_S256x256_S256x256_0_0).toLoadRect (View.loadsAt_vmem h_S256x256))
  let c1 : Vec F S1x256 .f32 ← Prog.lift (.load arg10 (Rect.unit (s := S1x256) ![0, 0] S1x256.size inb_S1x256_S1x256_0_0).toLoadRect (View.loadsAt_vmem h_S1x256))
  let d0 : Vec F S1x256 .f32 ← Prog.lift (.load arg11 (Rect.unit (s := S9x256) ![0, 0] S1x256.size inb_S9x256_S1x256_0_0).toLoadRect (View.loadsAt_vmem h_S1x256))
  let d1 : Vec F S1x256 .f32 ← Prog.lift (.load arg11 (Rect.unit (s := S9x256) ![1, 0] S1x256.size inb_S9x256_S1x256_1_0).toLoadRect (View.loadsAt_vmem h_S1x256))
  let d2 : Vec F S1x256 .f32 ← Prog.lift (.load arg11 (Rect.unit (s := S9x256) ![2, 0] S1x256.size inb_S9x256_S1x256_2_0).toLoadRect (View.loadsAt_vmem h_S1x256))
  let d3 : Vec F S1x256 .f32 ← Prog.lift (.load arg11 (Rect.unit (s := S9x256) ![3, 0] S1x256.size inb_S9x256_S1x256_3_0).toLoadRect (View.loadsAt_vmem h_S1x256))
  let d4 : Vec F S1x256 .f32 ← Prog.lift (.load arg11 (Rect.unit (s := S9x256) ![4, 0] S1x256.size inb_S9x256_S1x256_4_0).toLoadRect (View.loadsAt_vmem h_S1x256))
  let d5 : Vec F S1x256 .f32 ← Prog.lift (.load arg11 (Rect.unit (s := S9x256) ![5, 0] S1x256.size inb_S9x256_S1x256_5_0).toLoadRect (View.loadsAt_vmem h_S1x256))
  let d6 : Vec F S1x256 .f32 ← Prog.lift (.load arg11 (Rect.unit (s := S9x256) ![6, 0] S1x256.size inb_S9x256_S1x256_6_0).toLoadRect (View.loadsAt_vmem h_S1x256))
  let d7 : Vec F S1x256 .f32 ← Prog.lift (.load arg11 (Rect.unit (s := S9x256) ![7, 0] S1x256.size inb_S9x256_S1x256_7_0).toLoadRect (View.loadsAt_vmem h_S1x256))
  let d8 : Vec F S1x256 .f32 ← Prog.lift (.load arg11 (Rect.unit (s := S9x256) ![8, 0] S1x256.size inb_S9x256_S1x256_8_0).toLoadRect (View.loadsAt_vmem h_S1x256))
  let db : Vec F S1x256 .f32 ← Prog.lift (.load arg12 (Rect.unit (s := S1x256) ![0, 0] S1x256.size inb_S1x256_S1x256_0_0).toLoadRect (View.loadsAt_vmem h_S1x256))
  let se : Vec F S128x256 .f32 ← Prog.lift (.load arg13 (Rect.unit (s := S128x256) ![0, 0] S128x256.size inb_S128x256_S128x256_0_0).toLoadRect (View.loadsAt_vmem h_S128x256))
  let g2 : Vec F S1x768 .f32 ← Prog.lift (.load arg14 (Rect.unit (s := S1x768) ![0, 0] S1x768.size inb_S1x768_S1x768_0_0).toLoadRect (View.loadsAt_vmem h_S1x768))
  let b2 : Vec F S1x768 .f32 ← Prog.lift (.load arg15 (Rect.unit (s := S1x768) ![0, 0] S1x768.size inb_S1x768_S1x768_0_0).toLoadRect (View.loadsAt_vmem h_S1x768))
  let w2 : Vec F S768x256 .f32 ← Prog.lift (.load arg16 (Rect.unit (s := S768x256) ![0, 0] S768x256.size inb_S768x256_S768x256_0_0).toLoadRect (View.loadsAt_vmem h_S768x256))
  let c2 : Vec F S1x256 .f32 ← Prog.lift (.load arg17 (Rect.unit (s := S1x256) ![0, 0] S1x256.size inb_S1x256_S1x256_0_0).toLoadRect (View.loadsAt_vmem h_S1x256))
  let w3 : Vec F S256x256 .f32 ← Prog.lift (.load arg18 (Rect.unit (s := S256x256) ![0, 0] S256x256.size inb_S256x256_S256x256_0_0).toLoadRect (View.loadsAt_vmem h_S256x256))
  let c3 : Vec F S1x256 .f32 ← Prog.lift (.load arg19 (Rect.unit (s := S1x256) ![0, 0] S1x256.size inb_S1x256_S1x256_0_0).toLoadRect (View.loadsAt_vmem h_S1x256))
  let w4 : Vec F S256x256 .f32 ← Prog.lift (.load arg20 (Rect.unit (s := S256x256) ![0, 0] S256x256.size inb_S256x256_S256x256_0_0).toLoadRect (View.loadsAt_vmem h_S256x256))
  let c4 : Vec F S1x256 .f32 ← Prog.lift (.load arg21 (Rect.unit (s := S1x256) ![0, 0] S1x256.size inb_S1x256_S1x256_0_0).toLoadRect (View.loadsAt_vmem h_S1x256))
  let _ : Vec F S1024x256 .f32 ← Prog.lift (.load arg22 (Rect.unit (s := S1024x256) ![0, 0] S1024x256.size inb_S1024x256_S1024x256_0_0).toLoadRect (View.loadsAt_vmem h_S1024x256))
  Prog.lift (.store arg22 (Rect.unit (s := S1024x256) ![0, 0] S1024x256.size inb_S1024x256_S1024x256_0_0) (edge (k1_pay3 own) nb g1 b1 w1 c1 d0 d1 d2 d3 d4 d5 d6 d7 d8 db se g2 b2 w2 c2 w3 c3 w4 c4) Finset.univ (View.stores_vmem_bits_univ h_S1024x256 rfl) (.inl rfl))
  Pure.pure ⟨⟩

/-- The loop over the tiles gathers the neighbours' features; the rows' own are a load. -/
theorem edge_front (i : grid1.Coords) (arg1 : Memref sig .tc .smem S128 .i32) (harg1 : arg1.IsWhole) (arg2 : Memref sig .tc .smem S128 .i32) (harg2 : arg2.IsWhole) (arg3 : Memref sig .tc .smem S16 .i32) (harg3 : arg3.IsWhole) (arg4 : Memref sig .tc .smem S16 .i32) (harg4 : arg4.IsWhole) (arg5 : Memref sig .tc .vmem S16x512x32 .f32) (harg5 : arg5.IsWhole) (arg6 : Memref sig .tc .vmem S1024x1 .i32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S9x256 .f32) (harg11 : arg11.IsWhole) (arg12 : Memref sig .tc .vmem S1x256 .f32) (harg12 : arg12.IsWhole) (arg13 : Memref sig .tc .vmem S128x256 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S768x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1024x256 .f32) (harg22 : arg22.IsWhole) :
    cc1__edge_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (do
      let v1 : Elt F .i32 ← smemLoad arg1 (Rect.unit (s := S128) (k1_off1 i) S1.size (k1_off1_inb i)) numel1_S1 rfl
      let v3 : Elt F .i32 ← smemLoad arg2 (Rect.unit (s := S128) (k1_off1 i) S1.size (k1_off1_inb i)) numel1_S1 rfl
      let v4 : Vec F S1024x1 .i32 ← Prog.lift (.load arg6 (Rect.unit (s := S1024x1) ![0, 0] S1024x1.size inb_S1024x1_S1024x1_0_0).toLoadRect (View.loadsAt_vmem h_S1024x1))
      let nb : FVec F S1024x32 .f32 ← Scf.Loop.for k1_t1_loop k1_t1_ok (k1_pay1 (F := F)) (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 v4)
      let own : Vec F S1x64x32 .f32 ← Prog.lift (.load arg5 (Rect.unit (s := S16x512x32) (k1_off4 i) S1x64x32.size (k1_off4_inb i)).toLoadRect (View.loadsAt_vmem h_S1x64x32))
      edgeParts i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 nb own) := by
  unfold cc1__edge_kernel
  rw [k1_part1_eq_skeleton, k1_part2_eq_skeleton]
  unfold k1_part1_skel k1_part2_skel
  simp only [Prog.bind_assoc, bind_assoc, pure_bind]
  rfl

theorem edge_rest (i : grid1.Coords) (arg1 : Memref sig .tc .smem S128 .i32) (harg1 : arg1.IsWhole) (arg2 : Memref sig .tc .smem S128 .i32) (harg2 : arg2.IsWhole) (arg3 : Memref sig .tc .smem S16 .i32) (harg3 : arg3.IsWhole) (arg4 : Memref sig .tc .smem S16 .i32) (harg4 : arg4.IsWhole) (arg5 : Memref sig .tc .vmem S16x512x32 .f32) (harg5 : arg5.IsWhole) (arg6 : Memref sig .tc .vmem S1024x1 .i32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S9x256 .f32) (harg11 : arg11.IsWhole) (arg12 : Memref sig .tc .vmem S1x256 .f32) (harg12 : arg12.IsWhole) (arg13 : Memref sig .tc .vmem S128x256 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S768x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1024x256 .f32) (harg22 : arg22.IsWhole) (nb : FVec F S1024x32 .f32) (own : Vec F S1x64x32 .f32) :
    edgeParts i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 nb own = edgeTail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 nb own := by
  chain_rfl

end Cert.Proof.KernelIdeal
-- ==== Proof.EdgeRun.lean ====
/-
  The edge kernel's body: its loop over the tiles by an invariant, and the whole body on the buffers it is handed.
-/
module

public import proofs.«01_k».proof.Proof.EdgeOps

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Edge

variable (c : Dev nD) (i : grid1.Coords) (arg1 : Memref sig .tc .smem S128 .i32) (harg1 : arg1.IsWhole) (arg2 : Memref sig .tc .smem S128 .i32) (harg2 : arg2.IsWhole) (arg3 : Memref sig .tc .smem S16 .i32) (harg3 : arg3.IsWhole) (arg4 : Memref sig .tc .smem S16 .i32) (harg4 : arg4.IsWhole) (arg5 : Memref sig .tc .vmem S16x512x32 .f32) (harg5 : arg5.IsWhole) (arg6 : Memref sig .tc .vmem S1024x1 .i32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S9x256 .f32) (harg11 : arg11.IsWhole) (arg12 : Memref sig .tc .vmem S1x256 .f32) (harg12 : arg12.IsWhole) (arg13 : Memref sig .tc .vmem S128x256 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S768x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1024x256 .f32) (harg22 : arg22.IsWhole)

/-- A trip of the loop: the tile's two table words, and under the comparison of samples the tile's share. -/
theorem edge_trip_eq (v1 v3 : Elt F .i32) (v4 : Vec F S1024x1 .i32) (k : Fin k1_t1_loop.trips) (acc : FVec F S1024x32 .f32) :
    k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 v4 k acc = (do
      let lo : Elt F .i32 ← smemLoad arg3 (Rect.unit (s := S16) (k1_off2 k) S1.size (k1_off2_inb k)) numel1_S1 rfl
      let hi : Elt F .i32 ← smemLoad arg4 (Rect.unit (s := S16) (k1_off2 k) S1.size (k1_off2_inb k)) numel1_S1 rfl
      let r : FVec F S1024x32 .f32 ← if live v1 v3 lo hi = 1#1 then do
          let t : Vec F S1x512x32 .f32 ← Prog.lift (.load arg5 (Rect.unit (s := S16x512x32) (k1_off3 k) S1x512x32.size (k1_off3_inb k)).toLoadRect (View.loadsAt_vmem h_S1x512x32))
          pure (k1_pay2 v4 k acc t)
        else do
          pure acc
      pure r) := by
  chain_rfl

/-- The gathered features after trip `k`: the tile's share added if its samples meet the block's. -/
def edgeAfter (f3 : Bf (F := F) c arg3) (f4 : Bf (F := F) c arg4) (f5 : Bf (F := F) c arg5)
    (v1 v3 : Elt F .i32) (v4 : Vec F S1024x1 .i32) (k : Fin k1_t1_loop.trips) (acc : FVec F S1024x32 .f32) : FVec F S1024x32 .f32 :=
  if live v1 v3 (word c arg3 (k1_off2 k) (k1_off2_inb k) f3) (word c arg4 (k1_off2 k) (k1_off2_inb k) f4) = 1#1 then
    k1_pay2 v4 k acc (arg5.view.readAt (Elt F) (Rect.unit (s := S16x512x32) (k1_off3 k) S1x512x32.size (k1_off3_inb k)).toLoadRect f5)
  else acc

/-- The gathered features before trip `k`. -/
def edgeTrips (f3 : Bf (F := F) c arg3) (f4 : Bf (F := F) c arg4) (f5 : Bf (F := F) c arg5)
    (v1 v3 : Elt F .i32) (v4 : Vec F S1024x1 .i32) (init : FVec F S1024x32 .f32) : Nat → FVec F S1024x32 .f32
  | 0 => init
  | k + 1 => if h : k < k1_t1_loop.trips then edgeAfter c arg3 arg4 arg5 f3 f4 f5 v1 v3 v4 ⟨k, h⟩ (edgeTrips f3 f4 f5 v1 v3 v4 init k)
      else edgeTrips f3 f4 f5 v1 v3 v4 init k

set_option backward.proofsInPublic true in
theorem edge_trip (f3 : Bf (F := F) c arg3) (f4 : Bf (F := F) c arg4) (f5 : Bf (F := F) c arg5)
    (v1 v3 : Elt F .i32) (v4 : Vec F S1024x1 .i32) (k : Fin k1_t1_loop.trips) (acc : FVec F S1024x32 .f32) :
    iprop(pt c arg3 f3 ∗ pt c arg4 f4 ∗ pt c arg5 f5) ⊢ wp frame (wpE (defs₀ (F := F)) 𝒱₀ (c : Thread nD τ) none) Set.univ
      (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 v4 k acc)
      (fun r => iprop(pt c arg3 f3 ∗ pt c arg4 f4 ∗ pt c arg5 f5 ∗ ⌜r = edgeAfter c arg3 arg4 arg5 f3 f4 f5 v1 v3 v4 k acc⌝)) := by
  rw [edge_trip_eq]
  iintro ⟨H3, H4, H5⟩
  sl_exec
  split
  case isTrue h =>
    sl_exec
    sl_step
    isplitl [H3]; · iexact H3
    isplitl [H4]; · iexact H4
    isplitl [H5]; · iexact H5
    ipureintro
    unfold edgeAfter
    exact (if_pos h).symm
  case isFalse h =>
    sl_exec
    sl_step
    isplitl [H3]; · iexact H3
    isplitl [H4]; · iexact H4
    isplitl [H5]; · iexact H5
    ipureintro
    unfold edgeAfter
    exact (if_neg h).symm

set_option warn.classDefReducibility false in
/-- The invariant of the loop over the tiles: the buffers it reads, and the features gathered by the trips so far. -/
@[sl_loop] def edgeLoop (f3 : Bf (F := F) c arg3) (f4 : Bf (F := F) c arg4) (f5 : Bf (F := F) c arg5)
    (v1 v3 : Elt F .i32) (v4 : Vec F S1024x1 .i32) (init : FVec F S1024x32 .f32) :
    LoopInvTy_k1_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 v4 init where
  inv k acc := iprop(pt c arg3 f3 ∗ pt c arg4 f4 ∗ pt c arg5 f5 ∗ ⌜acc = edgeTrips c arg3 arg4 arg5 f3 f4 f5 v1 v3 v4 init k⌝)
  step k acc := by
    have e : edgeTrips c arg3 arg4 arg5 f3 f4 f5 v1 v3 v4 init (k.val + 1)
        = edgeAfter c arg3 arg4 arg5 f3 f4 f5 v1 v3 v4 k (edgeTrips c arg3 arg4 arg5 f3 f4 f5 v1 v3 v4 init k.val) := by
      rw [edgeTrips, dif_pos k.isLt]
    rw [e]
    iintro ⟨H3, H4, H5, %h⟩
    rw [← h]
    iapply (edge_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 v1 v3 v4 k acc)
    isplitl [H3]; · iexact H3
    isplitl [H4]; · iexact H4
    iexact H5

/-- The neighbours' features, as a function of the buffers. -/
def edgeNb (f1 : Bf (F := F) c arg1) (f2 : Bf (F := F) c arg2) (f3 : Bf (F := F) c arg3) (f4 : Bf (F := F) c arg4) (f5 : Bf (F := F) c arg5) (f6 : Bf (F := F) c arg6) : FVec F S1024x32 .f32 :=
  edgeTrips c arg3 arg4 arg5 f3 f4 f5 (word c arg1 (k1_off1 i) (k1_off1_inb i) f1) (word c arg2 (k1_off1 i) (k1_off1_inb i) f2)
    (arg6.view.readAt (Elt F) (Rect.unit (s := S1024x1) ![0, 0] S1024x1.size inb_S1024x1_S1024x1_0_0).toLoadRect f6) (k1_pay1 (F := F)) k1_t1_loop.trips

/-- What the body writes, as a function of the buffers. -/
def edgeOut (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) : FVec F S1024x256 .f32 :=
  edge (k1_pay3 (arg5.view.readAt (Elt F) (Rect.unit (s := S16x512x32) (k1_off4 i) S1x64x32.size (k1_off4_inb i)).toLoadRect f5)) (edgeNb c i arg1 arg2 arg3 arg4 arg5 arg6 f1 f2 f3 f4 f5 f6)
    (arg7.view.readAt (Elt F) (Rect.unit (s := S1x256) ![0, 0] S1x256.size inb_S1x256_S1x256_0_0).toLoadRect f7)
    (arg8.view.readAt (Elt F) (Rect.unit (s := S1x256) ![0, 0] S1x256.size inb_S1x256_S1x256_0_0).toLoadRect f8)
    (arg9.view.readAt (Elt F) (Rect.unit (s := S256x256) ![0, 0] S256x256.size inb_S256x256_S256x256_0_0).toLoadRect f9)
    (arg10.view.readAt (Elt F) (Rect.unit (s := S1x256) ![0, 0] S1x256.size inb_S1x256_S1x256_0_0).toLoadRect f10)
    (arg11.view.readAt (Elt F) (Rect.unit (s := S9x256) ![0, 0] S1x256.size inb_S9x256_S1x256_0_0).toLoadRect f11)
    (arg11.view.readAt (Elt F) (Rect.unit (s := S9x256) ![1, 0] S1x256.size inb_S9x256_S1x256_1_0).toLoadRect f11)
    (arg11.view.readAt (Elt F) (Rect.unit (s := S9x256) ![2, 0] S1x256.size inb_S9x256_S1x256_2_0).toLoadRect f11)
    (arg11.view.readAt (Elt F) (Rect.unit (s := S9x256) ![3, 0] S1x256.size inb_S9x256_S1x256_3_0).toLoadRect f11)
    (arg11.view.readAt (Elt F) (Rect.unit (s := S9x256) ![4, 0] S1x256.size inb_S9x256_S1x256_4_0).toLoadRect f11)
    (arg11.view.readAt (Elt F) (Rect.unit (s := S9x256) ![5, 0] S1x256.size inb_S9x256_S1x256_5_0).toLoadRect f11)
    (arg11.view.readAt (Elt F) (Rect.unit (s := S9x256) ![6, 0] S1x256.size inb_S9x256_S1x256_6_0).toLoadRect f11)
    (arg11.view.readAt (Elt F) (Rect.unit (s := S9x256) ![7, 0] S1x256.size inb_S9x256_S1x256_7_0).toLoadRect f11)
    (arg11.view.readAt (Elt F) (Rect.unit (s := S9x256) ![8, 0] S1x256.size inb_S9x256_S1x256_8_0).toLoadRect f11)
    (arg12.view.readAt (Elt F) (Rect.unit (s := S1x256) ![0, 0] S1x256.size inb_S1x256_S1x256_0_0).toLoadRect f12)
    (arg13.view.readAt (Elt F) (Rect.unit (s := S128x256) ![0, 0] S128x256.size inb_S128x256_S128x256_0_0).toLoadRect f13)
    (arg14.view.readAt (Elt F) (Rect.unit (s := S1x768) ![0, 0] S1x768.size inb_S1x768_S1x768_0_0).toLoadRect f14)
    (arg15.view.readAt (Elt F) (Rect.unit (s := S1x768) ![0, 0] S1x768.size inb_S1x768_S1x768_0_0).toLoadRect f15)
    (arg16.view.readAt (Elt F) (Rect.unit (s := S768x256) ![0, 0] S768x256.size inb_S768x256_S768x256_0_0).toLoadRect f16)
    (arg17.view.readAt (Elt F) (Rect.unit (s := S1x256) ![0, 0] S1x256.size inb_S1x256_S1x256_0_0).toLoadRect f17)
    (arg18.view.readAt (Elt F) (Rect.unit (s := S256x256) ![0, 0] S256x256.size inb_S256x256_S256x256_0_0).toLoadRect f18)
    (arg19.view.readAt (Elt F) (Rect.unit (s := S1x256) ![0, 0] S1x256.size inb_S1x256_S1x256_0_0).toLoadRect f19)
    (arg20.view.readAt (Elt F) (Rect.unit (s := S256x256) ![0, 0] S256x256.size inb_S256x256_S256x256_0_0).toLoadRect f20)
    (arg21.view.readAt (Elt F) (Rect.unit (s := S1x256) ![0, 0] S1x256.size inb_S1x256_S1x256_0_0).toLoadRect f21)

abbrev whole256 : Rect S1024x256 := Rect.unit (s := S1024x256) ![0, 0] S1024x256.size inb_S1024x256_S1024x256_0_0

set_option backward.proofsInPublic true in
/-- The body: the inputs as they were, the block's edges written whole. -/
theorem edge_run (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22
      ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 (arg22.view.writes (Elt F) f22 [⟨whole256, edgeOut c i arg1 arg2 arg3 arg4 arg5 arg6 arg7 arg8 arg9 arg10 arg11 arg12 arg13 arg14 arg15 arg16 arg17 arg18 arg19 arg20 arg21 f1 f2 f3 f4 f5 f6 f7 f8 f9 f10 f11 f12 f13 f14 f15 f16 f17 f18 f19 f20 f21⟩])) -∗ Q ⟨⟩))
    ⊢ wp frame (wpE (defs₀ (F := F)) 𝒱₀ (c : Thread nD τ) none) Set.univ (cc1__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q := by
  iintro ⟨H1, H2, H3, H4, H5, H6, H7, H8, H9, H10, H11, H12, H13, H14, H15, H16, H17, H18, H19, H20, H21, H22, Hk⟩
  rw [edge_front]
  simp only [edge_rest]
  unfold edgeTail
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

end Edge

end Cert.Proof.KernelIdeal
-- ==== Proof.Values.lean ====
/-
  What the two bodies write, as functions of the blocks they are handed: no buffer and no memory named.
-/
module

public import proofs.«01_k».proof.Proof.KnnRun
public import proofs.«01_k».proof.Proof.EdgeRun
public import Idealize.ShloMosaic.Lib.VecWindow

@[expose] public section

set_option maxRecDepth 65536

noncomputable section

namespace Cert.Proof.KernelIdeal

open Cert.KernelIdeal Cert.KernelIdeal.Gen
open Idealize.ShloMosaic Idealize.ShloMosaic.TcCoe

variable {F : FTy → Type} [FloatOps F] [Named F]

/-- The part of a block a load's coordinates name. -/
def sub {s : Shape} {α : Type} (X : s.Idx → α) (B : LoadRect s) : B.shape.Idx → α := fun j => X (B.idx j)

omit [FloatOps F] [Named F] in
theorem readAt_sub {p : Space} {s : Shape} {e : EltTy} (v : View sig .tc p s e) (B : LoadRect s) (f : v.ty.Contents (Elt F)) :
    v.readAt (Elt F) B f = sub (v.read (Elt F) f) B := rfl

/-- A table's word at an offset. -/
def wordAt {N : Nat} (X : (⟨1, ![N]⟩ : Shape).Idx → BitVec 32) (off : Fin 1 → Nat)
    (h : ∀ a, off a + S1.size a ≤ (⟨1, ![N]⟩ : Shape).size a) : BitVec 32 :=
  sub X (Rect.unit (s := ⟨1, ![N]⟩) off S1.size h).toLoadRect (Shape.Idx.first (numel1_S1.symm ▸ Nat.one_pos))

/-! ## The neighbour search -/

/-- The carried pair after trip `k`. -/
def knnAfter (lo hi : IVec S16 32) (tc : Vec F S16x3x512 .f32) (ts : IVec S16x1x512 32)
    (v1 v3 : BitVec 32) (xs : Vec F S128x3 .f32) (ss : IVec S128x1 32) (k : Fin k0_t1_loop.trips) (acc : FVec F S128x16 .f32 × IVec S128x16 32) :
    FVec F S128x16 .f32 × IVec S128x16 32 :=
  if live v1 v3 (wordAt lo (k0_off2 k) (k0_off2_inb k)) (wordAt hi (k0_off2 k) (k0_off2_inb k)) = 1#1 then
    tileStep xs ss (Scf.iv 0#32 1#32 k)
      (sub tc (Rect.unit (s := S16x3x512) (k0_off3 k) S1x1x512.size (k0_off3_inb k)).toLoadRect)
      (sub tc (Rect.unit (s := S16x3x512) (k0_off4 k) S1x1x512.size (k0_off4_inb k)).toLoadRect)
      (sub tc (Rect.unit (s := S16x3x512) (k0_off5 k) S1x1x512.size (k0_off5_inb k)).toLoadRect)
      (sub ts (Rect.unit (s := S16x1x512) (k0_off6 k) S1x1x512.size (k0_off6_inb k)).toLoadRect) acc
  else acc

/-- The carried pair before trip `k`. -/
def knnTrips (lo hi : IVec S16 32) (tc : Vec F S16x3x512 .f32) (ts : IVec S16x1x512 32)
    (v1 v3 : BitVec 32) (xs : Vec F S128x3 .f32) (ss : IVec S128x1 32) : Nat → FVec F S128x16 .f32 × IVec S128x16 32
  | 0 => (k0_pay6 (F := F), k0_pay7)
  | k + 1 => if h : k < k0_t1_loop.trips then knnAfter lo hi tc ts v1 v3 xs ss ⟨k, h⟩ (knnTrips lo hi tc ts v1 v3 xs ss k)
      else knnTrips lo hi tc ts v1 v3 xs ss k

/-- What the whole loop leaves at the block `i`. -/
def knnLast (i : grid0.Coords) (a b : IVec S64 32) (lo hi : IVec S16 32) (xs : Vec F S128x3 .f32) (tc : Vec F S16x3x512 .f32)
    (ss : IVec S128x1 32) (ts : IVec S16x1x512 32) : FVec F S128x16 .f32 × IVec S128x16 32 :=
  knnTrips lo hi tc ts (wordAt a (k0_off1 i) (k0_off1_inb i)) (wordAt b (k0_off1 i) (k0_off1_inb i)) xs ss k0_t1_loop.trips

/-- The block's neighbours. -/
def nbrBlock (i : grid0.Coords) (a b : IVec S64 32) (lo hi : IVec S16 32) (xs : Vec F S128x3 .f32) (tc : Vec F S16x3x512 .f32)
    (ss : IVec S128x1 32) (ts : IVec S16x1x512 32) : IVec S128x16 32 :=
  k0_pay10 i (knnLast i a b lo hi xs tc ss ts).1 (knnLast i a b lo hi xs tc ss ts).2

/-- The block's mask words. -/
def maskBlock (i : grid0.Coords) (a b : IVec S64 32) (lo hi : IVec S16 32) (xs : Vec F S128x3 .f32) (tc : Vec F S16x3x512 .f32)
    (ss : IVec S128x1 32) (ts : IVec S16x1x512 32) : IVec S128x16 32 :=
  k0_pay11 (F := F) (knnLast i a b lo hi xs tc ss ts).1

theorem trips_eq (c : Dev nD) (arg3 : Memref sig .tc .smem S16 .i32) (arg4 : Memref sig .tc .smem S16 .i32) (arg6 : Memref sig .tc .vmem S16x3x512 .f32) (arg8 : Memref sig .tc .vmem S16x1x512 .i32)
    (f3 : Bf (F := F) c arg3) (f4 : Bf (F := F) c arg4) (f6 : Bf (F := F) c arg6) (f8 : Bf (F := F) c arg8)
    (v1 v3 : Elt F .i32) (v4 : Vec F S128x3 .f32) (v9 : Vec F S128x1 .i32) : ∀ n : Nat,
    trips c arg3 arg4 arg6 arg8 f3 f4 f6 f8 v1 v3 v4 v9 (k0_pay6 (F := F), k0_pay7) n
      = knnTrips (arg3.view.read (Elt F) f3) (arg4.view.read (Elt F) f4) (arg6.view.read (Elt F) f6) (arg8.view.read (Elt F) f8) v1 v3 v4 v9 n
  | 0 => rfl
  | n + 1 => by
    rw [trips, knnTrips, trips_eq c arg3 arg4 arg6 arg8 f3 f4 f6 f8 v1 v3 v4 v9 n]
    rfl

/-- The loop's result through the buffers is the one of what they read. -/
theorem knnAcc_eq (c : Dev nD) (i : grid0.Coords) (arg1 : Memref sig .tc .smem S64 .i32) (arg2 : Memref sig .tc .smem S64 .i32) (arg3 : Memref sig .tc .smem S16 .i32) (arg4 : Memref sig .tc .smem S16 .i32) (arg5 : Memref sig .tc .vmem S128x3 .f32) (arg6 : Memref sig .tc .vmem S16x3x512 .f32) (arg7 : Memref sig .tc .vmem S128x1 .i32) (arg8 : Memref sig .tc .vmem S16x1x512 .i32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) :
    knnAcc c i arg1 arg2 arg3 arg4 arg5 arg6 arg7 arg8 f1 f2 f3 f4 f5 f6 f7 f8
      = knnLast i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold knnAcc knnLast
  rw [trips_eq, View.readAt_full, View.readAt_full]
  rfl

/-- The neighbours' buffer after the body reads the block's neighbours, -/
theorem read_nbr (c : Dev nD) (i : grid0.Coords) (arg1 : Memref sig .tc .smem S64 .i32) (arg2 : Memref sig .tc .smem S64 .i32) (arg3 : Memref sig .tc .smem S16 .i32) (arg4 : Memref sig .tc .smem S16 .i32) (arg5 : Memref sig .tc .vmem S128x3 .f32) (arg6 : Memref sig .tc .vmem S16x3x512 .f32) (arg7 : Memref sig .tc .vmem S128x1 .i32) (arg8 : Memref sig .tc .vmem S16x1x512 .i32) (arg9 : Memref sig .tc .vmem S128x16 .i32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    {A B : IVec S64 32} {lo hi : IVec S16 32} {xs : Vec F S128x3 .f32} {tc : Vec F S16x3x512 .f32} {ss : IVec S128x1 32} {ts : IVec S16x1x512 32}
    (h1 : (arg1.view.read (Elt F) f1) = A) (h2 : (arg2.view.read (Elt F) f2) = B) (h3 : (arg3.view.read (Elt F) f3) = lo) (h4 : (arg4.view.read (Elt F) f4) = hi) (h5 : (arg5.view.read (Elt F) f5) = xs) (h6 : (arg6.view.read (Elt F) f6) = tc) (h7 : (arg7.view.read (Elt F) f7) = ss) (h8 : (arg8.view.read (Elt F) f8) = ts) :
    arg9.view.read (Elt F) (arg9.view.writes (Elt F) f9 [⟨whole16, k0_pay10 i (knnAcc c i arg1 arg2 arg3 arg4 arg5 arg6 arg7 arg8 f1 f2 f3 f4 f5 f6 f7 f8).1 (knnAcc c i arg1 arg2 arg3 arg4 arg5 arg6 arg7 arg8 f1 f2 f3 f4 f5 f6 f7 f8).2⟩])
      = nbrBlock (F := F) i A B lo hi xs tc ss ts := by
  rw [knnAcc_eq, h1, h2, h3, h4, h5, h6, h7, h8]
  exact View.read_writes_full _ _ _ _ _
/-- and the mask's the block's mask words. -/
theorem read_mask (c : Dev nD) (i : grid0.Coords) (arg1 : Memref sig .tc .smem S64 .i32) (arg2 : Memref sig .tc .smem S64 .i32) (arg3 : Memref sig .tc .smem S16 .i32) (arg4 : Memref sig .tc .smem S16 .i32) (arg5 : Memref sig .tc .vmem S128x3 .f32) (arg6 : Memref sig .tc .vmem S16x3x512 .f32) (arg7 : Memref sig .tc .vmem S128x1 .i32) (arg8 : Memref sig .tc .vmem S16x1x512 .i32) (arg10 : Memref sig .tc .vmem S128x16 .i32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f10 : Bf (F := F) c arg10)
    {A B : IVec S64 32} {lo hi : IVec S16 32} {xs : Vec F S128x3 .f32} {tc : Vec F S16x3x512 .f32} {ss : IVec S128x1 32} {ts : IVec S16x1x512 32}
    (h1 : (arg1.view.read (Elt F) f1) = A) (h2 : (arg2.view.read (Elt F) f2) = B) (h3 : (arg3.view.read (Elt F) f3) = lo) (h4 : (arg4.view.read (Elt F) f4) = hi) (h5 : (arg5.view.read (Elt F) f5) = xs) (h6 : (arg6.view.read (Elt F) f6) = tc) (h7 : (arg7.view.read (Elt F) f7) = ss) (h8 : (arg8.view.read (Elt F) f8) = ts) :
    arg10.view.read (Elt F) (arg10.view.writes (Elt F) f10 [⟨whole16, k0_pay11 (F := F) (knnAcc c i arg1 arg2 arg3 arg4 arg5 arg6 arg7 arg8 f1 f2 f3 f4 f5 f6 f7 f8).1⟩])
      = maskBlock (F := F) i A B lo hi xs tc ss ts := by
  rw [knnAcc_eq, h1, h2, h3, h4, h5, h6, h7, h8]
  exact View.read_writes_full _ _ _ _ _

/-! ## The edges -/

/-- The gathered features after trip `k`. -/
def gatherAfter (lo hi : IVec S16 32) (slab : Vec F S16x512x32 .f32) (v1 v3 : BitVec 32) (ix : IVec S1024x1 32)
    (k : Fin k1_t1_loop.trips) (acc : FVec F S1024x32 .f32) : FVec F S1024x32 .f32 :=
  if live v1 v3 (wordAt lo (k1_off2 k) (k1_off2_inb k)) (wordAt hi (k1_off2 k) (k1_off2_inb k)) = 1#1 then
    k1_pay2 ix k acc (sub slab (Rect.unit (s := S16x512x32) (k1_off3 k) S1x512x32.size (k1_off3_inb k)).toLoadRect)
  else acc

/-- The gathered features before trip `k`. -/
def gatherTrips (lo hi : IVec S16 32) (slab : Vec F S16x512x32 .f32) (v1 v3 : BitVec 32) (ix : IVec S1024x1 32) : Nat → FVec F S1024x32 .f32
  | 0 => k1_pay1 (F := F)
  | k + 1 => if h : k < k1_t1_loop.trips then gatherAfter lo hi slab v1 v3 ix ⟨k, h⟩ (gatherTrips lo hi slab v1 v3 ix k)
      else gatherTrips lo hi slab v1 v3 ix k

/-- The features of the block's neighbours. -/
def gathered (i : grid1.Coords) (a b : IVec S128 32) (lo hi : IVec S16 32) (slab : Vec F S16x512x32 .f32) (ix : IVec S1024x1 32) : FVec F S1024x32 .f32 :=
  gatherTrips lo hi slab (wordAt a (k1_off1 i) (k1_off1_inb i)) (wordAt b (k1_off1 i) (k1_off1_inb i)) ix k1_t1_loop.trips

/-- The block's edges. -/
def edgeBlock (i : grid1.Coords) (a b : IVec S128 32) (lo hi : IVec S16 32) (slab : Vec F S16x512x32 .f32) (ix : IVec S1024x1 32)
    (g1 : Vec F S1x256 .f32) (b1 : Vec F S1x256 .f32) (w1 : Vec F S256x256 .f32) (c1 : Vec F S1x256 .f32) (dw : Vec F S9x256 .f32) (db : Vec F S1x256 .f32) (se : Vec F S128x256 .f32) (g2 : Vec F S1x768 .f32) (b2 : Vec F S1x768 .f32) (w2 : Vec F S768x256 .f32) (c2 : Vec F S1x256 .f32) (w3 : Vec F S256x256 .f32) (c3 : Vec F S1x256 .f32) (w4 : Vec F S256x256 .f32) (c4 : Vec F S1x256 .f32) : FVec F S1024x256 .f32 :=
  edge (k1_pay3 (sub slab (Rect.unit (s := S16x512x32) (k1_off4 i) S1x64x32.size (k1_off4_inb i)).toLoadRect)) (gathered i a b lo hi slab ix) g1 b1 w1 c1
    (sub dw (Rect.unit (s := S9x256) ![0, 0] S1x256.size inb_S9x256_S1x256_0_0).toLoadRect) (sub dw (Rect.unit (s := S9x256) ![1, 0] S1x256.size inb_S9x256_S1x256_1_0).toLoadRect) (sub dw (Rect.unit (s := S9x256) ![2, 0] S1x256.size inb_S9x256_S1x256_2_0).toLoadRect) (sub dw (Rect.unit (s := S9x256) ![3, 0] S1x256.size inb_S9x256_S1x256_3_0).toLoadRect) (sub dw (Rect.unit (s := S9x256) ![4, 0] S1x256.size inb_S9x256_S1x256_4_0).toLoadRect) (sub dw (Rect.unit (s := S9x256) ![5, 0] S1x256.size inb_S9x256_S1x256_5_0).toLoadRect) (sub dw (Rect.unit (s := S9x256) ![6, 0] S1x256.size inb_S9x256_S1x256_6_0).toLoadRect) (sub dw (Rect.unit (s := S9x256) ![7, 0] S1x256.size inb_S9x256_S1x256_7_0).toLoadRect) (sub dw (Rect.unit (s := S9x256) ![8, 0] S1x256.size inb_S9x256_S1x256_8_0).toLoadRect)
    db se g2 b2 w2 c2 w3 c3 w4 c4

theorem edgeTrips_eq (c : Dev nD) (arg3 : Memref sig .tc .smem S16 .i32) (arg4 : Memref sig .tc .smem S16 .i32) (arg5 : Memref sig .tc .vmem S16x512x32 .f32)
    (f3 : Bf (F := F) c arg3) (f4 : Bf (F := F) c arg4) (f5 : Bf (F := F) c arg5)
    (v1 v3 : Elt F .i32) (v4 : Vec F S1024x1 .i32) : ∀ n : Nat,
    edgeTrips c arg3 arg4 arg5 f3 f4 f5 v1 v3 v4 (k1_pay1 (F := F)) n
      = gatherTrips (arg3.view.read (Elt F) f3) (arg4.view.read (Elt F) f4) (arg5.view.read (Elt F) f5) v1 v3 v4 n
  | 0 => rfl
  | n + 1 => by
    rw [edgeTrips, gatherTrips, edgeTrips_eq c arg3 arg4 arg5 f3 f4 f5 v1 v3 v4 n]
    rfl

theorem edgeNb_eq (c : Dev nD) (i : grid1.Coords) (arg1 : Memref sig .tc .smem S128 .i32) (arg2 : Memref sig .tc .smem S128 .i32) (arg3 : Memref sig .tc .smem S16 .i32) (arg4 : Memref sig .tc .smem S16 .i32) (arg5 : Memref sig .tc .vmem S16x512x32 .f32) (arg6 : Memref sig .tc .vmem S1024x1 .i32) (f1 : Bf (F := F) c arg1) (f2 : Bf (F := F) c arg2) (f3 : Bf (F := F) c arg3) (f4 : Bf (F := F) c arg4) (f5 : Bf (F := F) c arg5) (f6 : Bf (F := F) c arg6) :
    edgeNb c i arg1 arg2 arg3 arg4 arg5 arg6 f1 f2 f3 f4 f5 f6 = gathered i (arg1.view.read (Elt F) f1) (arg2.view.read (Elt F) f2) (arg3.view.read (Elt F) f3) (arg4.view.read (Elt F) f4) (arg5.view.read (Elt F) f5) (arg6.view.read (Elt F) f6) := by
  unfold edgeNb gathered
  rw [edgeTrips_eq, View.readAt_full]
  rfl

set_option maxHeartbeats 4000000 in
/-- The block's edges through the buffers are those of what they read. -/
theorem edgeOut_eq (c : Dev nD) (i : grid1.Coords) (arg1 : Memref sig .tc .smem S128 .i32) (arg2 : Memref sig .tc .smem S128 .i32) (arg3 : Memref sig .tc .smem S16 .i32) (arg4 : Memref sig .tc .smem S16 .i32) (arg5 : Memref sig .tc .vmem S16x512x32 .f32) (arg6 : Memref sig .tc .vmem S1024x1 .i32) (arg7 : Memref sig .tc .vmem S1x256 .f32) (arg8 : Memref sig .tc .vmem S1x256 .f32) (arg9 : Memref sig .tc .vmem S256x256 .f32) (arg10 : Memref sig .tc .vmem S1x256 .f32) (arg11 : Memref sig .tc .vmem S9x256 .f32) (arg12 : Memref sig .tc .vmem S1x256 .f32) (arg13 : Memref sig .tc .vmem S128x256 .f32) (arg14 : Memref sig .tc .vmem S1x768 .f32) (arg15 : Memref sig .tc .vmem S1x768 .f32) (arg16 : Memref sig .tc .vmem S768x256 .f32) (arg17 : Memref sig .tc .vmem S1x256 .f32) (arg18 : Memref sig .tc .vmem S256x256 .f32) (arg19 : Memref sig .tc .vmem S1x256 .f32) (arg20 : Memref sig .tc .vmem S256x256 .f32) (arg21 : Memref sig .tc .vmem S1x256 .f32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) :
    edgeOut c i arg1 arg2 arg3 arg4 arg5 arg6 arg7 arg8 arg9 arg10 arg11 arg12 arg13 arg14 arg15 arg16 arg17 arg18 arg19 arg20 arg21 f1 f2 f3 f4 f5 f6 f7 f8 f9 f10 f11 f12 f13 f14 f15 f16 f17 f18 f19 f20 f21
      = edgeBlock i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16) (arg17.view.read (Elt F) f17) (arg18.view.read (Elt F) f18) (arg19.view.read (Elt F) f19) (arg20.view.read (Elt F) f20) (arg21.view.read (Elt F) f21) := by
  unfold edgeOut edgeBlock
  rw [edgeNb_eq]
  rw [View.readAt_full arg7.view, View.readAt_full arg8.view, View.readAt_full arg9.view, View.readAt_full arg10.view, View.readAt_full arg12.view, View.readAt_full arg13.view, View.readAt_full arg14.view, View.readAt_full arg15.view, View.readAt_full arg16.view, View.readAt_full arg17.view, View.readAt_full arg18.view, View.readAt_full arg19.view, View.readAt_full arg20.view, View.readAt_full arg21.view]
  rfl

/-- The edges' buffer after the body reads the block's edges. -/
theorem read_edge (c : Dev nD) (i : grid1.Coords) (arg1 : Memref sig .tc .smem S128 .i32) (arg2 : Memref sig .tc .smem S128 .i32) (arg3 : Memref sig .tc .smem S16 .i32) (arg4 : Memref sig .tc .smem S16 .i32) (arg5 : Memref sig .tc .vmem S16x512x32 .f32) (arg6 : Memref sig .tc .vmem S1024x1 .i32) (arg7 : Memref sig .tc .vmem S1x256 .f32) (arg8 : Memref sig .tc .vmem S1x256 .f32) (arg9 : Memref sig .tc .vmem S256x256 .f32) (arg10 : Memref sig .tc .vmem S1x256 .f32) (arg11 : Memref sig .tc .vmem S9x256 .f32) (arg12 : Memref sig .tc .vmem S1x256 .f32) (arg13 : Memref sig .tc .vmem S128x256 .f32) (arg14 : Memref sig .tc .vmem S1x768 .f32) (arg15 : Memref sig .tc .vmem S1x768 .f32) (arg16 : Memref sig .tc .vmem S768x256 .f32) (arg17 : Memref sig .tc .vmem S1x256 .f32) (arg18 : Memref sig .tc .vmem S256x256 .f32) (arg19 : Memref sig .tc .vmem S1x256 .f32) (arg20 : Memref sig .tc .vmem S256x256 .f32) (arg21 : Memref sig .tc .vmem S1x256 .f32) (arg22 : Memref sig .tc .vmem S1024x256 .f32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22)
    {A B : IVec S128 32} {lo hi : IVec S16 32} {slab : Vec F S16x512x32 .f32} {ix : IVec S1024x1 32} {g1 : Vec F S1x256 .f32} {b1 : Vec F S1x256 .f32} {w1 : Vec F S256x256 .f32} {c1 : Vec F S1x256 .f32} {dw : Vec F S9x256 .f32} {db : Vec F S1x256 .f32} {se : Vec F S128x256 .f32} {g2 : Vec F S1x768 .f32} {b2 : Vec F S1x768 .f32} {w2 : Vec F S768x256 .f32} {c2 : Vec F S1x256 .f32} {w3 : Vec F S256x256 .f32} {c3 : Vec F S1x256 .f32} {w4 : Vec F S256x256 .f32} {c4 : Vec F S1x256 .f32}
    (h1 : (arg1.view.read (Elt F) f1) = A) (h2 : (arg2.view.read (Elt F) f2) = B) (h3 : (arg3.view.read (Elt F) f3) = lo) (h4 : (arg4.view.read (Elt F) f4) = hi) (h5 : (arg5.view.read (Elt F) f5) = slab) (h6 : (arg6.view.read (Elt F) f6) = ix) (h7 : (arg7.view.read (Elt F) f7) = g1) (h8 : (arg8.view.read (Elt F) f8) = b1) (h9 : (arg9.view.read (Elt F) f9) = w1) (h10 : (arg10.view.read (Elt F) f10) = c1) (h11 : (arg11.view.read (Elt F) f11) = dw) (h12 : (arg12.view.read (Elt F) f12) = db) (h13 : (arg13.view.read (Elt F) f13) = se) (h14 : (arg14.view.read (Elt F) f14) = g2) (h15 : (arg15.view.read (Elt F) f15) = b2) (h16 : (arg16.view.read (Elt F) f16) = w2) (h17 : (arg17.view.read (Elt F) f17) = c2) (h18 : (arg18.view.read (Elt F) f18) = w3) (h19 : (arg19.view.read (Elt F) f19) = c3) (h20 : (arg20.view.read (Elt F) f20) = w4) (h21 : (arg21.view.read (Elt F) f21) = c4) :
    arg22.view.read (Elt F) (arg22.view.writes (Elt F) f22 [⟨whole256, edgeOut c i arg1 arg2 arg3 arg4 arg5 arg6 arg7 arg8 arg9 arg10 arg11 arg12 arg13 arg14 arg15 arg16 arg17 arg18 arg19 arg20 arg21 f1 f2 f3 f4 f5 f6 f7 f8 f9 f10 f11 f12 f13 f14 f15 f16 f17 f18 f19 f20 f21⟩])
      = edgeBlock i A B lo hi slab ix g1 b1 w1 c1 dw db se g2 b2 w2 c2 w3 c3 w4 c4 := by
  rw [edgeOut_eq, h1, h2, h3, h4, h5, h6, h7, h8, h9, h10, h11, h12, h13, h14, h15, h16, h17, h18, h19, h20, h21]
  exact View.read_writes_full _ _ _ _ _

end Cert.Proof.KernelIdeal
-- ==== Proof.RunKnn.lean ====
/-
  The neighbour search's region, and the buffers before it, as functions of the memory at launch.
-/
module

public import proofs.«01_k».proof.Proof.Values
public import proofs.«01_k».proof.Proof.Gen.KernelIdeal.Launch
public import proofs.«01_k».proof.Proof.Gen.KernelIdeal.Regions
public import Idealize.ShloMosaic.Lib.Pipeline.RegionArraysTS
public import Idealize.ShloMosaic.Lib.Pipeline.Regions
public import Idealize.ShloMosaic.Lib.Pipeline.Frame
public import Idealize.ShloMosaic.Lib.Pipeline.FrameBody

@[expose] public section

set_option maxRecDepth 65536

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation ucRefs afterRegion arrRef)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The one device. -/
abbrev c₀ : Dev nD := 0

/-- The buffers at launch, -/
def W0 (c : Dev nD) : Valuation τ sig (Elt F) := fun b => m (c, b)
/-- and after the first host operations. -/
def W1 (c : Dev nD) : Valuation τ sig (Elt F) := StableHlo.after hostOps0 (W0 m c)

/-- The tables the two regions are handed. -/
def adm : (p : Fin 2) → (pcfgs (F := F) p).Adm := fun
  | ⟨0, _⟩ => ⟨fun k => W1 m c₀ (Proc.devRef .tc (pre0.ref k)), trivial⟩
  | ⟨1, _⟩ => ⟨fun k => W1 m c₀ (Proc.devRef .tc (pre1.ref k)), trivial⟩

abbrev a0 : (pcfg0 (F := F)).Adm := adm m 0
abbrev a1 : (pcfg1 (F := F)).Adm := adm m 1

/-! ## The neighbour search's region -/

/-- A window's block at a point, read off the arrays at the region's entry. -/
abbrev in0 (c : Dev nD) (w : Fin 6) (t : Fin grid0.N) : ((win0 (a0 m) w).xblock (grid0.coords t)).Idx → Elt F (win0 (a0 m) w).elt :=
  ((win0 (a0 m) w).blk t).view.read (Elt F) (W1 m c (Proc.devRef .tc (arrRef spec0 w)))

/-- The neighbours the body leaves at a point. -/
def nbrAt (c : Dev nD) (t : Fin grid0.N) : IVec S128x16 32 :=
  nbrBlock (F := F) (grid0.coords t) (W1 m c main_v8) (W1 m c main_v9) (W1 m c main_v10) (W1 m c main_v11) (in0 m c 0 t) (in0 m c 1 t) (in0 m c 2 t) (in0 m c 3 t)
/-- The mask words the body leaves at a point. -/
def maskAt (c : Dev nD) (t : Fin grid0.N) : IVec S128x16 32 :=
  maskBlock (F := F) (grid0.coords t) (W1 m c main_v8) (W1 m c main_v9) (W1 m c main_v10) (W1 m c main_v11) (in0 m c 0 t) (in0 m c 1 t) (in0 m c 2 t) (in0 m c 3 t)

/-- The invariant of a region: the scoped buffers no window stages, and the tables. -/
def inv0 (c : Dev nD) : sProp 𝕄 :=
  iprop(Pipeline.scopedRest (Ix := Unit) (Name := ℕ) (U := UU nD τ) (Lvl := ℕ) (Val := Elt F) spec0 c
    ∗ Pipeline.tablesAt (Ix := Unit) (Name := ℕ) (U := UU nD τ) (Lvl := ℕ) (pcfgs (F := F)) (adm m) 0 c)

def dat0 (c : Dev nD) : Dat τ (Elt F) Unit ℕ (UU nD τ) ℕ (cfg0 (a0 m)) c where
  A w := W1 m c (Proc.devRef .tc (arrRef spec0 w))
  after w t := match w with
    | ⟨0, _⟩ => in0 m c 0 t
    | ⟨1, _⟩ => in0 m c 1 t
    | ⟨2, _⟩ => in0 m c 2 t
    | ⟨3, _⟩ => in0 m c 3 t
    | ⟨4, _⟩ => nbrAt m c t
    | ⟨5, _⟩ => maskAt m c t
  Φ _ := inv0 m c
  q _ := fullShare
  owed _ := 0

theorem before0_0 (c : Dev nD) (t : Fin grid0.N) (d) : (dat0 m c).before 0 t d = in0 m c 0 t :=
  (dat0 m c).before_in_eq_fetched 0 rfl (fun _ => rfl) (fun _ _ _ => rfl) (fun _ => rfl) t d
theorem before0_1 (c : Dev nD) (t : Fin grid0.N) (d) : (dat0 m c).before 1 t d = in0 m c 1 t :=
  (dat0 m c).before_in_eq_fetched 1 rfl (fun _ => rfl) (fun _ _ _ => rfl) (fun _ => rfl) t d
theorem before0_2 (c : Dev nD) (t : Fin grid0.N) (d) : (dat0 m c).before 2 t d = in0 m c 2 t :=
  (dat0 m c).before_in_eq_fetched 2 rfl (fun _ => rfl) (fun _ _ _ => rfl) (fun _ => rfl) t d
theorem before0_3 (c : Dev nD) (t : Fin grid0.N) (d) : (dat0 m c).before 3 t d = in0 m c 3 t :=
  (dat0 m c).before_in_eq_fetched 3 rfl (fun _ => rfl) (fun _ _ _ => rfl) (fun _ => rfl) t d

omit [FloatOps F] [Named F] in
/-- A whole memref owned at what it reads is its buffer at contents reading so. -/
theorem owns_of_whole (c : Dev nD) {p : Space} {s : Shape} {e : EltTy} (M : Memref sig .tc p s e) (h : M.IsWhole) (X : s.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The four tables, one by one. -/
theorem tables0 (c : Dev nD) :
    (Pipeline.tablesAt (Ix := Unit) (Name := ℕ) (U := UU nD τ) (Lvl := ℕ) (pcfgs (F := F)) (adm m) 0 c : sProp 𝕄)
      = iprop(pt c (Memref.whole main_v8) (W1 m c main_v8) ∗ pt c (Memref.whole main_v9) (W1 m c main_v9)
        ∗ pt c (Memref.whole main_v10) (W1 m c main_v10) ∗ pt c (Memref.whole main_v11) (W1 m c main_v11)) := by
  obtain rfl : c = c₀ := Subsingleton.elim _ _
  unfold Pipeline.tablesAt Pipeline.prefHeld
  exact bigSep_univ_eq_bigSepL [(0 : Fin 4), (1 : Fin 4), (2 : Fin 4), (3 : Fin 4)] (by decide) (by decide) _

set_option maxHeartbeats 2000000 in
/-- The body at a point: the windows' blocks in, the neighbours and the mask words out. -/
theorem body0 (c : Dev nD) : BodyObligation (dat0 m c) (defs₀ (F := F)) 𝒱₀ () Set.univ := fun t => by
  rw [bigSep_W0, bigSep_W0]
  simp only [owns_of_whole _ _ (hstage0_0 _), owns_of_whole _ _ (hstage0_1 _), owns_of_whole _ _ (hstage0_2 _), owns_of_whole _ _ (hstage0_3 _), owns_of_whole _ _ (hstage0_4 _), owns_of_whole _ _ (hstage0_5 _)]
  rw [show (dat0 m c).Φ t.castSucc = inv0 m c from rfl, show (dat0 m c).Φ t.succ = inv0 m c from rfl]
  unfold inv0 Dat.owesAt Pipeline.owesWithin
  rw [tables0]
  rw [show (dat0 m c).owed t.castSucc = 0 from rfl, show (dat0 m c).owed t.succ = 0 from rfl]
  iintro ⟨⟨HR, T0, T1, T2, T3⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  replace h0 := h0.trans (before0_0 m c t d0)
  replace h1 := h1.trans (before0_1 m c t d1)
  replace h2 := h2.trans (before0_2 m c t d2)
  replace h3 := h3.trans (before0_3 m c t d3)
  iapply (knn_run c (grid0.coords t) (Memref.whole main_v8) (Memref.isWhole_whole _) (Memref.whole main_v9) (Memref.isWhole_whole _)
    (Memref.whole main_v10) (Memref.isWhole_whole _) (Memref.whole main_v11) (Memref.isWhole_whole _)
    _ (hstage0_0 _) _ (hstage0_1 _) _ (hstage0_2 _) _ (hstage0_3 _) _ (hstage0_4 _) _ (hstage0_5 _)
    (W1 m c main_v8) (W1 m c main_v9) (W1 m c main_v10) (W1 m c main_v11) f0 f1 f2 f3 f4 f5 _)
  isplitl [T0]; · iexact T0
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [H5]; · iexact H5
  iintro ⟨T0, T1, T2, T3, H0, H1, H2, H3, H4, H5⟩
  isplitl [HR T0 T1 T2 T3]
  · isplitl [HR]; · iexact HR
    isplitl [T0]; · iexact T0
    isplitl [T1]; · iexact T1
    isplitl [T2]; · iexact T2
    iexact T3
  isplitl [HO]
  · iexists W; isplitr; · ipureintro; exact fun _ _ => Or.inl trivial
    iexact HO
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]
  · iexists _; isplitr; swap; (· iexact H4); ipureintro
    exact read_nbr c (grid0.coords t) (Memref.whole main_v8) (Memref.whole main_v9) (Memref.whole main_v10) (Memref.whole main_v11) _ _ _ _ _ _ _ _ _ f0 f1 f2 f3 f4 rfl rfl rfl rfl h0 h1 h2 h3
  · iexists _; isplitr; swap; (· iexact H5); ipureintro
    exact read_mask c (grid0.coords t) (Memref.whole main_v8) (Memref.whole main_v9) (Memref.whole main_v10) (Memref.whole main_v11) _ _ _ _ _ _ _ _ _ f0 f1 f2 f3 f5 rfl rfl rfl rfl h0 h1 h2 h3

end Cert.Proof.KernelIdeal
-- ==== Proof.RunEdge.lean ====
/-
  The edges' region, and the buffers before it.
-/
module

public import proofs.«01_k».proof.Proof.RunKnn
public import proofs.«01_k».proof.Proof.Gen.KernelIdeal.Launch
public import proofs.«01_k».proof.Proof.Gen.KernelIdeal.Regions
public import Idealize.ShloMosaic.Lib.Pipeline.RegionArraysTS
public import Idealize.ShloMosaic.Lib.Pipeline.Regions
public import Idealize.ShloMosaic.Lib.Pipeline.Frame
public import Idealize.ShloMosaic.Lib.Pipeline.FrameBody

@[expose] public section

set_option maxRecDepth 65536

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation ucRefs afterRegion arrRef)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The buffers between the regions -/

/-- The buffers after the neighbour search, -/
def W2 (c : Dev nD) : Valuation τ sig (Elt F) := afterRegion (dat0 m c) (W1 m c)
/-- and after the host operations behind it. -/
def W3 (c : Dev nD) : Valuation τ sig (Elt F) := StableHlo.after hostOps1 (W2 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, r ≠ arrRef spec0 w) : W2 m c r = W1 m c r :=
  Pipeline.afterRegion_of_not_arr (dat0 m c) (W1 m c) h
theorem W2_arr (c : Dev nD) (w : Fin 6) : W2 m c (Proc.devRef .tc (arrRef spec0 w)) = (dat0 m c).arrAt w grid0.N :=
  Pipeline.afterRegion_arr (dat0 m c) (W1 m c) winFacts0.arr_inj w
theorem W3_of (c : Dev nD) (r : Ref sig .tc) (h : r ∉ hostOps1_W) : W3 m c r = W2 m c r :=
  StableHlo.after_of_writes_sub hostOps1 _ hostOps1_writes h

/-- The edges' tables are still what the first host operations put there. -/
theorem W3_table (c : Dev nD) (k : Fin 4) : W3 m c (Proc.devRef .tc (pre1.ref k)) = W1 m c (Proc.devRef .tc (pre1.ref k)) := by
  refine (W3_of m c _ ?_).trans (W2_of m c _ ?_)
  · revert k; decide
  · revert k; decide

/-! ## The edges' region -/

/-- A window's block at a point, read off the arrays at the region's entry. -/
abbrev in1 (c : Dev nD) (w : Fin 18) (t : Fin grid1.N) : ((win1 (a1 m) w).xblock (grid1.coords t)).Idx → Elt F (win1 (a1 m) w).elt :=
  ((win1 (a1 m) w).blk t).view.read (Elt F) (W3 m c (Proc.devRef .tc (arrRef spec1 w)))

/-- The edges the body leaves at a point. -/
def edgeAt (c : Dev nD) (t : Fin grid1.N) : FVec F S1024x256 .f32 :=
  edgeBlock (grid1.coords t) (W1 m c main_v12) (W1 m c main_v13) (W1 m c main_v10) (W1 m c main_v11) (in1 m c 0 t) (in1 m c 1 t) (in1 m c 2 t) (in1 m c 3 t) (in1 m c 4 t) (in1 m c 5 t) (in1 m c 6 t) (in1 m c 7 t) (in1 m c 8 t) (in1 m c 9 t) (in1 m c 10 t) (in1 m c 11 t) (in1 m c 12 t) (in1 m c 13 t) (in1 m c 14 t) (in1 m c 15 t) (in1 m c 16 t)

def inv1 (c : Dev nD) : sProp 𝕄 :=
  iprop(Pipeline.scopedRest (Ix := Unit) (Name := ℕ) (U := UU nD τ) (Lvl := ℕ) (Val := Elt F) spec1 c
    ∗ Pipeline.tablesAt (Ix := Unit) (Name := ℕ) (U := UU nD τ) (Lvl := ℕ) (pcfgs (F := F)) (adm m) 1 c)

def dat1 (c : Dev nD) : Dat τ (Elt F) Unit ℕ (UU nD τ) ℕ (cfg1 (a1 m)) c where
  A w := W3 m c (Proc.devRef .tc (arrRef spec1 w))
  after w t := match w with
    | ⟨0, _⟩ => in1 m c 0 t
    | ⟨1, _⟩ => in1 m c 1 t
    | ⟨2, _⟩ => in1 m c 2 t
    | ⟨3, _⟩ => in1 m c 3 t
    | ⟨4, _⟩ => in1 m c 4 t
    | ⟨5, _⟩ => in1 m c 5 t
    | ⟨6, _⟩ => in1 m c 6 t
    | ⟨7, _⟩ => in1 m c 7 t
    | ⟨8, _⟩ => in1 m c 8 t
    | ⟨9, _⟩ => in1 m c 9 t
    | ⟨10, _⟩ => in1 m c 10 t
    | ⟨11, _⟩ => in1 m c 11 t
    | ⟨12, _⟩ => in1 m c 12 t
    | ⟨13, _⟩ => in1 m c 13 t
    | ⟨14, _⟩ => in1 m c 14 t
    | ⟨15, _⟩ => in1 m c 15 t
    | ⟨16, _⟩ => in1 m c 16 t
    | ⟨17, _⟩ => edgeAt m c t
    | ⟨_ + 18, h⟩ => absurd h (Nat.not_lt.2 (Nat.le_add_left _ _))
  Φ _ := inv1 m c
  q _ := fullShare
  owed _ := 0

theorem before1_0 (c : Dev nD) (t : Fin grid1.N) (d) : (dat1 m c).before 0 t d = in1 m c 0 t :=
  (dat1 m c).before_in_eq_fetched 0 rfl (fun _ => rfl) (fun _ _ _ => rfl) (fun _ => rfl) t d
theorem before1_1 (c : Dev nD) (t : Fin grid1.N) (d) : (dat1 m c).before 1 t d = in1 m c 1 t :=
  (dat1 m c).before_in_eq_fetched 1 rfl (fun _ => rfl) (fun _ _ _ => rfl) (fun _ => rfl) t d
theorem before1_2 (c : Dev nD) (t : Fin grid1.N) (d) : (dat1 m c).before 2 t d = in1 m c 2 t :=
  (dat1 m c).before_in_eq_fetched 2 rfl (fun _ => rfl) (fun _ _ _ => rfl) (fun _ => rfl) t d
theorem before1_3 (c : Dev nD) (t : Fin grid1.N) (d) : (dat1 m c).before 3 t d = in1 m c 3 t :=
  (dat1 m c).before_in_eq_fetched 3 rfl (fun _ => rfl) (fun _ _ _ => rfl) (fun _ => rfl) t d
theorem before1_4 (c : Dev nD) (t : Fin grid1.N) (d) : (dat1 m c).before 4 t d = in1 m c 4 t :=
  (dat1 m c).before_in_eq_fetched 4 rfl (fun _ => rfl) (fun _ _ _ => rfl) (fun _ => rfl) t d
theorem before1_5 (c : Dev nD) (t : Fin grid1.N) (d) : (dat1 m c).before 5 t d = in1 m c 5 t :=
  (dat1 m c).before_in_eq_fetched 5 rfl (fun _ => rfl) (fun _ _ _ => rfl) (fun _ => rfl) t d
theorem before1_6 (c : Dev nD) (t : Fin grid1.N) (d) : (dat1 m c).before 6 t d = in1 m c 6 t :=
  (dat1 m c).before_in_eq_fetched 6 rfl (fun _ => rfl) (fun _ _ _ => rfl) (fun _ => rfl) t d
theorem before1_7 (c : Dev nD) (t : Fin grid1.N) (d) : (dat1 m c).before 7 t d = in1 m c 7 t :=
  (dat1 m c).before_in_eq_fetched 7 rfl (fun _ => rfl) (fun _ _ _ => rfl) (fun _ => rfl) t d
theorem before1_8 (c : Dev nD) (t : Fin grid1.N) (d) : (dat1 m c).before 8 t d = in1 m c 8 t :=
  (dat1 m c).before_in_eq_fetched 8 rfl (fun _ => rfl) (fun _ _ _ => rfl) (fun _ => rfl) t d
theorem before1_9 (c : Dev nD) (t : Fin grid1.N) (d) : (dat1 m c).before 9 t d = in1 m c 9 t :=
  (dat1 m c).before_in_eq_fetched 9 rfl (fun _ => rfl) (fun _ _ _ => rfl) (fun _ => rfl) t d
theorem before1_10 (c : Dev nD) (t : Fin grid1.N) (d) : (dat1 m c).before 10 t d = in1 m c 10 t :=
  (dat1 m c).before_in_eq_fetched 10 rfl (fun _ => rfl) (fun _ _ _ => rfl) (fun _ => rfl) t d
theorem before1_11 (c : Dev nD) (t : Fin grid1.N) (d) : (dat1 m c).before 11 t d = in1 m c 11 t :=
  (dat1 m c).before_in_eq_fetched 11 rfl (fun _ => rfl) (fun _ _ _ => rfl) (fun _ => rfl) t d
theorem before1_12 (c : Dev nD) (t : Fin grid1.N) (d) : (dat1 m c).before 12 t d = in1 m c 12 t :=
  (dat1 m c).before_in_eq_fetched 12 rfl (fun _ => rfl) (fun _ _ _ => rfl) (fun _ => rfl) t d
theorem before1_13 (c : Dev nD) (t : Fin grid1.N) (d) : (dat1 m c).before 13 t d = in1 m c 13 t :=
  (dat1 m c).before_in_eq_fetched 13 rfl (fun _ => rfl) (fun _ _ _ => rfl) (fun _ => rfl) t d
theorem before1_14 (c : Dev nD) (t : Fin grid1.N) (d) : (dat1 m c).before 14 t d = in1 m c 14 t :=
  (dat1 m c).before_in_eq_fetched 14 rfl (fun _ => rfl) (fun _ _ _ => rfl) (fun _ => rfl) t d
theorem before1_15 (c : Dev nD) (t : Fin grid1.N) (d) : (dat1 m c).before 15 t d = in1 m c 15 t :=
  (dat1 m c).before_in_eq_fetched 15 rfl (fun _ => rfl) (fun _ _ _ => rfl) (fun _ => rfl) t d
theorem before1_16 (c : Dev nD) (t : Fin grid1.N) (d) : (dat1 m c).before 16 t d = in1 m c 16 t :=
  (dat1 m c).before_in_eq_fetched 16 rfl (fun _ => rfl) (fun _ _ _ => rfl) (fun _ => rfl) t d

/-- The four tables, one by one. -/
theorem tables1 (c : Dev nD) :
    (Pipeline.tablesAt (Ix := Unit) (Name := ℕ) (U := UU nD τ) (Lvl := ℕ) (pcfgs (F := F)) (adm m) 1 c : sProp 𝕄)
      = iprop(pt c (Memref.whole main_v12) (W1 m c main_v12) ∗ pt c (Memref.whole main_v13) (W1 m c main_v13)
        ∗ pt c (Memref.whole main_v10) (W1 m c main_v10) ∗ pt c (Memref.whole main_v11) (W1 m c main_v11)) := by
  obtain rfl : c = c₀ := Subsingleton.elim _ _
  unfold Pipeline.tablesAt Pipeline.prefHeld
  exact bigSep_univ_eq_bigSepL [(0 : Fin 4), (1 : Fin 4), (2 : Fin 4), (3 : Fin 4)] (by decide) (by decide) _

set_option maxHeartbeats 8000000 in
/-- The body at a point: the windows' blocks in, the edges out. -/
theorem body1 (c : Dev nD) : BodyObligation (dat1 m c) (defs₀ (F := F)) 𝒱₀ () Set.univ := fun t => by
  rw [bigSep_W1, bigSep_W1]
  simp only [owns_of_whole _ _ (hstage1_0 _), owns_of_whole _ _ (hstage1_1 _), owns_of_whole _ _ (hstage1_2 _), owns_of_whole _ _ (hstage1_3 _), owns_of_whole _ _ (hstage1_4 _), owns_of_whole _ _ (hstage1_5 _), owns_of_whole _ _ (hstage1_6 _), owns_of_whole _ _ (hstage1_7 _), owns_of_whole _ _ (hstage1_8 _), owns_of_whole _ _ (hstage1_9 _), owns_of_whole _ _ (hstage1_10 _), owns_of_whole _ _ (hstage1_11 _), owns_of_whole _ _ (hstage1_12 _), owns_of_whole _ _ (hstage1_13 _), owns_of_whole _ _ (hstage1_14 _), owns_of_whole _ _ (hstage1_15 _), owns_of_whole _ _ (hstage1_16 _), owns_of_whole _ _ (hstage1_17 _)]
  rw [show (dat1 m c).Φ t.castSucc = inv1 m c from rfl, show (dat1 m c).Φ t.succ = inv1 m c from rfl]
  unfold inv1 Dat.owesAt Pipeline.owesWithin
  rw [tables1]
  rw [show (dat1 m c).owed t.castSucc = 0 from rfl, show (dat1 m c).owed t.succ = 0 from rfl]
  iintro ⟨⟨HR, T0, T1, T2, T3⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩⟩
  replace h0 := h0.trans (before1_0 m c t d0)
  replace h1 := h1.trans (before1_1 m c t d1)
  replace h2 := h2.trans (before1_2 m c t d2)
  replace h3 := h3.trans (before1_3 m c t d3)
  replace h4 := h4.trans (before1_4 m c t d4)
  replace h5 := h5.trans (before1_5 m c t d5)
  replace h6 := h6.trans (before1_6 m c t d6)
  replace h7 := h7.trans (before1_7 m c t d7)
  replace h8 := h8.trans (before1_8 m c t d8)
  replace h9 := h9.trans (before1_9 m c t d9)
  replace h10 := h10.trans (before1_10 m c t d10)
  replace h11 := h11.trans (before1_11 m c t d11)
  replace h12 := h12.trans (before1_12 m c t d12)
  replace h13 := h13.trans (before1_13 m c t d13)
  replace h14 := h14.trans (before1_14 m c t d14)
  replace h15 := h15.trans (before1_15 m c t d15)
  replace h16 := h16.trans (before1_16 m c t d16)
  iapply (edge_run c (grid1.coords t) (Memref.whole main_v12) (Memref.isWhole_whole _) (Memref.whole main_v13) (Memref.isWhole_whole _)
    (Memref.whole main_v10) (Memref.isWhole_whole _) (Memref.whole main_v11) (Memref.isWhole_whole _)
    _ (hstage1_0 _) _ (hstage1_1 _) _ (hstage1_2 _) _ (hstage1_3 _) _ (hstage1_4 _) _ (hstage1_5 _) _ (hstage1_6 _) _ (hstage1_7 _) _ (hstage1_8 _) _ (hstage1_9 _) _ (hstage1_10 _) _ (hstage1_11 _) _ (hstage1_12 _) _ (hstage1_13 _) _ (hstage1_14 _) _ (hstage1_15 _) _ (hstage1_16 _) _ (hstage1_17 _)
    (W1 m c main_v12) (W1 m c main_v13) (W1 m c main_v10) (W1 m c main_v11) f0 f1 f2 f3 f4 f5 f6 f7 f8 f9 f10 f11 f12 f13 f14 f15 f16 f17 _)
  isplitl [T0]; · iexact T0
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨T0, T1, T2, T3, H0, H1, H2, H3, H4, H5, H6, H7, H8, H9, H10, H11, H12, H13, H14, H15, H16, H17⟩
  isplitl [HR T0 T1 T2 T3]
  · isplitl [HR]; · iexact HR
    isplitl [T0]; · iexact T0
    isplitl [T1]; · iexact T1
    isplitl [T2]; · iexact T2
    iexact T3
  isplitl [HO]
  · iexists W; isplitr; · ipureintro; exact fun _ _ => Or.inl trivial
    iexact HO
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]; · iexists _; isplitr; swap; (· iexact H8); ipureintro; exact h8
  isplitl [H9]; · iexists _; isplitr; swap; (· iexact H9); ipureintro; exact h9
  isplitl [H10]; · iexists _; isplitr; swap; (· iexact H10); ipureintro; exact h10
  isplitl [H11]; · iexists _; isplitr; swap; (· iexact H11); ipureintro; exact h11
  isplitl [H12]; · iexists _; isplitr; swap; (· iexact H12); ipureintro; exact h12
  isplitl [H13]; · iexists _; isplitr; swap; (· iexact H13); ipureintro; exact h13
  isplitl [H14]; · iexists _; isplitr; swap; (· iexact H14); ipureintro; exact h14
  isplitl [H15]; · iexists _; isplitr; swap; (· iexact H15); ipureintro; exact h15
  isplitl [H16]; · iexists _; isplitr; swap; (· iexact H16); ipureintro; exact h16
  iexists _; isplitr; swap; (· iexact H17); ipureintro
  exact read_edge c (grid1.coords t) (Memref.whole main_v12) (Memref.whole main_v13) (Memref.whole main_v10) (Memref.whole main_v11)
    _ _ _ _ _ _ _ _ _ _ _ _ _ _ _ _ _ _ _ _ _ _ f0 f1 f2 f3 f4 f5 f6 f7 f8 f9 f10 f11 f12 f13 f14 f15 f16 f17 rfl rfl rfl rfl h0 h1 h2 h3 h4 h5 h6 h7 h8 h9 h10 h11 h12 h13 h14 h15 h16

end Cert.Proof.KernelIdeal
-- ==== Proof.Run.lean ====
/-
  The launch: the host operations and the two regions in order, and the buffers each leaves.
-/
module

public import proofs.«01_k».proof.Proof.RunEdge
public import proofs.«01_k».proof.Proof.Gen.KernelIdeal.Launch
public import proofs.«01_k».proof.Proof.Gen.KernelIdeal.Regions
public import Idealize.ShloMosaic.Lib.Pipeline.RegionArraysTS
public import Idealize.ShloMosaic.Lib.Pipeline.Regions
public import Idealize.ShloMosaic.Lib.Pipeline.Frame
public import Idealize.ShloMosaic.Lib.Pipeline.FrameBody

@[expose] public section

set_option maxRecDepth 65536

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation ucRefs afterRegion arrRef)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The launch -/

/-- The buffers after the edges, -/
def W4 (c : Dev nD) : Valuation τ sig (Elt F) := afterRegion (dat1 m c) (W3 m c)
/-- and at the end. -/
def W5 (c : Dev nD) : Valuation τ sig (Elt F) := StableHlo.after hostOps2 (W4 m c)

theorem W4_of (c : Dev nD) (r : Ref sig .tc) (h : ∀ w, r ≠ arrRef spec1 w) : W4 m c r = W3 m c r :=
  Pipeline.afterRegion_of_not_arr (dat1 m c) (W3 m c) h
theorem W4_arr (c : Dev nD) (w : Fin 18) : W4 m c (Proc.devRef .tc (arrRef spec1 w)) = (dat1 m c).arrAt w grid1.N :=
  Pipeline.afterRegion_arr (dat1 m c) (W3 m c) winFacts1.arr_inj w
theorem W5_of (c : Dev nD) (r : Ref sig .tc) (h : r ∉ hostOps2_W) : W5 m c r = W4 m c r :=
  StableHlo.after_of_writes_sub hostOps2 _ hostOps2_writes h

def dats : (p : Fin 2) → (c : Dev nD) → Dat τ (Elt F) Unit ℕ (UU nD τ) ℕ (Pipeline.pin (pcfgs (F := F)) (adm m) p) c := fun
  | ⟨0, _⟩ => dat0 m
  | ⟨1, _⟩ => dat1 m

abbrev L : GSem nD τ sig → Finset Unit := fun g => if g.1.2 = .tc then {()} else ∅
abbrev lv : GSem nD τ sig → Unit → ℕ := fun _ _ => 0
abbrev O (c : Dev nD) : sProp 𝕄 := iprop(∃ W, owes (c : Thread nD τ) (0 : CellTallies nD τ sig Unit) W)
/-- What core `c` holds between two items: the unscoped buffers at the contents, and nothing owed. -/
abbrev T (W : Dev nD → Valuation τ sig (Elt F)) (c : Dev nD) : sProp 𝕄 :=
  iprop(StableHlo.held (c : Thread nD τ) (ucRefs τ sig) (W c) ∗ O c)

def seg0 : HostSeg (Name := ℕ) (U := UU nD τ) (pcfgs (F := F)) defs₀ 𝒱₀ L lv :=
  HostSeg.ofOps _ _ _ _ _ (ucRefs τ sig) hostOps0 (fun op h => Pipeline.sub_ucRefs op ((List.forall_iff_forall_mem.mp hostOps0_sub) op h))
    (List.forall_iff_forall_mem.mp hostOps0_fresh) (W0 m) O
def seg1 : HostSeg (Name := ℕ) (U := UU nD τ) (pcfgs (F := F)) defs₀ 𝒱₀ L lv :=
  HostSeg.ofOps _ _ _ _ _ (ucRefs τ sig) hostOps1 (fun op h => Pipeline.sub_ucRefs op ((List.forall_iff_forall_mem.mp hostOps1_sub) op h))
    (List.forall_iff_forall_mem.mp hostOps1_fresh) (W2 m) O
def seg2 : HostSeg (Name := ℕ) (U := UU nD τ) (pcfgs (F := F)) defs₀ 𝒱₀ L lv :=
  HostSeg.ofOps _ _ _ _ _ (ucRefs τ sig) hostOps2 (fun op h => Pipeline.sub_ucRefs op ((List.forall_iff_forall_mem.mp hostOps2_sub) op h))
    (List.forall_iff_forall_mem.mp hostOps2_fresh) (W4 m) O

theorem cut (p : Fin 2) : Pipeline.LevelCut (pcfgs (F := F)) (adm m) () L lv p (fun _ => 0) (fun _ => 0) where
  hι _ _ _ := by simp [L]
  hιb _ _ _ := le_refl _
  hD _ _ _ h := absurd h (by simp)

set_option backward.isDefEq.respectTransparency.types false in
/-- The neighbour search as a segment, -/
def reg0 : RegionSeg (pcfgs (F := F)) (adm m) (dats m) () defs₀ 𝒱₀ L lv 0 :=
  RegionSeg.ofHeldInT (pcfgs (F := F)) (adm m) (dats m) () defs₀ 𝒱₀ L lv 0 (fun _ => 0) (ucRefs τ sig) (fun _ => iprop(emp)) (fun _ => iprop(emp))
    launch0 (fun c => (body0 m c).loose) (fun _ _ => rfl) (fun _ => rfl) (fun c w => (dat0 m c).share_full (fun _ => rfl) w)
    (fun c => by
      show _ ⊢ inv0 m c
      unfold inv0
      iintro ⟨⟨H, -⟩, HT⟩
      isplitl [H]; · iexact H
      iexact HT)
    (fun c => by
      show inv0 m c ⊢ _
      unfold inv0
      iintro ⟨H, HT⟩
      isplitl [H]
      · isplitl [H]; · iexact H
        iempintro
      iexact HT)
    (fun _ => 0) (cut m 0) (fun _ => iprop(emp)) (W1 m) (fun _ _ => rfl)
    (fun c k => by obtain rfl : c = c₀ := Subsingleton.elim _ _; rfl)

set_option backward.isDefEq.respectTransparency.types false in
/-- and the edges. -/
def reg1 : RegionSeg (pcfgs (F := F)) (adm m) (dats m) () defs₀ 𝒱₀ L lv 1 :=
  RegionSeg.ofHeldInT (pcfgs (F := F)) (adm m) (dats m) () defs₀ 𝒱₀ L lv 1 (fun _ => 0) (ucRefs τ sig) (fun _ => iprop(emp)) (fun _ => iprop(emp))
    launch1 (fun c => (body1 m c).loose) (fun _ _ => rfl) (fun _ => rfl) (fun c w => (dat1 m c).share_full (fun _ => rfl) w)
    (fun c => by
      show _ ⊢ inv1 m c
      unfold inv1
      iintro ⟨⟨H, -⟩, HT⟩
      isplitl [H]; · iexact H
      iexact HT)
    (fun c => by
      show inv1 m c ⊢ _
      unfold inv1
      iintro ⟨H, HT⟩
      isplitl [H]
      · isplitl [H]; · iexact H
        iempintro
      iexact HT)
    (fun _ => 0) (cut m 1) (fun _ => iprop(emp)) (W3 m) (fun _ _ => rfl)
    (fun c k => by obtain rfl : c = c₀ := Subsingleton.elim _ _; exact (W3_table m c₀ k).symm)

theorem arrs0 : Pipeline.arrRefs (τ := τ) spec0 ⊆ ucRefs τ sig := Pipeline.arrRefs_sub_ucRefs spec0 (by decide)
theorem arrs1 : Pipeline.arrRefs (τ := τ) spec1 ⊆ ucRefs τ sig := Pipeline.arrRefs_sub_ucRefs spec1 (by decide)
theorem tbls0 : Pipeline.tblRefs (τ := τ) pre0 ⊆ ucRefs τ sig := Pipeline.tblRefs_sub_ucRefs pre0 (by decide)
theorem tbls1 : Pipeline.tblRefs (τ := τ) pre1 ⊆ ucRefs τ sig := Pipeline.tblRefs_sub_ucRefs pre1 (by decide)

set_option backward.isDefEq.respectTransparency.types false in
theorem enter0 (c : Dev nD) : T (W1 m) c ⊢ (reg0 m).pre c := by
  unfold reg0
  refine .trans ?_ (RegionSeg.ofHeldInT_pre ?_ ?_ c)
  rotate_left
  · exact arrs0
  · exact tbls0
  iintro ⟨Hh, HO⟩
  isplitl [Hh]; · iexact Hh
  isplitl [HO]; · iexact HO
  isplitl <;> iempintro
set_option backward.isDefEq.respectTransparency.types false in
theorem leave0 (c : Dev nD) : (reg0 m).post c ⊢ T (W2 m) c := by
  unfold reg0
  refine (RegionSeg.ofHeldInT_post ?_ ?_ c).trans ?_
  · exact arrs0
  · exact tbls0
  iintro ⟨Hh, HO, -, -⟩
  isplitl [Hh]; · iexact Hh
  iexact HO
set_option backward.isDefEq.respectTransparency.types false in
theorem enter1 (c : Dev nD) : T (W3 m) c ⊢ (reg1 m).pre c := by
  unfold reg1
  refine .trans ?_ (RegionSeg.ofHeldInT_pre ?_ ?_ c)
  rotate_left
  · exact arrs1
  · exact tbls1
  iintro ⟨Hh, HO⟩
  isplitl [Hh]; · iexact Hh
  isplitl [HO]; · iexact HO
  isplitl <;> iempintro
set_option backward.isDefEq.respectTransparency.types false in
theorem leave1 (c : Dev nD) : (reg1 m).post c ⊢ T (W4 m) c := by
  unfold reg1
  refine (RegionSeg.ofHeldInT_post ?_ ?_ c).trans ?_
  · exact arrs1
  · exact tbls1
  iintro ⟨Hh, HO, -, -⟩
  isplitl [Hh]; · iexact Hh
  iexact HO

abbrev segs : List (Seg (pcfgs (F := F)) (adm m) (dats m) () defs₀ 𝒱₀ L lv) :=
  [.host (seg0 m), .region (reg0 m), .host (seg1 m), .region (reg1 m), .host (seg2 m)]

set_option backward.isDefEq.respectTransparency.types false in
/-- Every fair run ends, with the buffers at `W5` and every counter at zero. -/
theorem run_main : θ_run defs (onTc (τ := τ) (main (F := F))) ⟨m, fun _ => 0, ρ⟩
    (fun r => (∀ c : Dev nD, ∀ b ∈ ucRefs τ sig, r.2.mem (c, b) = W5 m c b) ∧ r.2.sem = fun _ => 0) :=
  Pipeline.θ_run_regions_kit_sems (pcfgs (F := F)) (adm m) (dats m) () (cellOf_inj (adm m)) emb₁ defs₀ 𝒱₀ L lv m ρ main (segs m)
    (fun c Q => by rw [main_segs (adm m) (dats m) () 𝒱₀ L lv (seg0 m) (seg1 m) (seg2 m) (reg0 m) (reg1 m) rfl rfl rfl c])
    (by simp only [Seg.pipes_host, Seg.pipes_region, Seg.pipes_nil]; decide) (O₀ := 0) (hL := fun g h => if_neg h) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := T (W0 m)) (Tₙ := fun c => StableHlo.held (c : Thread nD τ) (ucRefs τ sig) (W5 m c))
    (hch := ⟨fun _ => .rfl, enter0 m, leave0 m, enter1 m, leave1 m, fun _ => .rfl⟩)
    (hinit := by
      refine Pipeline.initEach L lv fun c => ?_
      rw [show unscopedBufs c (fun b => m ((c : Thread nD τ).loc b)) = StableHlo.held (c : Thread nD τ) (ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ ucRefs τ sig, s.mem (c, b) = W5 m c b)
    (hfin := fun c s' => by
      unfold StableHlo.held
      iintro ⟨Hh, HSI⟩
      ihave Hr := (pointsTo_read_all (ucRefs τ sig) (fun b => ((c : Thread nD τ).1, b)) (W5 m c) s') $$ [Hh HSI]
      · isplitl [Hh] <;> iassumption
      icases Hr with ⟨%h, HSI⟩
      imodintro
      isplitr
      · ipureintro; exact h
      iexact HSI)
    (hQ := fun _ h hz => ⟨h, funext fun g => hz g (.inr (regions_no_unscoped g.2))⟩)

/-- The edges' region leaves every array it only reads. -/
theorem W4_keep (c : Dev nD) (r : Ref sig .tc) (h : ∀ w, r = arrRef spec1 w → (spec1 w).isOut = false) : W4 m c r = W3 m c r := by
  by_cases hw : ∃ w, r = arrRef spec1 w
  · obtain ⟨w, rfl⟩ := hw
    exact (W4_arr m c w).trans ((dat1 m c).arrAt_in w (h w rfl) _)
  · exact W4_of m c r (fun w e => hw ⟨w, e⟩)

/-- A buffer no operation and no region writes ends as it was launched. -/
theorem kept (c : Dev nD) (r : Ref sig .tc) (h0 : r ∉ hostOps0_W) (h1 : ∀ w, r ≠ arrRef spec0 w) (h2 : r ∉ hostOps1_W)
    (h3 : ∀ w, r = arrRef spec1 w → (spec1 w).isOut = false) (h4 : r ∉ hostOps2_W) : W5 m c r = m (c, Proc.devRef .tc r) :=
  (W5_of m c r h4).trans ((W4_keep m c r h3).trans ((W3_of m c r h2).trans ((W2_of m c r h1).trans (W1_of m c r h0))))

/-- The arguments' buffers. -/
def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem args_unwritten : ∀ r ∈ args, r.isScoped = false ∧ r ∉ hostOps0_W ∧ (∀ w, r ≠ arrRef spec0 w) ∧ r ∉ hostOps1_W ∧ (∀ w, r = arrRef spec1 w → (spec1 w).isOut = false) ∧ r ∉ hostOps2_W := by
  decide +kernel

/-- A state the run may end in has the arguments as they were. -/
theorem args_kept (c : Dev nD) (s : MemSt nD τ sig (Elt F)) (h : ∀ b ∈ ucRefs τ sig, s.mem (c, b) = W5 m c b) (r : Ref sig .tc) (hr : r ∈ args) :
    s.mem ((c.tc : Thread nD τ).loc r) = m ((c.tc : Thread nD τ).loc r) := by
  obtain ⟨hs, h0, h1, h2, h3, h4⟩ := args_unwritten r hr
  exact (h _ (Finset.mem_filter.mpr ⟨StableHlo.devRef_mem_tcRefs r, by simpa using hs⟩)).trans (kept m c r h0 h1 h2 h3 h4)

end Cert.Proof.KernelIdeal
-- ==== Proof.Frames.lean ====
/-
  The frames: each program runs to its end and leaves its arguments and its counters as they were.
-/
module

public import proofs.«01_k».proof.Defs
public import proofs.«01_k».proof.Proof.Run
public import proofs.«01_k».proof.Proof.Printed.Run
public import proofs.«01_k».proof.Proof.Gen.Pre_drawn
public import proofs.«01_k».proof.Proof.Gen.ReferenceIdeal
public import proofs.«01_k».proof.Proof.Gen.ReferenceIdeal.Run
public import Idealize.ShloMosaic.PureOps.IdealRules

@[expose] public section

noncomputable section

namespace Cert.Proof

open Idealize.ShloMosaic Idealize.ShloMosaic.TcCoe Idealize.SL.Sem

/-- Every argument of a state the run may end in. -/
theorem Kernel_kept (m : (ℓ : Loc Cert.Kernel.nD Cert.Kernel.τ Cert.Kernel.sig) → Buf (Elt Bits) ℓ) (c : Dev Cert.Kernel.nD) (s : MemSt Cert.Kernel.nD Cert.Kernel.τ Cert.Kernel.sig (Elt Bits))
    (h : ∀ b ∈ Pipeline.ucRefs Cert.Kernel.τ Cert.Kernel.sig, s.mem (c, b) = Kernel.W5 m c b) :
    s.mem ((c.tc : Thread Cert.Kernel.nD Cert.Kernel.τ).loc Cert.Kernel.main_arg0) = m ((c.tc : Thread Cert.Kernel.nD Cert.Kernel.τ).loc Cert.Kernel.main_arg0)
      ∧ s.mem ((c.tc : Thread Cert.Kernel.nD Cert.Kernel.τ).loc Cert.Kernel.main_arg1) = m ((c.tc : Thread Cert.Kernel.nD Cert.Kernel.τ).loc Cert.Kernel.main_arg1)
      ∧ s.mem ((c.tc : Thread Cert.Kernel.nD Cert.Kernel.τ).loc Cert.Kernel.main_arg2) = m ((c.tc : Thread Cert.Kernel.nD Cert.Kernel.τ).loc Cert.Kernel.main_arg2)
      ∧ s.mem ((c.tc : Thread Cert.Kernel.nD Cert.Kernel.τ).loc Cert.Kernel.main_arg3) = m ((c.tc : Thread Cert.Kernel.nD Cert.Kernel.τ).loc Cert.Kernel.main_arg3)
      ∧ s.mem ((c.tc : Thread Cert.Kernel.nD Cert.Kernel.τ).loc Cert.Kernel.main_arg4) = m ((c.tc : Thread Cert.Kernel.nD Cert.Kernel.τ).loc Cert.Kernel.main_arg4)
      ∧ s.mem ((c.tc : Thread Cert.Kernel.nD Cert.Kernel.τ).loc Cert.Kernel.main_arg5) = m ((c.tc : Thread Cert.Kernel.nD Cert.Kernel.τ).loc Cert.Kernel.main_arg5)
      ∧ s.mem ((c.tc : Thread Cert.Kernel.nD Cert.Kernel.τ).loc Cert.Kernel.main_arg6) = m ((c.tc : Thread Cert.Kernel.nD Cert.Kernel.τ).loc Cert.Kernel.main_arg6)
      ∧ s.mem ((c.tc : Thread Cert.Kernel.nD Cert.Kernel.τ).loc Cert.Kernel.main_arg7) = m ((c.tc : Thread Cert.Kernel.nD Cert.Kernel.τ).loc Cert.Kernel.main_arg7)
      ∧ s.mem ((c.tc : Thread Cert.Kernel.nD Cert.Kernel.τ).loc Cert.Kernel.main_arg8) = m ((c.tc : Thread Cert.Kernel.nD Cert.Kernel.τ).loc Cert.Kernel.main_arg8)
      ∧ s.mem ((c.tc : Thread Cert.Kernel.nD Cert.Kernel.τ).loc Cert.Kernel.main_arg9) = m ((c.tc : Thread Cert.Kernel.nD Cert.Kernel.τ).loc Cert.Kernel.main_arg9)
      ∧ s.mem ((c.tc : Thread Cert.Kernel.nD Cert.Kernel.τ).loc Cert.Kernel.main_arg10) = m ((c.tc : Thread Cert.Kernel.nD Cert.Kernel.τ).loc Cert.Kernel.main_arg10)
      ∧ s.mem ((c.tc : Thread Cert.Kernel.nD Cert.Kernel.τ).loc Cert.Kernel.main_arg11) = m ((c.tc : Thread Cert.Kernel.nD Cert.Kernel.τ).loc Cert.Kernel.main_arg11)
      ∧ s.mem ((c.tc : Thread Cert.Kernel.nD Cert.Kernel.τ).loc Cert.Kernel.main_arg12) = m ((c.tc : Thread Cert.Kernel.nD Cert.Kernel.τ).loc Cert.Kernel.main_arg12)
      ∧ s.mem ((c.tc : Thread Cert.Kernel.nD Cert.Kernel.τ).loc Cert.Kernel.main_arg13) = m ((c.tc : Thread Cert.Kernel.nD Cert.Kernel.τ).loc Cert.Kernel.main_arg13)
      ∧ s.mem ((c.tc : Thread Cert.Kernel.nD Cert.Kernel.τ).loc Cert.Kernel.main_arg14) = m ((c.tc : Thread Cert.Kernel.nD Cert.Kernel.τ).loc Cert.Kernel.main_arg14)
      ∧ s.mem ((c.tc : Thread Cert.Kernel.nD Cert.Kernel.τ).loc Cert.Kernel.main_arg15) = m ((c.tc : Thread Cert.Kernel.nD Cert.Kernel.τ).loc Cert.Kernel.main_arg15)
      ∧ s.mem ((c.tc : Thread Cert.Kernel.nD Cert.Kernel.τ).loc Cert.Kernel.main_arg16) = m ((c.tc : Thread Cert.Kernel.nD Cert.Kernel.τ).loc Cert.Kernel.main_arg16)
      ∧ s.mem ((c.tc : Thread Cert.Kernel.nD Cert.Kernel.τ).loc Cert.Kernel.main_arg17) = m ((c.tc : Thread Cert.Kernel.nD Cert.Kernel.τ).loc Cert.Kernel.main_arg17)
      ∧ s.mem ((c.tc : Thread Cert.Kernel.nD Cert.Kernel.τ).loc Cert.Kernel.main_arg18) = m ((c.tc : Thread Cert.Kernel.nD Cert.Kernel.τ).loc Cert.Kernel.main_arg18)
      ∧ s.mem ((c.tc : Thread Cert.Kernel.nD Cert.Kernel.τ).loc Cert.Kernel.main_arg19) = m ((c.tc : Thread Cert.Kernel.nD Cert.Kernel.τ).loc Cert.Kernel.main_arg19) :=
  have k := Kernel.args_kept m c s h
  ⟨k Cert.Kernel.main_arg0 (by decide),
    k Cert.Kernel.main_arg1 (by decide),
    k Cert.Kernel.main_arg2 (by decide),
    k Cert.Kernel.main_arg3 (by decide),
    k Cert.Kernel.main_arg4 (by decide),
    k Cert.Kernel.main_arg5 (by decide),
    k Cert.Kernel.main_arg6 (by decide),
    k Cert.Kernel.main_arg7 (by decide),
    k Cert.Kernel.main_arg8 (by decide),
    k Cert.Kernel.main_arg9 (by decide),
    k Cert.Kernel.main_arg10 (by decide),
    k Cert.Kernel.main_arg11 (by decide),
    k Cert.Kernel.main_arg12 (by decide),
    k Cert.Kernel.main_arg13 (by decide),
    k Cert.Kernel.main_arg14 (by decide),
    k Cert.Kernel.main_arg15 (by decide),
    k Cert.Kernel.main_arg16 (by decide),
    k Cert.Kernel.main_arg17 (by decide),
    k Cert.Kernel.main_arg18 (by decide),
    k Cert.Kernel.main_arg19 (by decide)⟩

/-- Every argument of a state the run may end in. -/
theorem KernelIdeal_kept (m : (ℓ : Loc Cert.KernelIdeal.nD Cert.KernelIdeal.τ Cert.KernelIdeal.sig) → Buf (Elt Ideal) ℓ) (c : Dev Cert.KernelIdeal.nD) (s : MemSt Cert.KernelIdeal.nD Cert.KernelIdeal.τ Cert.KernelIdeal.sig (Elt Ideal))
    (h : ∀ b ∈ Pipeline.ucRefs Cert.KernelIdeal.τ Cert.KernelIdeal.sig, s.mem (c, b) = KernelIdeal.W5 m c b) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ s.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ s.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ s.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ s.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ s.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ s.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ s.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ s.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ s.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ s.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ s.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ s.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ s.mem ((c.tc : Thread Cert.KernelIdeal.nD Cert.KernelIdeal.τ).loc Cert.KernelIdeal.main_arg19) = m ((c.tc : Thread Cert.KernelIdeal.nD Cert.KernelIdeal.τ).loc Cert.KernelIdeal.main_arg19) :=
  have k := KernelIdeal.args_kept m c s h
  ⟨k Cert.KernelIdeal.main_arg0 (by decide),
    k Cert.KernelIdeal.main_arg1 (by decide),
    k Cert.KernelIdeal.main_arg2 (by decide),
    k Cert.KernelIdeal.main_arg3 (by decide),
    k Cert.KernelIdeal.main_arg4 (by decide),
    k Cert.KernelIdeal.main_arg5 (by decide),
    k Cert.KernelIdeal.main_arg6 (by decide),
    k Cert.KernelIdeal.main_arg7 (by decide),
    k Cert.KernelIdeal.main_arg8 (by decide),
    k Cert.KernelIdeal.main_arg9 (by decide),
    k Cert.KernelIdeal.main_arg10 (by decide),
    k Cert.KernelIdeal.main_arg11 (by decide),
    k Cert.KernelIdeal.main_arg12 (by decide),
    k Cert.KernelIdeal.main_arg13 (by decide),
    k Cert.KernelIdeal.main_arg14 (by decide),
    k Cert.KernelIdeal.main_arg15 (by decide),
    k Cert.KernelIdeal.main_arg16 (by decide),
    k Cert.KernelIdeal.main_arg17 (by decide),
    k Cert.KernelIdeal.main_arg18 (by decide),
    k Cert.KernelIdeal.main_arg19 (by decide)⟩

theorem frame_printed : Cert.quiescent_Kernel := fun m g _ =>
  (θ_run Cert.Kernel.defs _ _).mono (fun r h => ⟨fun c => Kernel_kept m c r.2 (h.1 c), h.2⟩) (Kernel.run_main m g)

theorem frame_kernel : Cert.quiescent_KernelIdeal := fun m g _ =>
  (θ_run Cert.KernelIdeal.defs _ _).mono (fun r h => ⟨fun c => KernelIdeal_kept m c r.2 (h.1 c), h.2⟩) (KernelIdeal.run_main m g)

theorem frame_kernel_drawn : Cert.quiescent_KernelIdeal_pre_drawn := fun m g _ =>
  (θ_run Cert.KernelIdeal.defs _ _).mono (fun r h => ⟨fun c => KernelIdeal_kept m c r.2 (h.1 c), h.2⟩) (KernelIdeal.run_main m g)

theorem frame_reference : Cert.quiescent_ReferenceIdeal := fun m g _ =>
  (θ_run Cert.ReferenceIdeal.defs _ _).mono (fun r h => ⟨fun c => (h c).2.2.2, sem_eq_zero_of_no_sems (by decide) r.2⟩) (Cert.ReferenceIdeal.Value.run m g)

theorem frame_reference_drawn : Cert.quiescent_ReferenceIdeal_pre_drawn := fun m g _ =>
  (θ_run Cert.ReferenceIdeal.defs _ _).mono (fun r h => ⟨fun c => (h c).2.2.2, sem_eq_zero_of_no_sems (by decide) r.2⟩) (Cert.ReferenceIdeal.Value.run m g)

/-- The two named constants at the reals they stand for. -/
theorem preserves : Cert.preserves_Kernel_KernelIdeal :=
  ⟨IdealRules.named_const.statement Cert.KernelIdeal.κ "rbf_step" .f32 0x3FAAAAAB#32 ((4 / 3 : ℝ) : EReal) rfl,
   IdealRules.named_const.statement Cert.KernelIdeal.κ "inv_spread_sq" .f32 0x3F23D70A#32 ((16 / 25 : ℝ) : EReal) rfl⟩

end Cert.Proof
-- ==== Proof.Rank.lean ====
module

public import Idealize.ShloMosaic.Lib.ValueIdx
public import Mathlib.Data.Fintype.EquivFin
public import Mathlib.Data.Finset.Card

@[expose] public section

/-!
# Ranks

A finite family of extended reals, ordered by value and, among equal values, by position. The rank of a position is
the number of positions before it. A list of the positions of rank below sixteen survives a merge: the sixteen least of
a family cut in two parts are the sixteen least of the sixteen least of either part.
-/

noncomputable section

namespace Cert.Proof.Rank

open scoped Classical

variable {n m : Nat}

/-- Position `p` before position `q`: by value, then by position. -/
def before (v : Fin n → EReal) (p q : Fin n) : Prop := v p < v q ∨ (v p = v q ∧ p < q)

/-- The number of positions before `p`. -/
def rk (v : Fin n → EReal) (p : Fin n) : Nat := (Finset.univ.filter fun q => before v q p).card

theorem before_irrefl (v : Fin n → EReal) (p : Fin n) : ¬ before v p p := by simp [before]

theorem before_trans {v : Fin n → EReal} {p q r : Fin n} (h : before v p q) (h' : before v q r) : before v p r := by
  unfold before at *
  rcases h with h | ⟨h, l⟩ <;> rcases h' with h' | ⟨h', l'⟩
  · exact Or.inl (h.trans h')
  · exact Or.inl (h' ▸ h)
  · exact Or.inl (h ▸ h')
  · exact Or.inr ⟨h.trans h', l.trans l'⟩

theorem before_total (v : Fin n → EReal) {p q : Fin n} (h : p ≠ q) : before v p q ∨ before v q p := by
  unfold before
  rcases lt_trichotomy (v p) (v q) with e | e | e
  · exact Or.inl (Or.inl e)
  · rcases lt_or_gt_of_ne h with l | l
    · exact Or.inl (Or.inr ⟨e, l⟩)
    · exact Or.inr (Or.inr ⟨e.symm, l⟩)
  · exact Or.inr (Or.inl e)

theorem le_of_before {v : Fin n → EReal} {p q : Fin n} (h : before v p q) : v p ≤ v q := by
  rcases h with h | ⟨h, _⟩
  · exact h.le
  · exact h.le

theorem rk_lt_of_before {v : Fin n → EReal} {p q : Fin n} (h : before v p q) : rk v p < rk v q := by
  refine Finset.card_lt_card ⟨fun x hx => ?_, fun hs => ?_⟩
  · simp only [Finset.mem_filter, Finset.mem_univ, true_and] at hx ⊢
    exact before_trans hx h
  · have := hs (Finset.mem_filter.mpr ⟨Finset.mem_univ p, h⟩)
    exact before_irrefl v p (Finset.mem_filter.mp this).2

theorem before_iff_rk {v : Fin n → EReal} {p q : Fin n} : before v p q ↔ rk v p < rk v q := by
  refine ⟨rk_lt_of_before, fun h => ?_⟩
  by_cases e : p = q
  · exact absurd h (by simp [e])
  · rcases before_total v e with l | l
    · exact l
    · exact absurd (rk_lt_of_before l) (by omega)

theorem rk_inj {v : Fin n → EReal} {p q : Fin n} (h : rk v p = rk v q) : p = q := by
  by_contra e
  rcases before_total v e with l | l <;> have := rk_lt_of_before l <;> omega

theorem rk_lt (v : Fin n → EReal) (p : Fin n) : rk v p < n := by
  have : (Finset.univ.filter fun q => before v q p).card < (Finset.univ : Finset (Fin n)).card :=
    Finset.card_lt_card ⟨Finset.filter_subset _ _, fun hs => before_irrefl v p (Finset.mem_filter.mp (hs (Finset.mem_univ p))).2⟩
  simpa [rk] using this

/-- Every number below `n` is a position's rank. -/
theorem exists_rk (v : Fin n → EReal) {k : Nat} (hk : k < n) : ∃ p, rk v p = k := by
  have hinj : Function.Injective fun p : Fin n => (⟨rk v p, rk_lt v p⟩ : Fin n) := fun p q h => rk_inj (Fin.mk.inj h)
  obtain ⟨p, hp⟩ := (Finite.injective_iff_surjective.mp hinj) ⟨k, hk⟩
  exact ⟨p, congrArg Fin.val hp⟩

theorem le_of_rk_le {v : Fin n → EReal} {p q : Fin n} (h : rk v p ≤ rk v q) : v p ≤ v q := by
  rcases Nat.lt_or_eq_of_le h with l | e
  · exact le_of_before (before_iff_rk.mpr l)
  · rw [rk_inj e]

/-- The family after the `k` least are put out of the way. -/
def drops (v : Fin n → EReal) (k : Nat) (p : Fin n) : EReal := if rk v p < k then ⊤ else v p

theorem drops_least {v : Fin n → EReal} {q : Fin n} (p : Fin n) : v q ≤ drops v (rk v q) p := by
  unfold drops
  split_ifs with h
  · exact le_top
  · exact le_of_rk_le (not_lt.mp h)

theorem drops_self (v : Fin n → EReal) (q : Fin n) : drops v (rk v q) q = v q := if_neg (lt_irrefl _)

/-- Among the positions of the least value left, the one of rank `k` is first. -/
theorem drops_first {v : Fin n → EReal} {q p : Fin n} (hq : v q < ⊤) (h : drops v (rk v q) p = v q) : q ≤ p := by
  unfold drops at h
  split_ifs at h with l
  · exact absurd h.symm hq.ne
  · by_contra lt
    exact l (rk_lt_of_before (Or.inr ⟨h, not_le.mp lt⟩))

theorem drops_succ (v : Fin n → EReal) (q p : Fin n) : drops v (rk v q + 1) p = if p = q then ⊤ else drops v (rk v q) p := by
  unfold drops
  by_cases e : p = q
  · simp [e]
  · have : rk v p ≠ rk v q := fun h => e (rk_inj h)
    rw [if_neg e]
    congr 1
    exact propext (by omega)

theorem drops_top {v : Fin n → EReal} {q : Fin n} (hq : v q = ⊤) (p : Fin n) : drops v (rk v q) p = ⊤ :=
  top_le_iff.mp (hq ▸ drops_least p)

/-- `a`, `i` list the values and the positions (as words) of the finite entries of rank below `K`, infinity elsewhere. -/
structure Picks (v : Fin n → EReal) {K : Nat} (a : Fin K → EReal) (i : Fin K → BitVec 32) : Prop where
  hit : ∀ (p : Fin n) (k : Fin K), v p < ⊤ → rk v p = k.val → a k = v p ∧ i k = BitVec.ofNat 32 p.val
  miss : ∀ k : Fin K, (∀ p, v p < ⊤ → rk v p ≠ k.val) → a k = ⊤

theorem Picks.get {v : Fin n → EReal} {K : Nat} {a : Fin K → EReal} {i : Fin K → BitVec 32} (h : Picks v a i) {k : Fin K} (hk : a k < ⊤) :
    ∃ p, v p = a k ∧ rk v p = k.val ∧ i k = BitVec.ofNat 32 p.val := by
  by_contra hne
  refine hk.ne (h.miss k fun p hp hr => hne ⟨p, (h.hit p k hp hr).1.symm, hr, (h.hit p k hp hr).2⟩)

/-- A list of finite entries which has all of the `K` least lists them in rank order: an entry's rank is its rank in
    the list. -/
structure Lists (w : Fin n → EReal) (K : Nat) (c : Fin m → EReal) (e : Fin m → Fin n) : Prop where
  val : ∀ x, c x < ⊤ → w (e x) = c x
  mono : ∀ x y, c x < ⊤ → c x = c y → x < y → e x < e y
  all : ∀ p, w p < ⊤ → rk w p < K → ∃ x, c x < ⊤ ∧ e x = p

variable {w : Fin n → EReal} {K : Nat} {c : Fin m → EReal} {e : Fin m → Fin n}

theorem Lists.before_iff (h : Lists w K c e) {x y : Fin m} (hx : c x < ⊤) (hy : c y < ⊤) : before c x y ↔ before w (e x) (e y) := by
  have fwd : ∀ {x y : Fin m}, c x < ⊤ → c y < ⊤ → before c x y → before w (e x) (e y) := fun {x y} hx hy hb => by
    rcases hb with hb | ⟨hb, l⟩
    · exact Or.inl (by rw [h.val x hx, h.val y hy]; exact hb)
    · exact Or.inr ⟨by rw [h.val x hx, h.val y hy]; exact hb, h.mono x y hx hb l⟩
  refine ⟨fwd hx hy, fun hb => ?_⟩
  by_cases exy : x = y
  · subst exy; exact absurd hb (before_irrefl _ _)
  · rcases before_total c exy with l | l
    · exact l
    · exact absurd (before_trans hb (fwd hy hx l)) (before_irrefl _ _)

theorem Lists.inj (h : Lists w K c e) {x y : Fin m} (hx : c x < ⊤) (hy : c y < ⊤) (exy : e x = e y) : x = y := by
  by_contra ne
  rcases before_total c ne with l | l
  · exact before_irrefl w (e y) (exy ▸ (h.before_iff hx hy).mp l)
  · exact before_irrefl w (e y) (exy ▸ (h.before_iff hy hx).mp l)

theorem Lists.rk_eq (h : Lists w K c e) {x : Fin m} (hx : c x < ⊤) (hr : rk w (e x) < K) : rk c x = rk w (e x) := by
  refine Finset.card_bij (fun y _ => e y) (fun y hy => ?_) (fun y hy z hz eyz => ?_) (fun q hq => ?_)
  · have hb := (Finset.mem_filter.mp hy).2
    exact Finset.mem_filter.mpr ⟨Finset.mem_univ _, (h.before_iff ((le_of_before hb).trans_lt hx) hx).mp hb⟩
  · exact h.inj ((le_of_before (Finset.mem_filter.mp hy).2).trans_lt hx) ((le_of_before (Finset.mem_filter.mp hz).2).trans_lt hx) eyz
  · have hb := (Finset.mem_filter.mp hq).2
    have hwx : w (e x) < ⊤ := by rw [h.val x hx]; exact hx
    obtain ⟨y, hy, rfl⟩ := h.all q ((le_of_before hb).trans_lt hwx) ((rk_lt_of_before hb).trans hr)
    exact ⟨y, Finset.mem_filter.mpr ⟨Finset.mem_univ _, (h.before_iff hy hx).mpr hb⟩, rfl⟩

/-- What the list's own picks are, are the family's. -/
theorem Lists.picks (h : Lists w K c e) {ix : Fin m → BitVec 32} (hix : ∀ x, c x < ⊤ → ix x = BitVec.ofNat 32 (e x).val)
    {a : Fin K → EReal} {i : Fin K → BitVec 32} (ha : ∀ (k : Fin K) x, rk c x = k.val → a k = c x)
    (hi : ∀ (k : Fin K) x, c x < ⊤ → rk c x = k.val → i k = ix x) (hm : K ≤ m) : Picks w a i where
  hit p k hp hr := by
    obtain ⟨x, hx, rfl⟩ := h.all p hp (hr ▸ k.isLt)
    have hrx : rk c x = k.val := (h.rk_eq hx (hr ▸ k.isLt)).trans hr
    exact ⟨(ha k x hrx).trans (h.val x hx).symm, (hi k x hx hrx).trans (hix x hx)⟩
  miss k hk := by
    obtain ⟨x, hx⟩ := exists_rk c (k.isLt.trans_le hm)
    rw [ha k x hx]
    by_contra hne
    have hlt := lt_top_iff_ne_top.mpr hne
    have hw : w (e x) < ⊤ := by rw [h.val x hlt]; exact hlt
    by_cases hr : rk w (e x) < K
    · exact hk _ hw ((h.rk_eq hlt hr).symm.trans hx)
    · obtain ⟨q, hq⟩ := exists_rk w (k := k.val) (by have := rk_lt w (e x); have := k.isLt; omega)
      have hqw : w q < ⊤ := (le_of_rk_le (by have := k.isLt; omega : rk w q ≤ rk w (e x))).trans_lt hw
      exact hk q hqw hq

/-- The family with the positions from `b` on put out of the way. -/
def cut (w : Fin n → EReal) (b : Nat) (p : Fin n) : EReal := if p.val < b then w p else ⊤

theorem cut_lt {w : Fin n → EReal} {b : Nat} {p : Fin n} (h : cut w b p < ⊤) : p.val < b ∧ cut w b p = w p := by
  unfold cut at *
  split_ifs at h ⊢ with l
  · exact ⟨l, rfl⟩
  · exact absurd h (lt_irrefl _)

theorem cut_of_lt {w : Fin n → EReal} {b : Nat} {p : Fin n} (h : p.val < b) : cut w b p = w p := if_pos h

/-- Nothing is picked of nothing. -/
theorem picks_zero (w : Fin n → EReal) {K : Nat} (i : Fin K → BitVec 32) : Picks (cut w 0) (fun _ => ⊤) i where
  hit p k hp := absurd (cut_lt hp).1 (by omega)
  miss _ _ := rfl

/-- A part all out of the way changes nothing. -/
theorem cut_skip {w : Fin n → EReal} {b b' : Nat} (hb : b ≤ b') (h : ∀ p : Fin n, b ≤ p.val → p.val < b' → w p = ⊤) : cut w b' = cut w b := by
  funext p
  unfold cut
  by_cases l : p.val < b
  · rw [if_pos l, if_pos (by omega)]
  · by_cases l' : p.val < b'
    · rw [if_pos l', if_neg l, h p (by omega) l']
    · rw [if_neg l, if_neg l']

/-- The picks of the part below `b`, then those of the part `b`, …, `b + t - 1`, list the part below `b + t`. -/
theorem lists_merge {w : Fin n → EReal} {b t : Nat} (hn : 0 < n) (hbt : b + t ≤ n) {u : Fin t → EReal} (hu : ∀ q : Fin t, u q = w ⟨b + q.val, by omega⟩)
    {a₁ a₂ : Fin 16 → EReal} {i₁ i₂ : Fin 16 → BitVec 32} (h₁ : Picks (cut w b) a₁ i₁) (h₂ : Picks u a₂ i₂)
    {c : Fin 32 → EReal} {ix : Fin 32 → BitVec 32}
    (hc₁ : ∀ k : Fin 16, c ⟨k.val, by omega⟩ = a₁ k) (hc₂ : ∀ k : Fin 16, c ⟨16 + k.val, by omega⟩ = a₂ k)
    (hi₁ : ∀ k : Fin 16, ix ⟨k.val, by omega⟩ = i₁ k) (hi₂ : ∀ k : Fin 16, ix ⟨16 + k.val, by omega⟩ = i₂ k + BitVec.ofNat 32 b) :
    ∃ e : Fin 32 → Fin n, Lists (cut w (b + t)) 16 c e ∧ ∀ x, c x < ⊤ → ix x = BitVec.ofNat 32 (e x).val := by
  -- every finite entry of the list has its position, below `b` in the first half and from `b` on in the second
  have key : ∀ x : Fin 32, ∃ p : Fin n, c x < ⊤ → cut w (b + t) p = c x ∧ ix x = BitVec.ofNat 32 p.val ∧
      (x.val < 16 → p.val < b ∧ rk (cut w b) p = x.val) ∧
      (16 ≤ x.val → ∃ q : Fin t, p.val = b + q.val ∧ rk u q + 16 = x.val) := fun x => by
    by_cases hx : c x < ⊤
    swap
    · exact ⟨⟨0, hn⟩, fun h => absurd h hx⟩
    · by_cases l : x.val < 16
      · have e : c x = a₁ ⟨x.val, l⟩ := hc₁ ⟨x.val, l⟩
        obtain ⟨p, hp, hr, hi⟩ := h₁.get (k := ⟨x.val, l⟩) (by rw [← e]; exact hx)
        have hpb := cut_lt (by rw [hp, ← e]; exact hx : cut w b p < ⊤)
        refine ⟨p, fun _ => ⟨?_, (hi₁ ⟨x.val, l⟩).trans hi, fun _ => ⟨hpb.1, hr⟩, fun g => absurd l (by omega)⟩⟩
        rw [cut_of_lt (by omega), ← hpb.2, hp, e]
      · have hx16 : (⟨16 + (x.val - 16), by omega⟩ : Fin 32) = x := Fin.ext (by simp; omega)
        have e : c x = a₂ ⟨x.val - 16, by omega⟩ := by rw [← hc₂ ⟨x.val - 16, by omega⟩]; exact congrArg c hx16.symm
        have ei : ix x = i₂ ⟨x.val - 16, by omega⟩ + BitVec.ofNat 32 b := by
          rw [← hi₂ ⟨x.val - 16, by omega⟩]; exact congrArg ix hx16.symm
        obtain ⟨q, hq, hr, hi⟩ := h₂.get (k := ⟨x.val - 16, by omega⟩) (by rw [← e]; exact hx)
        refine ⟨⟨b + q.val, by omega⟩, fun _ => ⟨?_, ?_, fun g => absurd g l, fun _ => ⟨q, rfl, ?_⟩⟩⟩
        · rw [cut_of_lt (by simp), ← hu q, hq, e]
        · rw [ei, hi, ← BitVec.ofNat_add, Nat.add_comm]
        · simp only at hr; omega
  choose e he using key
  refine ⟨e, ⟨fun x hx => (he x hx).1, fun x y hx hxy l => ?_, fun p hp hr => ?_⟩, fun x hx => (he x hx).2.1⟩
  · have hy : c y < ⊤ := hxy ▸ hx
    have wx := (he x hx).1; have wy := (he y hy).1
    by_cases lx : x.val < 16
    · obtain ⟨px, rx⟩ := (he x hx).2.2.1 lx
      by_cases ly : y.val < 16
      · obtain ⟨py, ry⟩ := (he y hy).2.2.1 ly
        have hb := (before_iff_rk (v := cut w b) (p := e x) (q := e y)).mpr (by rw [rx, ry]; exact l)
        rcases hb with hb | ⟨_, hb⟩
        · rw [cut_of_lt px, cut_of_lt py] at hb
          rw [cut_of_lt (by omega)] at wx wy
          rw [wx, wy, hxy] at hb
          exact absurd hb (lt_irrefl _)
        · exact hb
      · obtain ⟨q, hq, _⟩ := (he y hy).2.2.2 (by omega)
        exact Fin.lt_def.mpr (by omega)
    · obtain ⟨q, hq, rq⟩ := (he x hx).2.2.2 (by omega)
      obtain ⟨q', hq', rq'⟩ := (he y hy).2.2.2 (by have := Fin.lt_def.mp l; omega)
      have hb := (before_iff_rk (v := u) (p := q) (q := q')).mpr (by have := Fin.lt_def.mp l; omega)
      rcases hb with hb | ⟨_, hb⟩
      · rw [hu, hu] at hb
        rw [cut_of_lt (by omega)] at wx wy
        rw [show (⟨b + q.val, by omega⟩ : Fin n) = e x from Fin.ext hq.symm, show (⟨b + q'.val, by omega⟩ : Fin n) = e y from Fin.ext hq'.symm,
          wx, wy, hxy] at hb
        exact absurd hb (lt_irrefl _)
      · have := Fin.lt_def.mp hb
        exact Fin.lt_def.mpr (by omega)
  · obtain ⟨pl, pe⟩ := cut_lt hp
    by_cases lp : p.val < b
    · have hle : rk (cut w b) p ≤ rk (cut w (b + t)) p := Finset.card_le_card fun q hq => by
        have hb := (Finset.mem_filter.mp hq).2
        have hpw : cut w b p < ⊤ := by rw [cut_of_lt lp, ← pe]; exact hp
        have hqb := cut_lt ((le_of_before hb).trans_lt hpw)
        refine Finset.mem_filter.mpr ⟨Finset.mem_univ _, ?_⟩
        unfold before at hb ⊢
        rw [cut_of_lt (by omega : q.val < b + t), cut_of_lt pl]
        rwa [cut_of_lt hqb.1, cut_of_lt lp] at hb
      have hlt : rk (cut w b) p < 16 := hle.trans_lt hr
      have hpw : cut w b p < ⊤ := by rw [cut_of_lt lp, ← pe]; exact hp
      have ha := (h₁.hit p ⟨rk (cut w b) p, hlt⟩ hpw rfl).1
      have hcx : c ⟨rk (cut w b) p, by omega⟩ < ⊤ := by rw [hc₁ ⟨rk (cut w b) p, hlt⟩, ha]; exact hpw
      exact ⟨_, hcx, rk_inj ((he _ hcx).2.2.1 hlt).2⟩
    · have hq0 : p.val - b < t := by omega
      have hpq : (⟨b + (⟨p.val - b, hq0⟩ : Fin t).val, by omega⟩ : Fin n) = p := Fin.ext (by simp; omega)
      have huw : u ⟨p.val - b, hq0⟩ = cut w (b + t) p := by rw [hu, pe]; exact congrArg w hpq
      have hle : rk u ⟨p.val - b, hq0⟩ ≤ rk (cut w (b + t)) p := by
        refine Finset.card_le_card_of_injOn (fun q => (⟨b + q.val, by omega⟩ : Fin n)) (fun q hq => ?_) (fun q _ q' _ h => Fin.ext (by have := congrArg Fin.val h; simp only at this; omega))
        have hb := (Finset.mem_filter.mp hq).2
        refine Finset.mem_filter.mpr ⟨Finset.mem_univ _, ?_⟩
        unfold before at hb ⊢
        rw [cut_of_lt (by simp : (⟨b + q.val, by omega⟩ : Fin n).val < b + t), ← hu q, ← huw]
        rcases hb with hb | ⟨hb, hl⟩
        · exact Or.inl hb
        · exact Or.inr ⟨hb, by have := Fin.lt_def.mp hl; exact Fin.lt_def.mpr (by simp only at this ⊢; omega)⟩
      have hlt : rk u ⟨p.val - b, hq0⟩ < 16 := hle.trans_lt hr
      have hpw : u ⟨p.val - b, hq0⟩ < ⊤ := by rw [huw]; exact hp
      have ha := (h₂.hit ⟨p.val - b, hq0⟩ ⟨_, hlt⟩ hpw rfl).1
      have hcx : c ⟨16 + rk u ⟨p.val - b, hq0⟩, by omega⟩ < ⊤ := by rw [hc₂ ⟨_, hlt⟩, ha]; exact hpw
      obtain ⟨q, hq, rq⟩ := (he _ hcx).2.2.2 (by simp)
      have : q = ⟨p.val - b, hq0⟩ := rk_inj (v := u) (by simp only at rq; omega)
      exact ⟨_, hcx, Fin.ext (by rw [hq, this]; simp; omega)⟩

end Cert.Proof.Rank
-- ==== Proof.Extract.lean ====
/-
  What taking the least of every row gives, entry by entry: after `k` columns of a row are out of the way, the least
  entry left is the entry of rank `k`, and the first column holding it is that entry's column (`low_nth`, `pos_nth`).
-/
module

public import proofs.«01_k».proof.Proof.KnnOps
public import proofs.«01_k».proof.Proof.Rank
public import Idealize.ShloMosaic.Lib.Pointwise
public import Idealize.ShloMosaic.Lib.SortNet.Extract
public import Idealize.ShloMosaic.PureOps.Ideal.Laws

@[expose] public section

noncomputable section

namespace Cert.Proof.KernelIdeal

open Cert.KernelIdeal Cert.KernelIdeal.Gen
open Idealize.ShloMosaic Idealize.ShloMosaic.TcCoe
open Cert.Proof.Rank

/-- The least of a set of extended reals, from infinity, is attained at an element below the others. -/
theorem fold_min_eq {ι : Type} (s : Finset ι) (f : ι → EReal) (q : ι) (hq : q ∈ s) (h : ∀ i ∈ s, f q ≤ f i) :
    s.fold min ⊤ f = f q :=
  le_antisymm (Finset.fold_min_le _ |>.mpr (Or.inr ⟨q, hq, le_rfl⟩)) (Finset.le_fold_min _ |>.mpr ⟨le_top, h⟩)

/-- The least of a set of words read signed, likewise. -/
theorem fold_minsi_eq {ι : Type} (s : Finset ι) (f : ι → BitVec 32) (q : ι) (hq : q ∈ s) (h : ∀ i ∈ s, (f q).toInt ≤ (f i).toInt) :
    s.fold IntOp.minsi 2147483647#32 f = f q := by
  apply BitVec.eq_of_toInt_eq
  rw [← Finset.fold_hom (op := IntOp.minsi) (op' := min) (m := BitVec.toInt) fun a b => SortNet.toInt_minsi a b]
  refine le_antisymm (Finset.fold_min_le _ |>.mpr (Or.inr ⟨q, hq, le_rfl⟩)) (Finset.le_fold_min _ |>.mpr ⟨?_, h⟩)
  have := BitVec.toInt_le (x := f q)
  have e : (2147483647#32 : BitVec 32).toInt = 2147483647 := by decide
  rw [e]; omega

theorem inf_eq : FloatOps.ofBits (F := Ideal) .f32 0x7F800000#32 = (⊤ : EReal) := by
  simp [FloatOps.ofBits, Ideal.ofBits, Ideal.ieee]

section Rows

variable {n : Nat}
  (hr : (⟨2, ![128, n]⟩ : Shape).Reduces [1] S128) (hb : S128x1.Broadcasts (⟨2, ![128, n]⟩ : Shape))
  (io : IVec (⟨2, ![128, n]⟩ : Shape) 32)

include hr in
/-- A matrix reduced along its rows keeps the row. -/
theorem drop_row (i : (⟨2, ![128, n]⟩ : Shape).Idx) : (hr.drop i 0 : Nat) = i 0 :=
  hr.drop_apply_val_of_eq i 0 0 (by exact (by decide : 0 < ((⟨2, ![128, 0]⟩ : Shape).kept [1]).length))
    (by exact (by decide : ((⟨2, ![128, 0]⟩ : Shape).kept [1])[0] = 0))

/-- The indices reduced to row `r` are those of the row. -/
theorem mem_row (r : Fin 128) (i : (⟨2, ![128, n]⟩ : Shape).Idx) :
    i ∈ (Finset.univ.filter fun i => hr.drop i = (ix1 r : S128.Idx)) ↔ i 0 = r := by
  rw [Finset.mem_filter]
  constructor
  · rintro ⟨-, h⟩
    have := congrArg Fin.val (congrFun h 0)
    rw [drop_row] at this
    exact Fin.ext this
  · rintro h
    refine ⟨Finset.mem_univ _, funext fun b => ?_⟩
    match b with
    | ⟨0, _⟩ => exact Fin.ext ((drop_row hr i).trans (congrArg Fin.val h))

/-- Row `r` of a matrix. -/
abbrev row {α : Type} (v : (⟨2, ![128, n]⟩ : Shape).Idx → α) (r : Fin 128) : Fin n → α := fun p => v (ix2 r p)

theorem row_ext {r : Fin 128} {i : (⟨2, ![128, n]⟩ : Shape).Idx} (h : i 0 = r) : i = ix2 r (i 1) := by
  rw [← h]; exact eq_ix2 i

theorem column_apply {α : Type} (x : S128.Idx → α) (r : Fin 128) (z : Fin 1) : shapeCast S128x1 x shapeCasts_S128_S128x1 (ix2 r z) = x (ix1 r) := by
  simp only [pointwise]

theorem across_apply {α : Type} (x : S128x1.Idx → α) (r : Fin 128) (p : Fin n) :
    broadcastTo (⟨2, ![128, n]⟩ : Shape) x hb (ix2 r p) = x (ix2 r 0) := by
  simp only [pointwise]
  exact congrArg x (congrArg₂ ix2 (dif_neg (by decide)) (dif_pos rfl))

variable {v : FVec Ideal (⟨2, ![128, n]⟩ : Shape) .f32} {r : Fin 128} {q : Fin n}

theorem low_apply (h : ∀ p, row v r q ≤ row v r p) (z : Fin 1) : low hr v (ix2 r z) = row v r q := by
  unfold low
  refine (column_apply _ r z).trans ((multiReduction_minimumf_eq_fold _ _ _ _ _ _).trans ?_)
  rw [inf_eq]
  refine fold_min_eq _ v (ix2 r q) ((mem_row hr r _).mpr rfl) fun i hi => ?_
  rw [row_ext ((mem_row hr r i).mp hi)]; exact h _

/-- A signed minimum along the rows, of words below the starting one. -/
theorem least_apply (f : IVec (⟨2, ![128, n]⟩ : Shape) 32) (h : ∀ p, (row f r q).toInt ≤ (row f r p).toInt) (z : Fin 1) :
    shapeCast S128x1 (multiReductionI .minsi [1] S128 f 2147483647#32 hr rfl) shapeCasts_S128_S128x1 (ix2 r z) = row f r q := by
  refine (column_apply _ r z).trans ((multiReductionI_eq_fold _ _ _ _ _ _).trans ?_)
  refine fold_minsi_eq _ f (ix2 r q) ((mem_row hr r _).mpr rfl) fun i hi => ?_
  rw [row_ext ((mem_row hr r i).mp hi)]; exact h _

theorem cmpf_oeq (a b : EReal) : FloatOps.cmpf (F := Ideal) (φ := .f32) .oeq a b = if a = b then 1#1 else 0#1 := by
  show BitVec.ofBool (decide (a = b)) = _
  by_cases h : a = b <;> simp [h]

/-- The columns' numbers. -/
def Counts : Prop := ∀ (r : Fin 128) (p : Fin n), io (ix2 r p) = BitVec.ofNat 32 p.val

theorem toInt_of_lt {a : Nat} (h : a < 2147483648) : (BitVec.ofNat 32 a).toInt = a := by
  rw [BitVec.toInt_eq_toNat_of_lt (by rw [BitVec.toNat_ofNat]; omega), BitVec.toNat_ofNat]
  omega

variable (hio : Counts io) (hn : n ≤ 1073741824)

include hio hn in
theorem pos_apply (h : ∀ p, row v r q ≤ row v r p) (hf : ∀ p, row v r p = row v r q → q ≤ p) (z : Fin 1) :
    pos hr hb io v (ix2 r z) = BitVec.ofNat 32 q.val := by
  have hv : ∀ p, row (select (cmpf .oeq v (broadcastTo (⟨2, ![128, n]⟩ : Shape) (low hr v) hb)) io (broadcast (⟨2, ![128, n]⟩ : Shape) 1073741824#32)) r p
      = if row v r p = row v r q then BitVec.ofNat 32 p.val else 1073741824#32 := fun p => by
    show Scalar.select (FloatOps.cmpf .oeq (v (ix2 r p)) (broadcastTo (⟨2, ![128, n]⟩ : Shape) (low hr v) hb (ix2 r p))) (io (ix2 r p)) 1073741824#32 = _
    rw [across_apply, low_apply hr h, cmpf_oeq, hio r p]
    split_ifs <;> rfl
  have hq := q.isLt
  unfold pos
  rw [least_apply hr (q := q), hv, if_pos rfl]
  intro p
  rw [hv, hv, if_pos rfl, toInt_of_lt (by omega)]
  split_ifs with e
  · have := hf p e
    have hp := p.isLt
    rw [toInt_of_lt (by omega)]
    exact_mod_cast this
  · have e : (1073741824#32 : BitVec 32).toInt = 1073741824 := by decide
    rw [e]; omega

include hio hn in
theorem at1_apply (h : ∀ p, row v r q ≤ row v r p) (hf : ∀ p, row v r p = row v r q → q ≤ p) (p : Fin n) :
    at1 hr hb io v (ix2 r p) = if p = q then 1#1 else 0#1 := by
  show IntOp.cmpi .eq (io (ix2 r p)) (broadcastTo (⟨2, ![128, n]⟩ : Shape) (pos hr hb io v) hb (ix2 r p)) = _
  rw [across_apply, pos_apply hr hb io hio hn h hf, hio r p]
  have hp := p.isLt; have hq := q.isLt
  have : (BitVec.ofNat 32 p.val = BitVec.ofNat 32 q.val) ↔ p = q := by
    rw [← BitVec.toInt_inj, toInt_of_lt (by omega), toInt_of_lt (by omega), Fin.ext_iff]
    exact Int.ofNat_inj
  by_cases e : p = q
  · subst e; simp [IntOp.cmpi]
  · rw [if_neg e]
    have : (BitVec.ofNat 32 p.val == BitVec.ofNat 32 q.val) = false := beq_false_of_ne fun h => e (this.mp h)
    show BitVec.ofBool (BitVec.ofNat 32 p.val == BitVec.ofNat 32 q.val) = 0#1
    rw [this]; rfl

include hio hn in
/-- After `k` columns are out of the way, the entries of rank below `k` are infinite and the others as they were. -/
theorem nth_apply (d : FVec Ideal (⟨2, ![128, n]⟩ : Shape) .f32) (r : Fin 128) (k : Nat) (hk : k ≤ n) (p : Fin n) :
    nth hr hb io d k (ix2 r p) = drops (row d r) k p := by
  induction k generalizing p with
  | zero => simp [nth, drops]
  | succ k ih =>
    obtain ⟨q, rfl⟩ := exists_rk (row d r) (k := k) (by omega)
    have ih := fun p => ih (by omega) p
    show Scalar.select (at1 hr hb io (nth hr hb io d (rk (row d r) q)) (ix2 r p)) (FloatOps.ofBits .f32 0x7F800000#32) (nth hr hb io d (rk (row d r) q) (ix2 r p)) = _
    rw [inf_eq, ih p]
    rcases eq_or_ne (row d r q) ⊤ with e | e
    · rw [drops_top e, drops_succ, drops_top e]
      simp only [ite_self]
      unfold Scalar.select
      split_ifs <;> rfl
    · have hlt := lt_top_iff_ne_top.mpr e
      rw [drops_succ, at1_apply hr hb io hio hn (q := q) (fun p => ?_) (fun p => ?_)]
      · split_ifs <;> rfl
      · show nth hr hb io d _ (ix2 r q) ≤ nth hr hb io d _ (ix2 r p)
        rw [ih, ih, drops_self]; exact drops_least p
      · show nth hr hb io d _ (ix2 r p) = nth hr hb io d _ (ix2 r q) → _
        rw [ih, ih, drops_self]; exact drops_first hlt

include hio hn in
/-- The least entry left is the entry of rank `k`, -/
theorem low_nth (d : FVec Ideal (⟨2, ![128, n]⟩ : Shape) .f32) (r : Fin 128) (q : Fin n) (z : Fin 1) :
    low hr (nth hr hb io d (rk (row d r) q)) (ix2 r z) = row d r q := by
  have hk := (rk_lt (row d r) q).le
  rw [low_apply hr (q := q) fun p => ?_]
  · exact (nth_apply hr hb io hio hn d r _ hk q).trans (drops_self _ _)
  · show nth hr hb io d _ (ix2 r q) ≤ nth hr hb io d _ (ix2 r p)
    rw [nth_apply hr hb io hio hn d r _ hk, nth_apply hr hb io hio hn d r _ hk, drops_self]; exact drops_least p

include hio hn in
/-- and when it is finite, the first column holding it is that entry's column. -/
theorem pos_nth (d : FVec Ideal (⟨2, ![128, n]⟩ : Shape) .f32) (r : Fin 128) (q : Fin n) (hq : row d r q < ⊤) (z : Fin 1) :
    pos hr hb io (nth hr hb io d (rk (row d r) q)) (ix2 r z) = BitVec.ofNat 32 q.val := by
  have hk := (rk_lt (row d r) q).le
  have e := fun p => nth_apply hr hb io hio hn d r _ hk p
  rw [pos_apply hr hb io hio hn (q := q) (fun p => ?_) (fun p => ?_)]
  · show nth hr hb io d _ (ix2 r q) ≤ nth hr hb io d _ (ix2 r p)
    rw [e, e, drops_self]; exact drops_least p
  · show nth hr hb io d _ (ix2 r p) = nth hr hb io d _ (ix2 r q) → _
    rw [e, e, drops_self]; exact drops_first hq

include hio hn in
/-- The word beside that entry is what is picked. -/
theorem pick_nth (d : FVec Ideal (⟨2, ![128, n]⟩ : Shape) .f32) (ix : IVec (⟨2, ![128, n]⟩ : Shape) 32) (r : Fin 128) (q : Fin n) (hq : row d r q < ⊤)
    (hi : (row ix r q).toInt ≤ 1073741824) (z : Fin 1) :
    pick hr hb io ix (nth hr hb io d (rk (row d r) q)) (ix2 r z) = row ix r q := by
  have hk := (rk_lt (row d r) q).le
  have e := fun p => nth_apply hr hb io hio hn d r _ hk p
  have hv : ∀ p, row (select (at1 hr hb io (nth hr hb io d (rk (row d r) q))) ix (broadcast (⟨2, ![128, n]⟩ : Shape) 1073741824#32)) r p
      = if p = q then row ix r p else 1073741824#32 := fun p => by
    show Scalar.select (at1 hr hb io (nth hr hb io d (rk (row d r) q)) (ix2 r p)) (ix (ix2 r p)) 1073741824#32 = _
    rw [at1_apply hr hb io hio hn (q := q) (fun p => ?_) (fun p => ?_)]
    · split_ifs <;> rfl
    · show nth hr hb io d _ (ix2 r q) ≤ nth hr hb io d _ (ix2 r p)
      rw [e, e, drops_self]; exact drops_least p
    · show nth hr hb io d _ (ix2 r p) = nth hr hb io d _ (ix2 r q) → _
      rw [e, e, drops_self]; exact drops_first hq
  unfold pick
  rw [least_apply hr (q := q), hv, if_pos rfl]
  intro p
  rw [hv, hv, if_pos rfl]
  split_ifs with e
  · rw [e]
  · have e : (1073741824#32 : BitVec 32).toInt = 1073741824 := by decide
    rw [e]; exact hi

end Rows

end Cert.Proof.KernelIdeal
-- ==== Proof.Tile.lean ====
/-
  One trip of the neighbour search: the sixteen carried along are the sixteen least of the distances seen so far, and
  merging a tile makes them the sixteen least with the tile's (`step_picks`).
-/
module

public import proofs.«01_k».proof.Proof.Extract

@[expose] public section

noncomputable section

namespace Cert.Proof.KernelIdeal

open Cert.KernelIdeal Cert.KernelIdeal.Gen
open Idealize.ShloMosaic Idealize.ShloMosaic.TcCoe
open Cert.Proof.Rank

theorem side_apply {α : Type} (f : Nat → S128x1.Idx → α) (r : Fin 128) (k : Fin 16) : side f (ix2 r k) = f k.val (ix2 r 0) := by
  unfold side
  fin_cases k <;> simp [pointwise]

theorem counts512 : Counts columns512 := fun r p => by simp [pointwise]
theorem counts32 : Counts columns32 := fun r p => by simp [pointwise]

/-- What is taken of a tile are the tile's picks. -/
theorem tile_picks (d : FVec Ideal S128x512 .f32) (r : Fin 128) :
    Picks (row d r) (fun k : Fin 16 => tile1 d (ix2 r k)) (fun k : Fin 16 => tile2 d (ix2 r k)) where
  hit p k hp hr := by
    simp only [tile1, tile2, side_apply, ← hr]
    exact ⟨low_nth _ _ _ counts512 (by decide) d r p 0, pos_nth _ _ _ counts512 (by decide) d r p hp 0⟩
  miss k hk := by
    obtain ⟨q, hq⟩ := exists_rk (row d r) (k := k.val) (by omega)
    simp only [tile1, side_apply, ← hq]
    rw [low_nth _ _ _ counts512 (by decide) d r q 0]
    by_contra hne
    exact hk q (lt_top_iff_ne_top.mpr hne) hq

section Pair

variable {α : Type} (x y : S128x16.Idx → α) (r : Fin 128) (k : Fin 16)

theorem pair_fst : concatenate S128x32 1 [⟨S128x16, x⟩, ⟨S128x16, y⟩] concatenates_S128x16_S128x16_S128x32_d1 (ix2 r ⟨k.val, by omega⟩) = x (ix2 r k) := by
  simp [pointwise]

theorem pair_snd : concatenate S128x32 1 [⟨S128x16, x⟩, ⟨S128x16, y⟩] concatenates_S128x16_S128x16_S128x32_d1 (ix2 r ⟨16 + k.val, by omega⟩) = y (ix2 r k) := by
  simp [pointwise]

end Pair

/-- A trip on a tile: picks of the part below `b` become picks of the part below `b + 512`. -/
theorem step_picks (w : Fin 8192 → EReal) (b : Nat) (hb : b + 512 ≤ 8192) (k : BitVec 32) (hk : k * 512#32 = BitVec.ofNat 32 b)
    (xs : Vec Ideal S128x3 .f32) (ss : Vec Ideal S128x1 .i32) (tx ty tz : Vec Ideal S1x1x512 .f32) (ts : Vec Ideal S1x1x512 .i32)
    (acc : FVec Ideal S128x16 .f32 × IVec S128x16 32) (r : Fin 128)
    (hd : ∀ q : Fin 512, dist (F := Ideal) (k0_pay2 xs) (k0_pay3 xs) (k0_pay4 xs) (k0_pay5 (F := Ideal) ss) tx ty tz ts (ix2 r q) = w ⟨b + q.val, by omega⟩)
    (h : Picks (cut w b) (fun k : Fin 16 => acc.1 (ix2 r k)) (fun k : Fin 16 => acc.2 (ix2 r k))) :
    Picks (cut w (b + 512)) (fun j : Fin 16 => (tileStep xs ss k tx ty tz ts acc).1 (ix2 r j)) (fun j : Fin 16 => (tileStep xs ss k tx ty tz ts acc).2 (ix2 r j)) := by
  generalize hD : dist (F := Ideal) (k0_pay2 xs) (k0_pay3 xs) (k0_pay4 xs) (k0_pay5 (F := Ideal) ss) tx ty tz ts = d at hd
  have hs : tileStep xs ss k tx ty tz ts acc = (merge1 (both1 acc.1 d), side (merge2 (both1 acc.1 d) (both2 acc.2 k d))) := by
    rw [← hD]; rfl
  rw [hs]
  obtain ⟨e, he, hix⟩ := lists_merge (by decide) hb hd h (tile_picks d r)
    (c := row (both1 acc.1 d) r) (ix := row (both2 acc.2 k d) r)
    (fun k => pair_fst _ _ r k) (fun k => pair_snd _ _ r k) (fun k => pair_fst _ _ r k)
    (fun j => (pair_snd _ _ r j).trans (by show tile2 d (ix2 r j) + k * 512#32 = _; rw [hk]))
  refine he.picks hix (fun j x hx => ?_) (fun j x hlt hx => ?_) (by decide)
  · simp only [merge1, side_apply, ← hx]
    exact low_nth _ _ _ counts32 (by decide) _ r x 0
  · simp only [merge2, side_apply, ← hx]
    refine pick_nth _ _ _ counts32 (by decide) _ _ r x hlt ?_ 0
    rw [hix x hlt, toInt_of_lt (by omega)]
    omega

end Cert.Proof.KernelIdeal
-- ==== Proof.Nearest.lean ====
/-
  The neighbours a point should have: the sixteen points of least distance among those of the same sample, ties to the
  lower number; a point with fewer has itself in the places left over.
-/
module

public import proofs.«01_k».proof.Proof.Rank
public import Idealize.ShloMosaic.Lib.Pointwise

@[expose] public section

noncomputable section

namespace Cert.Proof.Spec

open Idealize.ShloMosaic
open Cert.Proof.Rank

/-- The atoms' coordinates, and the points' samples. -/
abbrev Atoms := (⟨3, ![8192, 4, 3]⟩ : Shape).Idx → EReal
abbrev Words := (⟨1, ![8192]⟩ : Shape).Idx → BitVec 32

variable (A : Atoms) (S : Words)

/-- The distance of point `j` from point `i`, infinite when they are of two samples. -/
def near (i j : Fin 8192) : EReal :=
  if S (ix1 j) = S (ix1 i) then
    Ideal.sqrt (((A (ix3 j 1 0) - A (ix3 i 1 0)) * (A (ix3 j 1 0) - A (ix3 i 1 0))
      + (A (ix3 j 1 1) - A (ix3 i 1 1)) * (A (ix3 j 1 1) - A (ix3 i 1 1)))
      + (A (ix3 j 1 2) - A (ix3 i 1 2)) * (A (ix3 j 1 2) - A (ix3 i 1 2)))
  else ⊤

/-- The point of rank `k` by distance from `i`. -/
def nearest (i : Fin 8192) (k : Fin 16) : Fin 8192 := (exists_rk (near A S i) (k := k.val) (by omega)).choose

theorem rk_nearest (i : Fin 8192) (k : Fin 16) : rk (near A S i) (nearest A S i k) = k.val :=
  (exists_rk (near A S i) (k := k.val) (by omega)).choose_spec

theorem nearest_eq {i : Fin 8192} {k : Fin 16} {j : Fin 8192} (h : rk (near A S i) j = k.val) : nearest A S i k = j :=
  rk_inj ((rk_nearest A S i k).trans h.symm)

/-- Whether point `i` has a `k`-th neighbour, -/
def has (i : Fin 8192) (k : Fin 16) : Prop := near A S i (nearest A S i k) < ⊤

open scoped Classical in
/-- and the neighbour it is given. -/
def nbr (i : Fin 8192) (k : Fin 16) : Fin 8192 := if has A S i k then nearest A S i k else i

/-- Finite coordinates of every point's second atom. -/
def Finite : Prop := ∀ (i : Fin 8192) (a : Fin 3), A (ix3 i 1 a) ≠ ⊤ ∧ A (ix3 i 1 a) ≠ ⊥

variable {A S}

theorem sq_real {x y : EReal} (hx : x ≠ ⊤ ∧ x ≠ ⊥) (hy : y ≠ ⊤ ∧ y ≠ ⊥) : ∃ d : ℝ, 0 ≤ d ∧ (x - y) * (x - y) = (d : EReal) := by
  lift x to ℝ using hx
  lift y to ℝ using hy
  exact ⟨(x - y) * (x - y), mul_self_nonneg _, by norm_cast⟩

/-- Points of one sample are at finite distance. -/
theorem near_lt_top (h : Finite A) {i j : Fin 8192} : near A S i j < ⊤ ↔ S (ix1 j) = S (ix1 i) := by
  unfold near
  split_ifs with e
  · refine ⟨fun _ => e, fun _ => ?_⟩
    obtain ⟨a, ha, ea⟩ := sq_real (h j 0) (h i 0)
    obtain ⟨b, hb, eb⟩ := sq_real (h j 1) (h i 1)
    obtain ⟨c, hc, ec⟩ := sq_real (h j 2) (h i 2)
    rw [ea, eb, ec, ← EReal.coe_add, ← EReal.coe_add, Ideal.sqrt_coe, if_neg (by linarith)]
    exact EReal.coe_lt_top _
  · simp [e]

/-- A point's neighbour is of its sample. -/
theorem sample_nbr (i : Fin 8192) (k : Fin 16) : S (ix1 (nbr A S i k)) = S (ix1 i) := by
  unfold nbr
  split_ifs with h
  · by_contra e
    unfold has near at h
    rw [if_neg e] at h
    exact lt_irrefl _ h
  · rfl

/-- What picks of all distances give: the neighbour where there is one, infinity where not. -/
theorem picks_nbr {i : Fin 8192} {a : Fin 16 → EReal} {w : Fin 16 → BitVec 32} (h : Picks (near A S i) a w) (k : Fin 16) :
    (has A S i k → a k < ⊤ ∧ w k = BitVec.ofNat 32 (nbr A S i k).val) ∧ (¬ has A S i k → a k = ⊤) := by
  constructor
  · intro hk
    obtain ⟨ha, hw⟩ := h.hit (nearest A S i k) k hk (rk_nearest A S i k)
    unfold nbr
    rw [if_pos hk]
    exact ⟨ha ▸ hk, hw⟩
  · intro hk
    refine h.miss k fun p hp hr => hk ?_
    unfold has
    rw [nearest_eq A S hr]; exact hp

end Cert.Proof.Spec
-- ==== Proof.Search.lean ====
/-
  The neighbour search on a block of 128 points against all sixteen tiles: what the block writes out are the
  neighbours and the mask of its points (`nbrBlock_apply`, `maskBlock_apply`).
-/
module

public import proofs.«01_k».proof.Proof.Tile
public import proofs.«01_k».proof.Proof.Nearest
public import proofs.«01_k».proof.Proof.Values

@[expose] public section

noncomputable section

namespace Cert.Proof.KernelIdeal

open Cert.KernelIdeal Cert.KernelIdeal.Gen
open Idealize.ShloMosaic Idealize.ShloMosaic.TcCoe
open Cert.Proof.Rank Cert.Proof.Spec

theorem trips16 : k0_t1_loop.trips = 16 := by decide +kernel

theorem off1_eq : ∀ i : grid0.Coords, k0_off1 i = ![(i 0).val] := by decide +kernel
theorem off2_eq : ∀ k : Fin k0_t1_loop.trips, k0_off2 k = ![k.val] := by decide +kernel
theorem off3_eq : ∀ k : Fin k0_t1_loop.trips, k0_off3 k = ![k.val, 0, 0] := by decide +kernel
theorem off4_eq : ∀ k : Fin k0_t1_loop.trips, k0_off4 k = ![k.val, 1, 0] := by decide +kernel
theorem off5_eq : ∀ k : Fin k0_t1_loop.trips, k0_off5 k = ![k.val, 2, 0] := by decide +kernel
theorem off6_eq : ∀ k : Fin k0_t1_loop.trips, k0_off6 k = ![k.val, 0, 0] := by decide +kernel
theorem iv_eq : ∀ k : Fin k0_t1_loop.trips, Scf.iv 0#32 1#32 k * 512#32 = BitVec.ofNat 32 (512 * k.val) := by decide +kernel

/-- A word of a table, by its number. -/
theorem wordAt_apply {N : Nat} (X : (⟨1, ![N]⟩ : Shape).Idx → BitVec 32) (off : Fin 1 → Nat) (h : ∀ a, off a + S1.size a ≤ (⟨1, ![N]⟩ : Shape).size a)
    (k : Fin N) (hk : off 0 = k.val) : wordAt X off h = X (ix1 k) := by
  unfold wordAt sub
  refine congrArg X (funext fun a => ?_)
  match a with
  | ⟨0, _⟩ =>
    refine Fin.ext ?_
    simp [Rect.unit, Rect.toLoadRect, LoadRect.idx, hk]
    exact Nat.lt_one_iff.mp (Fin.isLt _)

/-- A loaded plane of a stack, by its entry. -/
theorem sub_plane {a b c : Nat} {α : Type} (X : (⟨3, ![a, b, c]⟩ : Shape).Idx → α) (off : Fin 3 → Nat)
    (h : ∀ x, off x + (⟨3, ![1, 1, c]⟩ : Shape).size x ≤ (⟨3, ![a, b, c]⟩ : Shape).size x)
    (t : Fin a) (u : Fin b) (ho : off = ![t.val, u.val, 0]) (q : Fin c) (z z' : Fin 1) :
    sub X (Rect.unit (s := ⟨3, ![a, b, c]⟩) off (⟨3, ![1, 1, c]⟩ : Shape).size h).toLoadRect (ix3 z z' q) = X (ix3 t u q) := by
  subst ho
  unfold sub
  refine congrArg X (funext fun x => ?_)
  match x with
  | ⟨0, _⟩ => exact Fin.ext (by simp [Rect.unit, Rect.toLoadRect, LoadRect.idx])
  | ⟨1, _⟩ => exact Fin.ext (by simp [Rect.unit, Rect.toLoadRect, LoadRect.idx])
  | ⟨2, _⟩ => exact Fin.ext (by simp [Rect.unit, Rect.toLoadRect, LoadRect.idx])

theorem cmpi_ne_word (x y : BitVec 32) : IntOp.cmpi .ne x y = if x = y then 0#1 else 1#1 := by
  show BitVec.ofBool (x != y) = _
  by_cases h : x = y
  · simp [h]
  · have : (x == y) = false := beq_false_of_ne h
    rw [if_neg h, bne, this]; rfl

/-- The distances of a block's rows from a tile, by entry. -/
theorem dist_apply (xs : Vec Ideal S128x3 .f32) (ss : Vec Ideal S128x1 .i32) (tx ty tz : Vec Ideal S1x1x512 .f32) (ts : Vec Ideal S1x1x512 .i32)
    (r : Fin 128) (q : Fin 512) :
    dist (F := Ideal) (k0_pay2 xs) (k0_pay3 xs) (k0_pay4 xs) (k0_pay5 (F := Ideal) ss) tx ty tz ts (ix2 r q)
      = if ts (ix3 0 0 q) = ss (ix2 r 0) then Ideal.sqrt (((tx (ix3 0 0 q) - xs (ix2 r 0)) * (tx (ix3 0 0 q) - xs (ix2 r 0))
          + (ty (ix3 0 0 q) - xs (ix2 r 1)) * (ty (ix3 0 0 q) - xs (ix2 r 1)))
          + (tz (ix3 0 0 q) - xs (ix2 r 2)) * (tz (ix3 0 0 q) - xs (ix2 r 2))) else ⊤ := by
  simp [dist, k0_pay2, k0_pay3, k0_pay4, k0_pay5, k0_pay1, pointwise]
  rw [cmpi_ne_word]
  split_ifs with h
  · rfl
  · exact inf_eq

/-- Where the tiles and the blocks begin and end, and what lies between. -/
theorem tile_first (t : Fin 16) : 512 * t.val < 8192 := by omega
theorem tile_last (t : Fin 16) : 512 * t.val + 511 < 8192 := by omega
theorem tile_mid (t : Fin 16) (q : Fin 512) : 512 * t.val + q.val < 8192 := by omega
theorem block_first (t : Fin 64) : 128 * t.val < 8192 := by omega
theorem block_last (t : Fin 64) : 128 * t.val + 127 < 8192 := by omega

section Block

variable (A : Atoms) (S : Words) (hS : ∀ a b : Fin 8192, a ≤ b → (S (ix1 a)).toInt ≤ (S (ix1 b)).toInt)
  {lo hi : IVec S16 32} {tc : Vec Ideal S16x3x512 .f32} {ts : IVec S16x1x512 32}
  (hlo : ∀ t : Fin 16, lo (ix1 t) = S (ix1 ⟨512 * t.val, tile_first t⟩))
  (hhi : ∀ t : Fin 16, hi (ix1 t) = S (ix1 ⟨512 * t.val + 511, tile_last t⟩))
  (htc : ∀ (t : Fin 16) (u : Fin 3) (q : Fin 512), tc (ix3 t u q) = A (ix3 ⟨512 * t.val + q.val, tile_mid t q⟩ 1 u))
  (hts : ∀ (t : Fin 16) (q : Fin 512), ts (ix3 t 0 q) = S (ix1 ⟨512 * t.val + q.val, tile_mid t q⟩))
  {xs : Vec Ideal S128x3 .f32} {ss : IVec S128x1 32} {r : Fin 128} {R : Fin 8192}
  (hx : ∀ a : Fin 3, xs (ix2 r a) = A (ix3 R 1 a)) (hs : ss (ix2 r 0) = S (ix1 R))
  {v1 v3 : BitVec 32} (h1 : v1.toInt ≤ (S (ix1 R)).toInt) (h3 : (S (ix1 R)).toInt ≤ v3.toInt)

theorem live_eq {v1 v3 lo hi : BitVec 32} (h : live v1 v3 lo hi ≠ 1#1) : v3.toInt < lo.toInt ∨ hi.toInt < v1.toInt := by
  by_contra hc
  simp only [not_or, not_lt] at hc
  refine h ?_
  have a : BitVec.sle lo v3 = true := by rw [BitVec.sle]; exact decide_eq_true hc.1
  have b : BitVec.sle v1 hi = true := by rw [BitVec.sle]; exact decide_eq_true hc.2
  show IntOp.cmpi .ne (BitVec.setWidth 32 (BitVec.ofBool (BitVec.sle lo v3) &&& BitVec.ofBool (BitVec.sle v1 hi))) 0#32 = 1#1
  rw [a, b]; decide

include hS hlo hhi htc hts hx hs h1 h3 in
/-- Before trip `k` the carried pair are the picks of the first `k` tiles. -/
theorem trips_picks : ∀ k : Nat, k ≤ 16 →
    Picks (cut (near A S R) (512 * k)) (fun j : Fin 16 => (knnTrips (F := Ideal) lo hi tc ts v1 v3 xs ss k).1 (ix2 r j))
      (fun j : Fin 16 => (knnTrips (F := Ideal) lo hi tc ts v1 v3 xs ss k).2 (ix2 r j))
  | 0, _ => by
    have e : (fun j : Fin 16 => (knnTrips (F := Ideal) lo hi tc ts v1 v3 xs ss 0).1 (ix2 r j)) = fun _ => (⊤ : EReal) := funext fun j => inf_eq
    rw [e]
    exact picks_zero _ _
  | k + 1, hk => by
    have ih := trips_picks k (by omega)
    have hlt : k < k0_t1_loop.trips := by rw [trips16]; omega
    have hk16 : k < 16 := by omega
    have hw : near A S R = near A S R := rfl
    have hs1 : knnTrips (F := Ideal) lo hi tc ts v1 v3 xs ss (k + 1) = knnAfter lo hi tc ts v1 v3 xs ss ⟨k, hlt⟩ (knnTrips lo hi tc ts v1 v3 xs ss k) := by
      rw [knnTrips, dif_pos hlt]
    rw [hs1]
    unfold knnAfter
    rw [wordAt_apply lo _ _ ⟨k, hk16⟩ (by rw [off2_eq]; rfl), wordAt_apply hi _ _ ⟨k, hk16⟩ (by rw [off2_eq]; rfl), hlo, hhi]
    split_ifs with hl
    · refine step_picks (near A S R) (512 * k) (by omega) _ (iv_eq ⟨k, hlt⟩) _ _ _ _ _ _ _ r (fun q => ?_) ih
      rw [dist_apply]
      erw [sub_plane tc _ _ ⟨k, hk16⟩ 0 (off3_eq ⟨k, hlt⟩) q 0 0, sub_plane tc _ _ ⟨k, hk16⟩ 1 (off4_eq ⟨k, hlt⟩) q 0 0,
        sub_plane tc _ _ ⟨k, hk16⟩ 2 (off5_eq ⟨k, hlt⟩) q 0 0, sub_plane ts _ _ ⟨k, hk16⟩ 0 (off6_eq ⟨k, hlt⟩) q 0 0]
      rw [htc, htc, htc, hts, hx, hx, hx, hs]
      rfl
    · rw [show 512 * (k + 1) = 512 * k + 512 from rfl, cut_skip (b := 512 * k) (b' := 512 * k + 512) (by omega) fun p hp hp' => ?_]
      · exact ih
      · unfold near
        rw [if_neg fun e => ?_]
        rcases live_eq hl with h | h
        · have := hS ⟨512 * k, by omega⟩ p (Fin.le_def.mpr hp)
          rw [e] at this
          exact absurd (h.trans_le this) (not_lt.mpr h3)
        · have := hS p ⟨512 * k + 511, by omega⟩ (Fin.le_def.mpr (by simp only; omega))
          rw [e] at this
          exact absurd (this.trans_lt h) (not_lt.mpr h1)

end Block

/-- What the whole search writes of a block, by entry: the words of the points' neighbours, -/
theorem blocks_apply (A : Atoms) (S : Words) (hS : ∀ a b : Fin 8192, a ≤ b → (S (ix1 a)).toInt ≤ (S (ix1 b)).toInt)
    (i : grid0.Coords) {ta tb : IVec S64 32} {lo hi : IVec S16 32} {tc : Vec Ideal S16x3x512 .f32} {ts : IVec S16x1x512 32}
    (hta : ∀ t : Fin 64, ta (ix1 t) = S (ix1 ⟨128 * t.val, block_first t⟩))
    (htb : ∀ t : Fin 64, tb (ix1 t) = S (ix1 ⟨128 * t.val + 127, block_last t⟩))
    (hlo : ∀ t : Fin 16, lo (ix1 t) = S (ix1 ⟨512 * t.val, tile_first t⟩))
    (hhi : ∀ t : Fin 16, hi (ix1 t) = S (ix1 ⟨512 * t.val + 511, tile_last t⟩))
    (htc : ∀ (t : Fin 16) (u : Fin 3) (q : Fin 512), tc (ix3 t u q) = A (ix3 ⟨512 * t.val + q.val, tile_mid t q⟩ 1 u))
    (hts : ∀ (t : Fin 16) (q : Fin 512), ts (ix3 t 0 q) = S (ix1 ⟨512 * t.val + q.val, tile_mid t q⟩))
    {xs : Vec Ideal S128x3 .f32} {ss : IVec S128x1 32} (r : Fin 128) (R : Fin 8192) (hR : R.val = 128 * (i 0).val + r.val)
    (hx : ∀ a : Fin 3, xs (ix2 r a) = A (ix3 R 1 a)) (hs : ss (ix2 r 0) = S (ix1 R)) (k : Fin 16) :
    nbrBlock (F := Ideal) i ta tb lo hi xs tc ss ts (ix2 r k) = BitVec.ofNat 32 (nbr A S R k).val
      ∧ (maskBlock (F := Ideal) i ta tb lo hi xs tc ss ts (ix2 r k) = 0#32 ↔ ¬ has A S R k) := by
  have hi64 : (i 0).val < 64 := (i 0).isLt
  have hp := trips_picks A S hS hlo hhi htc hts hx hs (v1 := S (ix1 ⟨128 * (i 0).val, by omega⟩)) (v3 := S (ix1 ⟨128 * (i 0).val + 127, by omega⟩))
    (hS _ _ (Fin.le_def.mpr (by simp only; omega))) (hS _ _ (Fin.le_def.mpr (by simp only; omega))) 16 le_rfl
  have hlast : knnLast (F := Ideal) i ta tb lo hi xs tc ss ts
      = knnTrips (F := Ideal) lo hi tc ts (S (ix1 ⟨128 * (i 0).val, by omega⟩)) (S (ix1 ⟨128 * (i 0).val + 127, by omega⟩)) xs ss 16 := by
    unfold knnLast
    rw [trips16, wordAt_apply ta _ _ ⟨(i 0).val, hi64⟩ (by rw [off1_eq]; rfl), wordAt_apply tb _ _ ⟨(i 0).val, hi64⟩ (by rw [off1_eq]; rfl), hta, htb]
  have hcut : cut (near A S R) (512 * 16) = near A S R := funext fun p => cut_of_lt p.isLt
  rw [hcut, ← hlast] at hp
  obtain ⟨hyes, hno⟩ := picks_nbr hp k
  unfold nbrBlock maskBlock
  generalize knnLast (F := Ideal) i ta tb lo hi xs tc ss ts = acc at hyes hno
  have h9 : k0_pay9 (F := Ideal) acc.1 (ix2 r k) = if acc.1 (ix2 r k) < ⊤ then 1#1 else 0#1 := by
    show BitVec.ofBool (decide ((acc.1 (ix2 r k) : EReal) < FloatOps.ofBits (F := Ideal) .f32 0x7F800000#32)) = _
    rw [inf_eq]
    by_cases h : acc.1 (ix2 r k) < (⊤ : EReal) <;> simp [h]
  have h10 : k0_pay10 (F := Ideal) i acc.1 acc.2 (ix2 r k) = Scalar.select (k0_pay9 (F := Ideal) acc.1 (ix2 r k)) (acc.2 (ix2 r k)) (BitVec.ofNat 32 R.val) := by
    show Scalar.select (k0_pay9 (F := Ideal) acc.1 (ix2 r k)) (acc.2 (ix2 r k)) (BitVec.ofNat 32 (i 0).val * 128#32 + BitVec.ofNat 32 (0 * 128 + r.val)) = _
    congr 1
    rw [hR, ← BitVec.ofNat_mul, ← BitVec.ofNat_add]
    congr 1; omega
  have h11 : k0_pay11 (F := Ideal) acc.1 (ix2 r k) = (k0_pay9 (F := Ideal) acc.1 (ix2 r k)).setWidth 32 := rfl
  rw [h10, h11, h9]
  by_cases h : has A S R k
  · obtain ⟨ha, hw⟩ := hyes h
    rw [if_pos ha]
    exact ⟨hw, by simp [h]⟩
  · rw [hno h, if_neg (lt_irrefl _)]
    refine ⟨?_, by simp [h]⟩
    unfold nbr
    rw [if_neg h]
    rfl

end Cert.Proof.KernelIdeal
-- ==== Proof.Neighbours.lean ====
/-
  The neighbours and the mask words of all points, as the first region leaves them: every entry is the neighbour of
  the specification, and every mask word says whether it is one.
-/
module

public import proofs.«01_k».proof.Proof.Run
public import proofs.«01_k».proof.Proof.Search
public import Idealize.ShloMosaic.Lib.Pipeline.ValueKit
public import Idealize.ShloMosaic.Lib.StableHlo.ReadAt

@[expose] public section

set_option maxRecDepth 65536

noncomputable section

namespace Cert.Proof.KernelIdeal

open Cert.KernelIdeal Cert.KernelIdeal.Gen
open Idealize.ShloMosaic Idealize.ShloMosaic.TcCoe
open Idealize.ShloMosaic.Pipeline (Dat arrRef)
open Cert.Proof.Spec

variable (m : (ℓ : Loc nD τ sig) → Buf (Elt Ideal) ℓ) (c : Dev nD)

/-- The coordinates a launch starts from, -/
abbrev coords : Atoms := m (c, Proc.devRef .tc main_arg0)
/-- and the samples of the points. -/
abbrev samples : Words := m (c, Proc.devRef .tc main_arg4)

/-! ## What the first host operations leave -/

theorem v1_at (i : Fin 8192) (u : Fin 3) : W1 m c main_v1 (ix2 i u) = coords m c (ix3 i 1 u) := by
  unfold W1; after_reads_at; rfl
theorem v4_at (t : Fin 16) (u : Fin 3) (q : Fin 512) : W1 m c main_v4 (ix3 t u q) = coords m c (ix3 ⟨512 * t.val + q.val, tile_mid t q⟩ 1 u) := by
  unfold W1; after_reads_at
  exact congrArg (fun k => coords m c (ix3 k 1 u)) (Fin.ext (by show t.val * 512 + q.val = 512 * t.val + q.val; omega))
theorem v5_at (i : Fin 8192) : W1 m c main_v5 (ix2 i 0) = samples m c (ix1 i) := by
  unfold W1; after_reads_at; rfl
theorem v7_at (t : Fin 16) (q : Fin 512) : W1 m c main_v7 (ix3 t 0 q) = samples m c (ix1 ⟨512 * t.val + q.val, tile_mid t q⟩) := by
  unfold W1; after_reads_at
  exact congrArg (fun k => samples m c (ix1 k)) (Fin.ext (by show t.val * 512 + q.val = 512 * t.val + q.val; omega))
theorem v8_at (t : Fin 64) : W1 m c main_v8 (ix1 t) = samples m c (ix1 ⟨128 * t.val, block_first t⟩) := by
  unfold W1; after_reads_at
  exact congrArg (fun k => samples m c (ix1 k)) (Fin.ext (by show _ = 128 * t.val; simp))
theorem v9_at (t : Fin 64) : W1 m c main_v9 (ix1 t) = samples m c (ix1 ⟨128 * t.val + 127, block_last t⟩) := by
  unfold W1; after_reads_at
  exact congrArg (fun k => samples m c (ix1 k)) (Fin.ext (by show 127 + 128 * t.val = 128 * t.val + 127; omega))
theorem v10_at (t : Fin 16) : W1 m c main_v10 (ix1 t) = samples m c (ix1 ⟨512 * t.val, tile_first t⟩) := by
  unfold W1; after_reads_at
  exact congrArg (fun k => samples m c (ix1 k)) (Fin.ext (by show _ = 512 * t.val; simp))
theorem v11_at (t : Fin 16) : W1 m c main_v11 (ix1 t) = samples m c (ix1 ⟨512 * t.val + 511, tile_last t⟩) := by
  unfold W1; after_reads_at
  exact congrArg (fun k => samples m c (ix1 k)) (Fin.ext (by show 511 + 512 * t.val = 512 * t.val + 511; omega))

/-! ## The region's blocks -/

theorem point_lt (t : Fin grid0.N) : (grid0.coords t 0).val < 64 := (grid0.coords t 0).isLt

/-- The point of a block's row. -/
abbrev pt0 (t : Fin grid0.N) (r : Fin 128) : Fin 8192 := ⟨128 * (grid0.coords t 0).val + r.val, by have := point_lt t; omega⟩

section
variable (a : (pcfg0 (F := Ideal)).Adm)
theorem index0_0 : ∀ t : Fin grid0.N, (win0 a 0).index t = ![(grid0.coords t 0).val, 0] := of_decide_eq_true (Eq.refl true)
theorem index0_1 : ∀ t : Fin grid0.N, (win0 a 1).index t = ![0, 0, 0] := of_decide_eq_true (Eq.refl true)
theorem index0_2 : ∀ t : Fin grid0.N, (win0 a 2).index t = ![(grid0.coords t 0).val, 0] := of_decide_eq_true (Eq.refl true)
theorem index0_3 : ∀ t : Fin grid0.N, (win0 a 3).index t = ![0, 0, 0] := of_decide_eq_true (Eq.refl true)
theorem index0_4 : ∀ t : Fin grid0.N, (win0 a 4).index t = ![(grid0.coords t 0).val, 0] := of_decide_eq_true (Eq.refl true)
theorem index0_5 : ∀ t : Fin grid0.N, (win0 a 5).index t = ![(grid0.coords t 0).val, 0] := of_decide_eq_true (Eq.refl true)
theorem flush0_4 : ∀ t : Fin grid0.N, (win0 a 4).flush t = true := of_decide_eq_true (Eq.refl true)
theorem flush0_5 : ∀ t : Fin grid0.N, (win0 a 5).flush t = true := of_decide_eq_true (Eq.refl true)
theorem coord0 : ∀ t : Fin grid0.N, (grid0.coords t 0).val = t.val := of_decide_eq_true (Eq.refl true)
theorem covers0_4 (i : S8192x16.Idx) : ∃ t : Fin grid0.N, (win0 a 4).flush t = true ∧ i ∈ ((win0 a 4).blk t).view.set := by
  have h0 : (i 0).val < 8192 := (i 0).isLt
  have h1 : (i 1).val < 16 := (i 1).isLt
  have hd : 128 * ((i 0).val / 128) ≤ (i 0).val ∧ (i 0).val < 128 * ((i 0).val / 128) + 128 := by omega
  refine ⟨⟨(i 0).val / 128, show _ < 64 by omega⟩, flush0_4 a _, ?_⟩
  mem_blk [index0_4 a, coord0]
  exact ⟨⟨by show (i 0).val / 128 * 128 ≤ _; omega, by show _ < (i 0).val / 128 * 128 + 128; omega⟩, Nat.zero_le _, h1⟩
theorem covers0_5 (i : S8192x16.Idx) : ∃ t : Fin grid0.N, (win0 a 5).flush t = true ∧ i ∈ ((win0 a 5).blk t).view.set := by
  have h0 : (i 0).val < 8192 := (i 0).isLt
  have h1 : (i 1).val < 16 := (i 1).isLt
  have hd : 128 * ((i 0).val / 128) ≤ (i 0).val ∧ (i 0).val < 128 * ((i 0).val / 128) + 128 := by omega
  refine ⟨⟨(i 0).val / 128, show _ < 64 by omega⟩, flush0_5 a _, ?_⟩
  mem_blk [index0_5 a, coord0]
  exact ⟨⟨by show (i 0).val / 128 * 128 ≤ _; omega, by show _ < (i 0).val / 128 * 128 + 128; omega⟩, Nat.zero_le _, h1⟩
end

theorem in0_0 (t : Fin grid0.N) (r : Fin 128) (u : Fin 3) : in0 m c 0 t (ix2 r u) = coords m c (ix3 (pt0 t r) 1 u) := by
  refine Eq.trans ?_ (v1_at m c (pt0 t r) u)
  show ((win0 (a0 m) 0).blk t).view.read (Elt Ideal) (W1 m c main_v1) (ix2 r u) = _
  blk_ext [index0_0 (a0 m) t]
theorem in0_1 (t : Fin grid0.N) (T : Fin 16) (u : Fin 3) (q : Fin 512) : in0 m c 1 t (ix3 T u q) = coords m c (ix3 ⟨512 * T.val + q.val, tile_mid T q⟩ 1 u) := by
  refine Eq.trans ?_ (v4_at m c T u q)
  show ((win0 (a0 m) 1).blk t).view.read (Elt Ideal) (W1 m c main_v4) (ix3 T u q) = _
  blk_ext [index0_1 (a0 m) t]
theorem in0_2 (t : Fin grid0.N) (r : Fin 128) : in0 m c 2 t (ix2 r 0) = samples m c (ix1 (pt0 t r)) := by
  refine Eq.trans ?_ (v5_at m c (pt0 t r))
  show ((win0 (a0 m) 2).blk t).view.read (Elt Ideal) (W1 m c main_v5) (ix2 r 0) = _
  blk_ext [index0_2 (a0 m) t]
theorem in0_3 (t : Fin grid0.N) (T : Fin 16) (q : Fin 512) : in0 m c 3 t (ix3 T 0 q) = samples m c (ix1 ⟨512 * T.val + q.val, tile_mid T q⟩) := by
  refine Eq.trans ?_ (v7_at m c T q)
  show ((win0 (a0 m) 3).blk t).view.read (Elt Ideal) (W1 m c main_v7) (ix3 T 0 q) = _
  blk_ext [index0_3 (a0 m) t]

variable (hS : ∀ a b : Fin 8192, a ≤ b → (samples m c (ix1 a)).toInt ≤ (samples m c (ix1 b)).toInt)
include hS

/-- A block's neighbours and mask words are the specification's of its points. -/
theorem block_at (t : Fin grid0.N) (r : Fin 128) (k : Fin 16) :
    nbrAt m c t (ix2 r k) = BitVec.ofNat 32 (nbr (coords m c) (samples m c) (pt0 t r) k).val
      ∧ (maskAt m c t (ix2 r k) = 0#32 ↔ ¬ has (coords m c) (samples m c) (pt0 t r) k) :=
  blocks_apply (coords m c) (samples m c) hS (grid0.coords t) (v8_at m c) (v9_at m c) (v10_at m c) (v11_at m c)
    (in0_1 m c t) (in0_3 m c t) r (pt0 t r) rfl (in0_0 m c t r) (in0_2 m c t r) k

/-- The neighbours of all points, -/
theorem nbrs_at (i : Fin 8192) (k : Fin 16) : W2 m c main_v14_0 (ix2 i k) = BitVec.ofNat 32 (nbr (coords m c) (samples m c) i k).val := by
  refine (congrFun (W2_arr m c 4) (ix2 i k)).trans ?_
  refine (dat0 m c).arrAt_forall_of_cover 4 (fun (j : S8192x16.Idx) (v : BitVec 32) => v = BitVec.ofNat 32 (nbr (coords m c) (samples m c) (j 0) (j 1)).val)
    (fun t _ (y : S128x16.Idx) => ?_) (covers0_4 (a0 m)) (ix2 i k)
  have e : ((win0 (a0 m) 4).blk t).view.emb y = (ix2 (pt0 t (y 0)) (y 1) : S8192x16.Idx) := by blk_ext [index0_4 (a0 m) t]
  show nbrAt m c t y = BitVec.ofNat 32 (nbr (coords m c) (samples m c) (((win0 (a0 m) 4).blk t).view.emb y 0) (((win0 (a0 m) 4).blk t).view.emb y 1)).val
  rw [e, congrArg (nbrAt m c t) (eq_ix2 y)]
  exact (block_at m c hS t (y 0) (y 1)).1

/-- and their mask words, -/
theorem words_at (i : Fin 8192) (k : Fin 16) : W2 m c main_v14_1 (ix2 i k) = 0#32 ↔ ¬ has (coords m c) (samples m c) i k := by
  rw [show W2 m c main_v14_1 (ix2 i k) = (dat0 m c).arrAt 5 grid0.N (ix2 i k) from congrFun (W2_arr m c 5) (ix2 i k)]
  refine (dat0 m c).arrAt_forall_of_cover 5 (fun (j : S8192x16.Idx) (v : BitVec 32) => v = 0#32 ↔ ¬ has (coords m c) (samples m c) (j 0) (j 1))
    (fun t _ (y : S128x16.Idx) => ?_) (covers0_5 (a0 m)) (ix2 i k)
  have e : ((win0 (a0 m) 5).blk t).view.emb y = (ix2 (pt0 t (y 0)) (y 1) : S8192x16.Idx) := by blk_ext [index0_5 (a0 m) t]
  show maskAt m c t y = 0#32 ↔ ¬ has (coords m c) (samples m c) (((win0 (a0 m) 5).blk t).view.emb y 0) (((win0 (a0 m) 5).blk t).view.emb y 1)
  rw [e, congrArg (maskAt m c t) (eq_ix2 y)]
  exact (block_at m c hS t (y 0) (y 1)).2

open Classical in
/-- as the mask they are read as. -/
theorem mask_at (i : Fin 8192) (k : Fin 16) : W3 m c main_v17 (ix2 i k) = if has (coords m c) (samples m c) i k then 1#1 else 0#1 := by
  have h := words_at m c hS i k
  have e : W3 m c main_v17 (ix2 i k) = IntOp.cmpi .ne (W2 m c main_v14_1 (ix2 i k) : BitVec 32) 0#32 := by
    unfold W3; after_reads_at; rfl
  rw [e, cmpi_ne_word]
  split_ifs with h0 hh hh
  · exact absurd hh (h.mp h0)
  · rfl
  · rfl
  · exact absurd (h.mpr hh) h0

end Cert.Proof.KernelIdeal
-- ==== Proof.Drawn.lean ====
/-
  What the precondition says of the arrays: the CA coordinates are finite, the samples are sorted and the positions lie
  in the range whose differences and signs do not overflow.
-/
module

public import proofs.«01_k».proof.Proof.Neighbours
public import proofs.«01_k».proof.Defs

@[expose] public section

noncomputable section

namespace Cert.Proof.KernelIdeal

open Cert.KernelIdeal Cert.KernelIdeal.Gen
open Idealize.ShloMosaic Idealize.ShloMosaic.TcCoe
open Cert.Proof.Spec

variable [Cert.Pre_drawn.Facts] (m : (ℓ : Loc nD τ sig) → Buf (Elt Ideal) ℓ) (c : Dev nD)

theorem ofBool_one {b : Bool} (h : BitVec.ofBool b = 1#1) : b = true := by cases b <;> simp_all

theorem abs_lt_top {x : EReal} (h : (FloatOps.absf (F := Ideal) (φ := .f32) x : EReal) < ⊤) : x ≠ ⊤ ∧ x ≠ ⊥ := by
  constructor
  · rintro rfl; simp [FloatOps.absf] at h
  · rintro rfl; simp [FloatOps.absf] at h

/-- The alpha carbons lie at finite places, -/
theorem drawn_finite (h : Cert.Pre_KernelIdeal_drawn m) : Finite (coords m c) := fun i a => by
  have h0 := congrFun (h c).1 (ix2 i a)
  simp only [Cert.Pre_drawn.fn] at h0
  simp [pointwise] at h0
  exact abs_lt_top ((of_decide_eq_true (ofBool_one h0)).trans_eq inf_eq)

/-- the samples come in order, -/
theorem drawn_sorted (h : Cert.Pre_KernelIdeal_drawn m) (a b : Fin 8192) (hab : a ≤ b) :
    (samples m c (ix1 a)).toInt ≤ (samples m c (ix1 b)).toInt := by
  have step (k : ℕ) (hk : k < 8191) : (samples m c (ix1 ⟨k, by omega⟩)).toInt ≤ (samples m c (ix1 ⟨k + 1, by omega⟩)).toInt := by
    have h0 := congrFun (h c).2.1 (ix1 ⟨k, hk⟩)
    simp only [Cert.Pre_drawn.fn] at h0
    simp [pointwise] at h0
    simp [IntOp.cmpi, BitVec.sle] at h0
    rw [show (⟨k + 1, by omega⟩ : Fin 8192) = ⟨1 + k, by omega⟩ from Fin.ext (Nat.add_comm _ _)]
    exact of_decide_eq_true (ofBool_one h0)
  have run (n : ℕ) : ∀ k (hk : k + n < 8192), (samples m c (ix1 ⟨k, by omega⟩)).toInt ≤ (samples m c (ix1 ⟨k + n, hk⟩)).toInt := by
    induction n with
    | zero => exact fun k hk => le_refl _
    | succ n ih => exact fun k hk => (ih k (by omega)).trans (step (k + n) (by omega))
  obtain ⟨n, hn⟩ := Nat.exists_eq_add_of_le (Fin.le_def.mp hab)
  have := run n a.val (by omega)
  rwa [show (⟨a.val + n, _⟩ : Fin 8192) = b from Fin.ext hn.symm] at this

/-- and no sequence position is negative. -/
theorem drawn_placed (h : Cert.Pre_KernelIdeal_drawn m) (i : Fin 8192) : 0 ≤ (m (c, Proc.devRef .tc main_arg2) (ix1 i) : BitVec 32).toInt := by
  have h0 := congrFun (h c).2.2 (ix1 i)
  simp only [Cert.Pre_drawn.fn] at h0
  simp [pointwise] at h0
  simp [IntOp.cmpi, BitVec.sle] at h0
  exact of_decide_eq_true (ofBool_one h0)

end Cert.Proof.KernelIdeal
-- ==== Proof.EdgeSpec.lean ====
/-
  What an edge's 256 features should be, from the atoms and frames of its two points, the row of the table of relative
  positions, and the weights: the radial features of the sixteen pairs of atoms and the nine products of frame vectors,
  each through its own layer, side by side with the table's row through a network of three layers.
-/
module

public import proofs.«01_k».proof.Proof.Nearest

@[expose] public section

noncomputable section

namespace Cert.Proof.Spec

open Idealize.ShloMosaic

/-- A printed constant's value. -/
abbrev lit (b : BitVec 32) : EReal := FloatOps.ofBits (F := Ideal) .f32 b

/-- The mean of `n` numbers; `cn` is `n` as a float. -/
def mean {n : Nat} (cn : EReal) (x : Fin n → EReal) : EReal := Ideal.div (∑ j, x j) cn

/-- Layer normalisation of `n` numbers. -/
def layer {n : Nat} (cn : EReal) (x g b : Fin n → EReal) (j : Fin n) : EReal :=
  Ideal.div (x j - mean cn x) (Ideal.sqrt (mean cn (fun l => (x l - mean cn x) * (x l - mean cn x)) + lit 0x3727C5AC#32)) * g j + b j

/-- A dense layer. -/
def dense {n p : Nat} (x : Fin n → EReal) (w : Fin n → Fin p → EReal) (b : Fin p → EReal) (d : Fin p) : EReal := (∑ j, x j * w j d) + b d

def silu (x : EReal) : EReal := Ideal.div x (1 + Ideal.exp (-x))

/-- Three rows of 256 side by side. -/
def beside (x y z : Fin 256 → EReal) (j : Fin 768) : EReal :=
  if h : j.val < 256 then x ⟨j.val, h⟩ else if h' : j.val < 512 then y ⟨j.val - 256, by omega⟩ else z ⟨j.val - 512, by omega⟩

/-- The distance of atom `a` of one point from atom `b` of another. -/
def dist (p q : Fin 4 → Fin 3 → EReal) (a b : Fin 4) : EReal :=
  Ideal.sqrt (((p a 0 - q b 0) * (p a 0 - q b 0) + (p a 1 - q b 1) * (p a 1 - q b 1)) + (p a 2 - q b 2) * (p a 2 - q b 2))

/-- The radial features' centres, evenly spaced from 2 to 22. -/
def center (r : Nat) : EReal := ((2 + 4 / 3 * (r : ℝ) : ℝ) : EReal)

/-- One radial feature of a distance. -/
def bump (d : EReal) (r : Nat) : EReal := Ideal.exp (-((d - center r) * (d - center r)) * ((16 / 25 : ℝ) : EReal))

/-- The pair of atoms and the radial feature of one of the 256. -/
def atomA (j : Fin 256) : Fin 4 := ⟨j.val / 64, by omega⟩
def atomB (j : Fin 256) : Fin 4 := ⟨j.val / 16 % 4, by omega⟩

def radials (p q : Fin 4 → Fin 3 → EReal) (j : Fin 256) : EReal := bump (dist p q (atomA j) (atomB j)) (j.val % 16)

/-- The pair of frame vectors of one of the nine. -/
def vecA (k : Fin 9) : Fin 3 := ⟨k.val / 3, by omega⟩
def vecB (k : Fin 9) : Fin 3 := ⟨k.val % 3, by omega⟩

/-- The products of the two points' frame vectors. -/
def directions (f g : Fin 3 → Fin 3 → EReal) (k : Fin 9) : EReal :=
  (f 0 (vecA k) * g 0 (vecB k) + f 1 (vecA k) * g 1 (vecB k)) + f 2 (vecA k) * g 2 (vecB k)

/-- The layers' weights. -/
structure Weights where
  g1 : Fin 256 → EReal
  b1 : Fin 256 → EReal
  w1 : Fin 256 → Fin 256 → EReal
  c1 : Fin 256 → EReal
  dw : Fin 9 → Fin 256 → EReal
  db : Fin 256 → EReal
  g2 : Fin 768 → EReal
  b2 : Fin 768 → EReal
  w2 : Fin 768 → Fin 256 → EReal
  c2 : Fin 256 → EReal
  w3 : Fin 256 → Fin 256 → EReal
  c3 : Fin 256 → EReal
  w4 : Fin 256 → Fin 256 → EReal
  c4 : Fin 256 → EReal

/-- The network over the three shares. -/
def network (W : Weights) (h : Fin 768 → EReal) : Fin 256 → EReal :=
  dense (fun j => silu (dense (fun l => silu (dense (layer (lit 0x44400000#32) h W.g2 W.b2) W.w2 W.c2 l)) W.w3 W.c3 j)) W.w4 W.c4

/-- An edge's features. -/
def edge (W : Weights) (p q : Fin 4 → Fin 3 → EReal) (f g : Fin 3 → Fin 3 → EReal) (rel : Fin 256 → EReal) : Fin 256 → EReal :=
  network W (beside (dense (layer (lit 0x43800000#32) (radials p q) W.g1 W.b1) W.w1 W.c1) (dense (directions f g) W.dw W.db) rel)

/-- The row of the table for two points' positions and chains: the difference of the positions, held to 32 either way,
    or 33 between two chains, and 32 on top. -/
def place (pi pn ci cn : BitVec 32) : Nat :=
  ((if cn = ci then min 32 (max (-32) (pn.toInt - pi.toInt)) else 33) + 32).toNat

theorem place_lt (pi pn ci cn : BitVec 32) : place pi pn ci cn < 66 := by
  unfold place
  split <;> omega

/-- Frames of the points, three vectors each; a list of numbers, a matrix. -/
abbrev Frames := (⟨3, ![8192, 3, 3]⟩ : Shape).Idx → EReal
abbrev List1 (n : Nat) := (⟨1, ![n]⟩ : Shape).Idx → EReal
abbrev Mat (n p : Nat) := (⟨2, ![n, p]⟩ : Shape).Idx → EReal

/-- The weights off the arrays they are passed as. -/
def weights (g1 b1 : List1 256) (w1 : Mat 256 256) (c1 : List1 256) (dw : Mat 9 256) (db : List1 256) (g2 b2 : List1 768) (w2 : Mat 768 256)
    (c2 : List1 256) (w3 : Mat 256 256) (c3 : List1 256) (w4 : Mat 256 256) (c4 : List1 256) : Weights where
  g1 j := g1 (ix1 j)
  b1 j := b1 (ix1 j)
  w1 j d := w1 (ix2 j d)
  c1 d := c1 (ix1 d)
  dw k d := dw (ix2 k d)
  db d := db (ix1 d)
  g2 j := g2 (ix1 j)
  b2 j := b2 (ix1 j)
  w2 j d := w2 (ix2 j d)
  c2 d := c2 (ix1 d)
  w3 j d := w3 (ix2 j d)
  c3 d := c3 (ix1 d)
  w4 j d := w4 (ix2 j d)
  c4 d := c4 (ix1 d)

/-- The features of the edge from point `i` to point `n`: `A` the coordinates, `Fr` the frames, `P` the positions,
    `C` the chains, `T` the table of relative positions. -/
def between (W : Weights) (A : Atoms) (Fr : Frames) (P C : Words) (T : Mat 66 256) (i n : Fin 8192) : Fin 256 → EReal :=
  edge W (fun a x => A (ix3 i a x)) (fun a x => A (ix3 n a x)) (fun a x => Fr (ix3 i a x)) (fun a x => Fr (ix3 n a x))
    (fun d => T (ix2 ⟨place (P (ix1 i)) (P (ix1 n)) (C (ix1 i)) (C (ix1 n)), place_lt _ _ _ _⟩ d))

end Cert.Proof.Spec
-- ==== Proof.EdgeRows.lean ====
/-
  A block's edges row by row: each operation of the kernel on whole vectors, at an entry, is the operation of the
  specification on the edge's own row.
-/
module

public import proofs.«01_k».proof.Proof.EdgeOps
public import proofs.«01_k».proof.Proof.EdgeSpec
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe
open Cert.Proof.Spec (lit)

theorem lit_zero : lit 0x00000000#32 = 0 := by
  simp [FloatOps.ofBits, Ideal.ofBits, Ideal.ieee]
theorem lit_one : lit 0x3F800000#32 = 1 := by
  simp [FloatOps.ofBits, Ideal.ofBits, Ideal.ieee, -EReal.coe_mul]; norm_num

theorem col_apply (v : FVec Ideal S1024x32 .f32) (k : Fin 32) (e : Fin 1024) (z : Fin 1) : col v k (ix2 e z) = v (ix2 e k) := by
  unfold col
  simp [pointwise]

theorem bias_apply (b : Vec Ideal S1x256 .f32) (e : Fin 1024) (d : Fin 256) : bias (F := Ideal) b (ix2 e d) = b (ix2 0 d) := by
  unfold bias
  simp [pointwise]

theorem dense256_apply (v : FVec Ideal S1024x256 .f32) (w : Vec Ideal S256x256 .f32) (b : Vec Ideal S1x256 .f32) (e : Fin 1024) (d : Fin 256) :
    dense256 v w b (ix2 e d) = Spec.dense (fun j => v (ix2 e j)) (fun j d => w (ix2 j d)) (fun d => b (ix2 0 d)) d := by
  unfold dense256 Spec.dense
  rw [addf_apply, bias_apply]
  simp [pointwise]

theorem dense768_apply (v : FVec Ideal S1024x768 .f32) (w : Vec Ideal S768x256 .f32) (b : Vec Ideal S1x256 .f32) (e : Fin 1024) (d : Fin 256) :
    dense768 v w b (ix2 e d) = Spec.dense (fun j => v (ix2 e j)) (fun j d => w (ix2 j d)) (fun d => b (ix2 0 d)) d := by
  unfold dense768 Spec.dense
  rw [addf_apply, bias_apply]
  simp [pointwise]

theorem act_apply (v : FVec Ideal S1024x256 .f32) (e : Fin 1024) (d : Fin 256) : act v (ix2 e d) = Spec.silu (v (ix2 e d)) := by
  unfold act Spec.silu
  show Ideal.div (v (ix2 e d)) (lit 0x3F800000#32 + Ideal.exp (lit 0x00000000#32 - v (ix2 e d))) = _
  rw [lit_zero, lit_one, zero_sub]

theorem norm_apply {n : Nat} (cn : Ideal .f32) (hr : (⟨2, ![1024, n]⟩ : Shape).Reduces [1] S1024) (hb : S1024x1.Broadcasts (⟨2, ![1024, n]⟩ : Shape))
    (hg : (⟨2, ![1, n]⟩ : Shape).Broadcasts (⟨2, ![1024, n]⟩ : Shape)) (hs : (⟨2, ![1, n]⟩ : Shape).ShapeCasts (⟨2, ![1, n]⟩ : Shape))
    (v : FVec Ideal (⟨2, ![1024, n]⟩ : Shape) .f32) (g b : FVec Ideal (⟨2, ![1, n]⟩ : Shape) .f32) (e : Fin 1024) (j : Fin n) :
    norm cn hr hb hg hs v g b (ix2 e j) = Spec.layer cn (fun j => v (ix2 e j)) (fun j => g (ix2 0 j)) (fun j => b (ix2 0 j)) j := by
  have key : (Shape.Idx.norm (s := ⟨2, ![1, n]⟩) fun a => if h : (![1, n] : Fin 2 → Nat) a = 1 then ⟨0, by show 0 < (![1, n] : Fin 2 → Nat) a; omega⟩ else ⟨((ix2 e j : (⟨2, ![1024, n]⟩ : Shape).Idx) a).val, by
      match a with
      | ⟨0, _⟩ => exact absurd rfl h
      | ⟨1, _⟩ => exact j.isLt⟩) = ix2 0 j := by
    funext a
    match a with
    | ⟨0, _⟩ => exact Fin.ext (by simp)
    | ⟨1, _⟩ =>
      refine Fin.ext ?_
      have := j.isLt
      by_cases h : n = 1
      · subst h; simp
      · simp [Shape.Idx.norm_def, h]
  unfold norm Spec.layer Spec.mean
  simp [pointwise]
  rw [key]

theorem toInt_small {n : Nat} (h : n < 2147483648) : (BitVec.ofNat 32 n).toInt = (n : Int) := by
  rw [BitVec.toInt_eq_toNat_of_lt (by rw [BitVec.toNat_ofNat]; omega), BitVec.toNat_ofNat, Nat.mod_eq_of_lt (by omega)]

theorem radial_apply (d : FVec Ideal S1024x1 .f32) (e : Fin 1024) (r : Fin 16) : radial (F := Ideal) d (ix2 e r) = Spec.bump (d (ix2 e 0)) r.val := by
  have h2 : (Ideal.ofBits .f32 1073741824#32 : EReal) = ((2 : ℝ) : EReal) := by
    simp [Ideal.ofBits, Ideal.ieee, -EReal.coe_mul]; norm_num
  have hs : (spread : Ideal .f32) = ((16 / 25 : ℝ) : EReal) := IdealRules.named_const.ideal_named_scalar _ _ _ _ rfl
  have hr : ((BitVec.ofNat 32 r.val).toInt : ℝ) = (r.val : ℝ) := by
    have := toInt_small (n := r.val) (by omega)
    rw [this]; rfl
  unfold radial k1_pay4
  simp [pointwise]
  have hk : (Named.named κ "rbf_step" 0x3FAAAAAB#32 : Ideal .f32) = ((4 / 3 : ℝ) : EReal) := IdealRules.named_const.ideal_named_scalar _ _ _ _ rfl
  rw [hk, h2, hs]
  unfold Spec.bump Spec.center
  rw [show FloatOps.sitofp (F := Ideal) FTy.f32 (BitVec.ofNat 32 r.val) = ((r.val : ℝ) : EReal) from congrArg (fun x : ℝ => (x : EReal)) hr, EReal.neg_mul, EReal.coe_add, EReal.coe_mul (4/3)]

theorem sixteen_apply {α : Type} (f : Fin 4 → Fin 4 → S1024x16.Idx → α) (e : Fin 1024) (j : Fin 256) :
    sixteen f (ix2 e j) = f (Spec.atomA j) (Spec.atomB j) (ix2 e ⟨j.val % 16, by omega⟩) := by
  have h := concatenate_ofFn_apply (t := S1024x256) (s₁ := S1024x16) 1 (fun n : Fin 16 => f ⟨n.val / 4, by omega⟩ ⟨n.val % 4, by omega⟩)
    concatenates_S1024x16_S1024x16_S1024x16_S1024x16_S1024x16_S1024x16_S1024x16_S1024x16_S1024x16_S1024x16_S1024x16_S1024x16_S1024x16_S1024x16_S1024x16_S1024x16_S1024x256_d1
    rfl 16 rfl (ix2 e j) ⟨j.val / 16, by omega⟩ rfl (ix2 e ⟨j.val % 16, by omega⟩) rfl (fun b hb => by
      match b, hb with
      | ⟨0, _⟩, _ => rfl
      | ⟨1, _⟩, hb => exact absurd rfl hb)
  refine Eq.trans ?_ (h.trans ?_)
  · rfl
  · unfold Spec.atomA Spec.atomB
    have ha : (⟨j.val / 16 / 4, by omega⟩ : Fin 4) = ⟨j.val / 64, by omega⟩ := Fin.ext (by show j.val / 16 / 4 = j.val / 64; omega)
    exact congrArg (fun a => f a _ _) ha

theorem three_apply (x y z : FVec Ideal S1024x256 .f32) (e : Fin 1024) (j : Fin 768) :
    three x y z (ix2 e j) = Spec.beside (fun j => x (ix2 e j)) (fun j => y (ix2 e j)) (fun j => z (ix2 e j)) j := by
  unfold three Spec.beside
  simp [pointwise]
  have h : ∀ k, k - 256 - 256 = k - 512 := fun k => by omega
  have h' : j.val - 256 < 256 ↔ j.val < 512 := by omega
  simp only [h, h']

theorem atomDist_apply (ce nb : FVec Ideal S1024x32 .f32) (a b : Fin 4) (e : Fin 1024) :
    atomDist ce nb a b (ix2 e 0) = Spec.dist (fun a x => ce (ix2 e ⟨3 * a.val + x.val, by omega⟩)) (fun a x => nb (ix2 e ⟨3 * a.val + x.val, by omega⟩)) a b := by
  unfold atomDist Spec.dist
  simp [pointwise, col_apply]

theorem dirTerm_apply (ce nb : FVec Ideal S1024x32 .f32) (a b : Fin 3) (w : Vec Ideal S1x256 .f32) (e : Fin 1024) (d : Fin 256) :
    dirTerm ce nb a b w (ix2 e d) = ((ce (ix2 e ⟨12 + a.val, by omega⟩) * nb (ix2 e ⟨12 + b.val, by omega⟩)
      + ce (ix2 e ⟨15 + a.val, by omega⟩) * nb (ix2 e ⟨15 + b.val, by omega⟩)) + ce (ix2 e ⟨18 + a.val, by omega⟩) * nb (ix2 e ⟨18 + b.val, by omega⟩)) * w (ix2 0 d) := by
  unfold dirTerm
  simp [pointwise, col_apply]

theorem directions_apply (ce nb : FVec Ideal S1024x32 .f32) (dw : Fin 9 → Vec Ideal S1x256 .f32) (db : Vec Ideal S1x256 .f32) (e : Fin 1024) (d : Fin 256) :
    directions (F := Ideal) ce nb (dw 0) (dw 1) (dw 2) (dw 3) (dw 4) (dw 5) (dw 6) (dw 7) (dw 8) db (ix2 e d)
      = Spec.dense (Spec.directions (fun i a => ce (ix2 e ⟨12 + 3 * i.val + a.val, by omega⟩)) (fun i a => nb (ix2 e ⟨12 + 3 * i.val + a.val, by omega⟩)))
          (fun k d => dw k (ix2 0 d)) (fun d => db (ix2 0 d)) d := by
  unfold directions Spec.dense
  simp only [addf_apply, dirTerm_apply, bias_apply]
  rw [Fin.sum_univ_castSucc, Fin.sum_univ_eight]
  rfl

/-- The block's output at an entry. -/
theorem edge_rows (ce nb : FVec Ideal S1024x32 .f32) (g1 b1 : Vec Ideal S1x256 .f32) (w1 : Vec Ideal S256x256 .f32) (c1 : Vec Ideal S1x256 .f32)
    (dw : Fin 9 → Vec Ideal S1x256 .f32) (db : Vec Ideal S1x256 .f32) (se : Vec Ideal S128x256 .f32) (g2 b2 : Vec Ideal S1x768 .f32) (w2 : Vec Ideal S768x256 .f32)
    (c2 : Vec Ideal S1x256 .f32) (w3 : Vec Ideal S256x256 .f32) (c3 : Vec Ideal S1x256 .f32) (w4 : Vec Ideal S256x256 .f32) (c4 : Vec Ideal S1x256 .f32)
    (e : Fin 1024) (d : Fin 256) :
    edge (F := Ideal) ce nb g1 b1 w1 c1 (dw 0) (dw 1) (dw 2) (dw 3) (dw 4) (dw 5) (dw 6) (dw 7) (dw 8) db se g2 b2 w2 c2 w3 c3 w4 c4 (ix2 e d)
      = Spec.edge { g1 := fun j => g1 (ix2 0 j), b1 := fun j => b1 (ix2 0 j), w1 := fun j d => w1 (ix2 j d), c1 := fun d => c1 (ix2 0 d),
                    dw := fun k d => dw k (ix2 0 d), db := fun d => db (ix2 0 d), g2 := fun j => g2 (ix2 0 j), b2 := fun j => b2 (ix2 0 j),
                    w2 := fun j d => w2 (ix2 j d), c2 := fun d => c2 (ix2 0 d), w3 := fun j d => w3 (ix2 j d), c3 := fun d => c3 (ix2 0 d),
                    w4 := fun j d => w4 (ix2 j d), c4 := fun d => c4 (ix2 0 d) }
          (fun a x => ce (ix2 e ⟨3 * a.val + x.val, by omega⟩)) (fun a x => nb (ix2 e ⟨3 * a.val + x.val, by omega⟩))
          (fun i a => ce (ix2 e ⟨12 + 3 * i.val + a.val, by omega⟩)) (fun i a => nb (ix2 e ⟨12 + 3 * i.val + a.val, by omega⟩))
          (fun d => relative (F := Ideal) ce nb se (ix2 e d)) d := by
  have hrad : ∀ j : Fin 256, radials (F := Ideal) ce nb (ix2 e j)
      = Spec.radials (fun a x => ce (ix2 e ⟨3 * a.val + x.val, by omega⟩)) (fun a x => nb (ix2 e ⟨3 * a.val + x.val, by omega⟩)) j := fun j => by
    unfold radials Spec.radials
    rw [sixteen_apply, radial_apply, atomDist_apply]
  unfold edge Spec.edge Spec.network norm256 norm768
  rw [dense256_apply]
  simp only [act_apply, dense256_apply, dense768_apply, norm_apply, three_apply, directions_apply, hrad]

end Cert.Proof.KernelIdeal
-- ==== Proof.Gather.lean ====
/-
  The rows' and the neighbours' features, gathered by products with rows of zeros and a one: such a product is the row
  of the one, exactly, on the extended reals. The neighbour's tile is never skipped, since a point's neighbours are of
  its own sample and the samples come in order.
-/
module

public import proofs.«01_k».proof.Proof.EdgeRows
public import proofs.«01_k».proof.Proof.Search

@[expose] public section

noncomputable section

namespace Cert.Proof.KernelIdeal

open Cert.KernelIdeal Cert.KernelIdeal.Gen
open Idealize.ShloMosaic Idealize.ShloMosaic.TcCoe
open Cert.Proof.Spec

/-- Whether a word is a number, as a float. -/
theorem hot_eq (w : BitVec 32) {k : Nat} (hk : k < 4294967296) :
    FloatOps.sitofp (F := Ideal) .f32 (BitVec.setWidth 32 (IntOp.cmpi .eq w (BitVec.ofNat 32 k))) = if w.toNat = k then (1 : EReal) else 0 := by
  have hw : (w == BitVec.ofNat 32 k) = decide (w.toNat = k) := by
    have : w = BitVec.ofNat 32 k ↔ w.toNat = k := by
      rw [BitVec.toNat_eq, BitVec.toNat_ofNat, Nat.mod_eq_of_lt hk]
    by_cases h : w.toNat = k
    · rw [decide_eq_true h, beq_iff_eq]; exact this.mpr h
    · rw [decide_eq_false h, beq_eq_false_iff_ne]; exact fun e => h (this.mp e)
  show (((BitVec.setWidth 32 (BitVec.ofBool (w == BitVec.ofNat 32 k))).toInt : ℝ) : EReal) = _
  rw [hw]
  by_cases h : w.toNat = k
  · rw [if_pos h, decide_eq_true h]; simp
  · rw [if_neg h, decide_eq_false h]; simp

/-- The product with a row of zeros and a one. -/
theorem hot_sum {n : Nat} (hn : n ≤ 4294967296) (w : BitVec 32) (f : Fin n → EReal) :
    (∑ x : Fin n, FloatOps.sitofp (F := Ideal) .f32 (BitVec.setWidth 32 (IntOp.cmpi .eq w (BitVec.ofNat 32 x.val))) * f x : EReal)
      = if h : w.toNat < n then f ⟨w.toNat, h⟩ else 0 := by
  have e : ∀ x : Fin n, (FloatOps.sitofp (F := Ideal) .f32 (BitVec.setWidth 32 (IntOp.cmpi .eq w (BitVec.ofNat 32 x.val))) * f x : EReal)
      = if w.toNat = x.val then f x else 0 := fun x => by
    rw [hot_eq w (x.isLt.trans_le hn)]
    split_ifs
    · exact one_mul _
    · exact zero_mul _
  rw [Finset.sum_congr rfl fun x _ => e x]
  split_ifs with h
  · rw [Finset.sum_eq_single ⟨w.toNat, h⟩ (fun b _ hb => if_neg fun e => hb (Fin.ext e.symm)) (fun h => absurd (Finset.mem_univ _) h), if_pos rfl]
  · exact Finset.sum_eq_zero fun x _ => if_neg fun e : w.toNat = x.val => h (e ▸ x.isLt)

theorem edge_trips16 : k1_t1_loop.trips = 16 := by decide +kernel
theorem edge_off1 : ∀ i : grid1.Coords, k1_off1 i = ![(i 0).val] := by decide +kernel
theorem edge_off2 : ∀ k : Fin k1_t1_loop.trips, k1_off2 k = ![k.val] := by decide +kernel
theorem edge_off3 : ∀ k : Fin k1_t1_loop.trips, k1_off3 k = ![k.val, 0, 0] := by decide +kernel
theorem edge_off4 : ∀ i : grid1.Coords, k1_off4 i = ![(i 0).val / 8, (i 0).val % 8 * 64, 0] := by decide +kernel
theorem edge_iv : ∀ k : Fin k1_t1_loop.trips, Scalar.muli (Scf.iv 0#32 1#32 k) 512#32 = BitVec.ofNat 32 (512 * k.val) := by decide +kernel

/-- A loaded part of a stack of matrices, by its entry. -/
theorem sub_part {a b c d : Nat} {α : Type} (X : (⟨3, ![a, b, c]⟩ : Shape).Idx → α) (off : Fin 3 → Nat)
    (h : ∀ x, off x + (⟨3, ![1, d, c]⟩ : Shape).size x ≤ (⟨3, ![a, b, c]⟩ : Shape).size x)
    (t : Fin a) (u : Nat) (ho : off = ![t.val, u, 0]) (p : Fin d) (v : Fin b) (hv : v.val = u + p.val) (q : Fin c) (z : Fin 1) :
    sub X (Rect.unit (s := ⟨3, ![a, b, c]⟩) off (⟨3, ![1, d, c]⟩ : Shape).size h).toLoadRect (ix3 z p q) = X (ix3 t v q) := by
  subst ho
  unfold sub
  refine congrArg X (funext fun x => ?_)
  match x with
  | ⟨0, _⟩ => exact Fin.ext (by simp [Rect.unit, Rect.toLoadRect, LoadRect.idx])
  | ⟨1, _⟩ => exact Fin.ext (by simp [Rect.unit, Rect.toLoadRect, LoadRect.idx, hv])
  | ⟨2, _⟩ => exact Fin.ext (by simp [Rect.unit, Rect.toLoadRect, LoadRect.idx])

/-- A row of a loaded matrix, by its entry. -/
theorem sub_row {a c : Nat} {α : Type} (X : (⟨2, ![a, c]⟩ : Shape).Idx → α) (k : Fin a)
    (h : ∀ x, (![k.val, 0] : Fin 2 → Nat) x + (⟨2, ![1, c]⟩ : Shape).size x ≤ (⟨2, ![a, c]⟩ : Shape).size x) (q : Fin c) (z : Fin 1) :
    sub X (Rect.unit (s := ⟨2, ![a, c]⟩) ![k.val, 0] (⟨2, ![1, c]⟩ : Shape).size h).toLoadRect (ix2 z q) = X (ix2 k q) := by
  unfold sub
  refine congrArg X (funext fun x => ?_)
  match x with
  | ⟨0, _⟩ => exact Fin.ext (by simp [Rect.unit, Rect.toLoadRect, LoadRect.idx])
  | ⟨1, _⟩ => exact Fin.ext (by simp [Rect.unit, Rect.toLoadRect, LoadRect.idx])

theorem own_word : ∀ e : Fin 1024, (Scalar.select
                (IntOp.andi
                  (IntOp.cmpi CmpIPredicate.ne
                    (IntOp.subi (BitVec.setWidth 32 (IntOp.cmpi CmpIPredicate.sgt (BitVec.ofNat 32 e.val) 0#32))
                      (BitVec.setWidth 32 (IntOp.cmpi CmpIPredicate.slt (BitVec.ofNat 32 e.val) 0#32)))
                    (Scalar.subi (Scalar.extui (Scalar.cmpi CmpIPredicate.sgt 16#32 0#32))
                      (Scalar.extui (Scalar.cmpi CmpIPredicate.slt 16#32 0#32))))
                  (IntOp.cmpi CmpIPredicate.ne (IntOp.remsi ArithUnit.vector (BitVec.ofNat 32 e.val) 16#32) 0#32))
                (IntOp.subi (IntOp.divsi ArithUnit.vector (BitVec.ofNat 32 e.val) 16#32) 1#32)
                (IntOp.divsi ArithUnit.vector (BitVec.ofNat 32 e.val) 16#32) : BitVec 32).toNat = e.val / 16 := by
  decide +kernel

/-- The row's own features are those of its sixteenth part's row. -/
theorem own_apply (part : Vec Ideal S1x64x32 .f32) (e : Fin 1024) (c : Fin 32) :
    k1_pay3 (F := Ideal) part (ix2 e c) = part (ix3 0 ⟨e.val / 16, by omega⟩ c) := by
  unfold k1_pay3
  simp [pointwise]
  rw [hot_sum (by norm_num)]
  have h := own_word e
  rw [dif_pos (by rw [h]; omega)]
  exact congrArg (fun k => part (ix3 0 k c)) (Fin.ext h)

/-- A trip of the gathering adds the named row of its tile, where it is one. -/
theorem tile_apply (ix : Vec Ideal S1024x1 .i32) (t : Fin k1_t1_loop.trips) (acc : FVec Ideal S1024x32 .f32) (tile : Vec Ideal S1x512x32 .f32)
    (e : Fin 1024) (c : Fin 32) (n : Fin 8192) (hn : ix (ix2 e 0) = BitVec.ofNat 32 n.val) (f : EReal)
    (hf : ∀ q : Fin 512, n.val = 512 * t.val + q.val → tile (ix3 0 q c) = f) :
    k1_pay2 (F := Ideal) ix t acc tile (ix2 e c) = acc (ix2 e c) + if n.val / 512 = t.val then f else 0 := by
  have ht : t.val < 16 := lt_of_lt_of_eq t.isLt edge_trips16
  unfold k1_pay2
  simp [pointwise]
  rw [hot_sum (by norm_num), edge_iv, hn]
  have hw : (IntOp.subi (BitVec.ofNat 32 n.val) (BitVec.ofNat 32 (512 * t.val)) : BitVec 32).toNat = (4294967296 - 512 * t.val + n.val) % 4294967296 := by
    show (BitVec.ofNat 32 n.val - BitVec.ofNat 32 (512 * t.val)).toNat = _
    rw [BitVec.toNat_sub, BitVec.toNat_ofNat, BitVec.toNat_ofNat, Nat.mod_eq_of_lt (a := 512 * t.val) (by omega), Nat.mod_eq_of_lt (a := n.val) (by omega)]
  refine congrArg (acc (ix2 e c) + ·) ?_
  by_cases h : n.val / 512 = t.val
  · have hlt : (IntOp.subi (BitVec.ofNat 32 n.val) (BitVec.ofNat 32 (512 * t.val)) : BitVec 32).toNat < 512 := by rw [hw]; omega
    rw [dif_pos hlt, if_pos h]
    exact hf _ (by show n.val = 512 * t.val + (IntOp.subi (BitVec.ofNat 32 n.val) (BitVec.ofNat 32 (512 * t.val)) : BitVec 32).toNat; rw [hw]; omega)
  · rw [dif_neg (by rw [hw]; omega), if_neg h]

/-- Where the blocks of 64 begin and end. -/
theorem part_first (t : Fin 128) : 64 * t.val < 8192 := by omega
theorem part_last (t : Fin 128) : 64 * t.val + 63 < 8192 := by omega
theorem part_mid (t : Fin 128) (q : Fin 64) : 64 * t.val + q.val < 8192 := by omega

section

variable (S : Words) (hS : ∀ a b : Fin 8192, a ≤ b → (S (ix1 a)).toInt ≤ (S (ix1 b)).toInt)
  {lo hi : IVec S16 32} {slab : Vec Ideal S16x512x32 .f32} {feat : Fin 8192 → Fin 32 → EReal}
  (hlo : ∀ t : Fin 16, lo (ix1 t) = S (ix1 ⟨512 * t.val, tile_first t⟩))
  (hhi : ∀ t : Fin 16, hi (ix1 t) = S (ix1 ⟨512 * t.val + 511, tile_last t⟩))
  (hslab : ∀ (t : Fin 16) (q : Fin 512) (c : Fin 32), slab (ix3 t q c) = feat ⟨512 * t.val + q.val, tile_mid t q⟩ c)
  {ix : Vec Ideal S1024x1 .i32} {e : Fin 1024} {n : Fin 8192} (hn : ix (ix2 e 0) = BitVec.ofNat 32 n.val)
  {v1 v3 : BitVec 32} (h1 : v1.toInt ≤ (S (ix1 n)).toInt) (h3 : (S (ix1 n)).toInt ≤ v3.toInt)

include hS hlo hhi hslab hn h1 h3 in
/-- Before trip `k` a row has its neighbour's features if the neighbour lies in the first `k` tiles. -/
theorem gatherTrips_apply (c : Fin 32) : ∀ k : Nat, k ≤ 16 →
    gatherTrips (F := Ideal) lo hi slab v1 v3 ix k (ix2 e c) = if n.val < 512 * k then feat n c else 0
  | 0, _ => by
    rw [if_neg (by omega)]
    exact lit_zero
  | k + 1, hk => by
    have ih := gatherTrips_apply c k (by omega)
    have hlt : k < k1_t1_loop.trips := by rw [edge_trips16]; omega
    have hk16 : k < 16 := by omega
    have hs1 : gatherTrips (F := Ideal) lo hi slab v1 v3 ix (k + 1) = gatherAfter lo hi slab v1 v3 ix ⟨k, hlt⟩ (gatherTrips lo hi slab v1 v3 ix k) := by
      rw [gatherTrips, dif_pos hlt]
    rw [hs1]
    unfold gatherAfter
    rw [wordAt_apply lo _ _ ⟨k, hk16⟩ (by rw [edge_off2]; rfl), wordAt_apply hi _ _ ⟨k, hk16⟩ (by rw [edge_off2]; rfl), hlo, hhi]
    by_cases hl : live v1 v3 (S (ix1 ⟨512 * (⟨k, hk16⟩ : Fin 16).val, tile_first _⟩)) (S (ix1 ⟨512 * (⟨k, hk16⟩ : Fin 16).val + 511, tile_last _⟩)) = 1#1
    · rw [if_pos hl, tile_apply ix ⟨k, hlt⟩ _ _ e c n hn (feat n c) fun q hq => ?_, ih]
      · by_cases ha : n.val < 512 * k
        · rw [if_pos ha, if_pos (show n.val < 512 * (k + 1) by omega), if_neg (show ¬ n.val / 512 = k by omega), add_zero]
        · rw [if_neg ha, zero_add]
          by_cases hb : n.val < 512 * (k + 1)
          · rw [if_pos hb, if_pos (show n.val / 512 = k by omega)]
          · rw [if_neg hb, if_neg (show ¬ n.val / 512 = k by omega)]
      · refine (sub_part slab (k1_off3 ⟨k, hlt⟩) _ ⟨k, hk16⟩ 0 (edge_off3 ⟨k, hlt⟩) q q (by omega) c 0).trans ?_
        rw [hslab]
        exact congrArg (fun a => feat a c) (Fin.ext hq.symm)
    · rw [if_neg hl, ih]
      have hout : ¬ (512 * k ≤ n.val ∧ n.val < 512 * (k + 1)) := fun hin => by
        rcases live_eq hl with h | h
        · exact absurd (h.trans_le (hS ⟨512 * k, by omega⟩ n (Fin.le_def.mpr hin.1))) (not_lt.mpr h3)
        · exact absurd ((hS n ⟨512 * k + 511, by omega⟩ (Fin.le_def.mpr (by simp only; omega))).trans_lt h) (not_lt.mpr h1)
      by_cases ha : n.val < 512 * k
      · rw [if_pos ha, if_pos (by omega)]
      · rw [if_neg ha, if_neg (by omega)]

end

/-- The gathered features of a block's edge are its neighbour's. -/
theorem gathered_apply (S : Words) (hS : ∀ a b : Fin 8192, a ≤ b → (S (ix1 a)).toInt ≤ (S (ix1 b)).toInt)
    (i : grid1.Coords) {a b : IVec S128 32} {lo hi : IVec S16 32} {slab : Vec Ideal S16x512x32 .f32} {feat : Fin 8192 → Fin 32 → EReal}
    (ha : ∀ t : Fin 128, a (ix1 t) = S (ix1 ⟨64 * t.val, part_first t⟩))
    (hb : ∀ t : Fin 128, b (ix1 t) = S (ix1 ⟨64 * t.val + 63, part_last t⟩))
    (hlo : ∀ t : Fin 16, lo (ix1 t) = S (ix1 ⟨512 * t.val, tile_first t⟩))
    (hhi : ∀ t : Fin 16, hi (ix1 t) = S (ix1 ⟨512 * t.val + 511, tile_last t⟩))
    (hslab : ∀ (t : Fin 16) (q : Fin 512) (c : Fin 32), slab (ix3 t q c) = feat ⟨512 * t.val + q.val, tile_mid t q⟩ c)
    {ix : Vec Ideal S1024x1 .i32} (e : Fin 1024) (R n : Fin 8192) (hR : R.val = 64 * (i 0).val + e.val / 16)
    (hn : ix (ix2 e 0) = BitVec.ofNat 32 n.val) (hs : S (ix1 n) = S (ix1 R)) (c : Fin 32) :
    gathered (F := Ideal) i a b lo hi slab ix (ix2 e c) = feat n c := by
  have hi128 : (i 0).val < 128 := (i 0).isLt
  unfold gathered
  rw [wordAt_apply a _ _ ⟨(i 0).val, hi128⟩ (by rw [edge_off1]; rfl), wordAt_apply b _ _ ⟨(i 0).val, hi128⟩ (by rw [edge_off1]; rfl), ha, hb,
    edge_trips16, gatherTrips_apply S hS hlo hhi hslab hn (v1 := S (ix1 ⟨64 * (i 0).val, part_first ⟨_, hi128⟩⟩)) (v3 := S (ix1 ⟨64 * (i 0).val + 63, part_last ⟨_, hi128⟩⟩))
      (by rw [hs]; exact hS _ _ (Fin.le_def.mpr (by simp only; omega))) (by rw [hs]; exact hS _ _ (Fin.le_def.mpr (by simp only; omega))) c 16 le_rfl,
    if_pos (by omega)]

/-- The row's own features, loaded from the slab. -/
theorem own_slab (i : grid1.Coords) {slab : Vec Ideal S16x512x32 .f32} {feat : Fin 8192 → Fin 32 → EReal}
    (hslab : ∀ (t : Fin 16) (q : Fin 512) (c : Fin 32), slab (ix3 t q c) = feat ⟨512 * t.val + q.val, tile_mid t q⟩ c)
    (e : Fin 1024) (R : Fin 8192) (hR : R.val = 64 * (i 0).val + e.val / 16) (c : Fin 32) :
    k1_pay3 (F := Ideal) (sub slab (Rect.unit (s := S16x512x32) (k1_off4 i) S1x64x32.size (k1_off4_inb i)).toLoadRect) (ix2 e c) = feat R c := by
  have hi128 : (i 0).val < 128 := (i 0).isLt
  rw [own_apply]
  refine (sub_part slab (k1_off4 i) _ ⟨(i 0).val / 8, by omega⟩ ((i 0).val % 8 * 64) (edge_off4 i) ⟨e.val / 16, by omega⟩
    ⟨(i 0).val % 8 * 64 + e.val / 16, by omega⟩ rfl c 0).trans ?_
  rw [hslab]
  exact congrArg (fun a => feat a c) (Fin.ext (by simp only; omega))

end Cert.Proof.KernelIdeal
-- ==== Proof.Relative.lean ====
/-
  The relative position's share: the place the kernel works out in floats is the place in integers, as positions and
  chains are whole numbers, and the product with its row of zeros and a one is the table's row.
-/
module

public import proofs.«01_k».proof.Proof.Gather

@[expose] public section

noncomputable section

namespace Cert.Proof.KernelIdeal

open Cert.KernelIdeal Cert.KernelIdeal.Gen
open Idealize.ShloMosaic Idealize.ShloMosaic.TcCoe
open Cert.Proof.Spec

/-- A whole number as a float. -/
abbrev whole (z : ℤ) : EReal := ((z : ℝ) : EReal)

theorem whole_sub (a b : ℤ) : whole a - whole b = whole (a - b) := by
  unfold whole; rw [← EReal.coe_sub, Int.cast_sub]
theorem whole_add (a b : ℤ) : whole a + whole b = whole (a + b) := by
  unfold whole; rw [← EReal.coe_add, Int.cast_add]
theorem whole_le {a b : ℤ} : whole a ≤ whole b ↔ a ≤ b := by
  unfold whole; rw [EReal.coe_le_coe_iff, Int.cast_le]
theorem whole_inj {a b : ℤ} : whole a = whole b ↔ a = b := by
  unfold whole; rw [EReal.coe_eq_coe_iff, Int.cast_inj]
theorem whole_max (a b : ℤ) : max (whole a) (whole b) = whole (max a b) := by
  rcases le_total a b with h | h
  · rw [max_eq_right h, max_eq_right (whole_le.mpr h)]
  · rw [max_eq_left h, max_eq_left (whole_le.mpr h)]
theorem whole_min (a b : ℤ) : min (whole a) (whole b) = whole (min a b) := by
  rcases le_total a b with h | h
  · rw [min_eq_left h, min_eq_left (whole_le.mpr h)]
  · rw [min_eq_right h, min_eq_right (whole_le.mpr h)]

/-- A whole number rounds to itself. -/
theorem round_whole (z : ℤ) : Ideal.liftRound Ideal.roundHalfEven (whole z) = whole z := by
  unfold whole
  rw [Ideal.liftRound_coe]
  have : Ideal.roundHalfEven (z : ℝ) = z := by
    unfold Ideal.roundHalfEven
    simp
  rw [this]

theorem fptosi_whole {z : ℤ} (h0 : 0 ≤ z) (h1 : z < 66) : FloatOps.fptosi (F := Ideal) (φ := .f32) 32 (whole z) = BitVec.ofNat 32 z.toNat := by
  show BitVec.ofInt 32 (Ideal.toIntClamped (-(2 ^ (32 - 1) : Nat)) ((2 ^ (32 - 1) : Nat) - 1) ((z : ℝ) : EReal)) = _
  rw [Ideal.toIntClamped_coe, if_pos (by exact_mod_cast h0), Int.floor_intCast]
  have : max (-((2 ^ (32 - 1) : Nat) : ℤ)) (min (((2 ^ (32 - 1) : Nat) : ℤ) - 1) z) = (z.toNat : ℤ) := by
    norm_num; omega
  rw [this, BitVec.ofInt_natCast]

theorem lit_32 : (Ideal.ofBits .f32 1107296256#32 : EReal) = whole 32 := by
  simp [whole, Ideal.ofBits, Ideal.ieee, -EReal.coe_mul]; norm_num
theorem lit_m32 : (Ideal.ofBits .f32 3254779904#32 : EReal) = whole (-32) := by
  simp [whole, Ideal.ofBits, Ideal.ieee, -EReal.coe_mul]; norm_num
theorem lit_33 : (Ideal.ofBits .f32 1107558400#32 : EReal) = whole 33 := by
  simp [whole, Ideal.ofBits, Ideal.ieee, -EReal.coe_mul]; norm_num

theorem relative_apply (ce nb : FVec Ideal S1024x32 .f32) (se : Vec Ideal S128x256 .f32) (e : Fin 1024) (d : Fin 256) (pi pn ci cn : BitVec 32)
    (hpi : ce (ix2 e 21) = whole pi.toInt) (hci : ce (ix2 e 22) = whole ci.toInt) (hpn : nb (ix2 e 21) = whole pn.toInt) (hcn : nb (ix2 e 22) = whole cn.toInt) :
    relative (F := Ideal) ce nb se (ix2 e d) = se (ix2 ⟨Spec.place pi pn ci cn, (place_lt pi pn ci cn).trans (by norm_num)⟩ d) := by
  have hw : FloatOps.fptosi (F := Ideal) (φ := .f32) 32
                (Ideal.liftRound Ideal.roundHalfEven
                  ((if
                        Ideal.liftRound Ideal.roundHalfEven (nb (ix2 e 22)) =
                          Ideal.liftRound Ideal.roundHalfEven (ce (ix2 e 22)) then
                      min (Ideal.ofBits FTy.f32 1107296256#32)
                        (max (Ideal.ofBits FTy.f32 3254779904#32) (nb (ix2 e 21) - ce (ix2 e 21)))
                    else Ideal.ofBits FTy.f32 1107558400#32) +
                    Ideal.ofBits FTy.f32 1107296256#32)) = BitVec.ofNat 32 (Spec.place pi pn ci cn) := by
    rw [hpi, hci, hpn, hcn, lit_32, lit_m32, lit_33, round_whole, round_whole, whole_sub, whole_max, whole_min]
    have hc : whole cn.toInt = whole ci.toInt ↔ cn = ci := whole_inj.trans BitVec.toInt_inj
    simp only [hc]
    unfold Spec.place
    by_cases h : cn = ci
    · rw [if_pos h, if_pos h, whole_add, round_whole, fptosi_whole (by omega) (by omega)]
    · rw [if_neg h, if_neg h, whole_add, round_whole, fptosi_whole (by omega) (by omega)]
  unfold relative place
  simp [pointwise, col_apply]
  rw [hw, hot_sum (by norm_num)]
  have hp : (BitVec.ofNat 32 (Spec.place pi pn ci cn)).toNat = Spec.place pi pn ci cn := by
    have := place_lt pi pn ci cn
    rw [BitVec.toNat_ofNat, Nat.mod_eq_of_lt (by omega)]
  rw [dif_pos (by rw [hp]; exact (place_lt pi pn ci cn).trans (by norm_num))]
  exact congrArg (fun k => se (ix2 k d)) (Fin.ext hp)

end Cert.Proof.KernelIdeal
-- ==== Proof.Features.lean ====
/-
  What the second region finds in the arrays it reads: the points' features side by side, the neighbours edge by edge,
  and the weights.
-/
module

public import proofs.«01_k».proof.Proof.Neighbours
public import proofs.«01_k».proof.Proof.Relative

@[expose] public section

set_option maxRecDepth 65536

noncomputable section

namespace Cert.Proof.KernelIdeal

open Cert.KernelIdeal Cert.KernelIdeal.Gen
open Idealize.ShloMosaic Idealize.ShloMosaic.TcCoe
open Idealize.ShloMosaic.Pipeline (Dat arrRef)
open Cert.Proof.Spec

theorem split_atom (k : Fin 32) (h : k.val < 12) : k.val / 3 < 4 := by omega
theorem split_vec (k : Fin 32) (h : k.val < 21) : (k.val - 12) / 3 < 3 := by omega
theorem mod_three (k : Nat) : k % 3 < 3 := Nat.mod_lt _ (by omega)

/-- The 32 features of a point: its atoms, its frame, its position and its chain. -/
def feat (A : Atoms) (Fr : Frames) (P C : Words) (i : Fin 8192) (k : Fin 32) : EReal :=
  if h : k.val < 12 then A (ix3 i ⟨k.val / 3, split_atom k h⟩ ⟨k.val % 3, mod_three _⟩)
  else if h : k.val < 21 then Fr (ix3 i ⟨(k.val - 12) / 3, split_vec k h⟩ ⟨(k.val - 12) % 3, mod_three _⟩)
  else if k.val = 21 then whole (P (ix1 i)).toInt
  else if k.val = 22 then whole (C (ix1 i)).toInt
  else 0

section
variable (A : Atoms) (Fr : Frames) (P C : Words) (i : Fin 8192)

theorem feat_atom (a : Fin 4) (x : Fin 3) (h : 3 * a.val + x.val < 32) : feat A Fr P C i ⟨3 * a.val + x.val, h⟩ = A (ix3 i a x) := by
  have hl : 3 * a.val + x.val < 12 := by omega
  unfold feat
  rw [dif_pos hl]
  congr 2
  · exact Fin.ext (by show (3 * a.val + x.val) / 3 = _; omega)
  · exact Fin.ext (by show (3 * a.val + x.val) % 3 = _; omega)
theorem feat_vec (a : Fin 3) (x : Fin 3) (h : 12 + 3 * a.val + x.val < 32) : feat A Fr P C i ⟨12 + 3 * a.val + x.val, h⟩ = Fr (ix3 i a x) := by
  have hl : ¬ 12 + 3 * a.val + x.val < 12 := by omega
  have hl' : 12 + 3 * a.val + x.val < 21 := by omega
  unfold feat
  rw [dif_neg hl, dif_pos hl']
  congr 2
  · exact Fin.ext (by show (12 + 3 * a.val + x.val - 12) / 3 = _; omega)
  · exact Fin.ext (by show (12 + 3 * a.val + x.val - 12) % 3 = _; omega)
theorem feat_pos : feat A Fr P C i 21 = whole (P (ix1 i)).toInt := rfl
theorem feat_chain : feat A Fr P C i 22 = whole (C (ix1 i)).toInt := rfl
end

variable (m : (ℓ : Loc nD τ sig) → Buf (Elt Ideal) ℓ) (c : Dev nD)

/-- The other arrays a launch starts from: the frames, the positions, the chains, -/
abbrev frames : Frames := m (c, Proc.devRef .tc main_arg1)
abbrev positions : Words := m (c, Proc.devRef .tc main_arg2)
abbrev chains : Words := m (c, Proc.devRef .tc main_arg3)
/-- the table of relative positions -/
abbrev table : Mat 66 256 := m (c, Proc.devRef .tc main_arg11)
/-- and the weights. -/
abbrev theWeights : Weights :=
  weights (m (c, Proc.devRef .tc main_arg5)) (m (c, Proc.devRef .tc main_arg6)) (m (c, Proc.devRef .tc main_arg7)) (m (c, Proc.devRef .tc main_arg8))
    (m (c, Proc.devRef .tc main_arg9)) (m (c, Proc.devRef .tc main_arg10)) (m (c, Proc.devRef .tc main_arg12)) (m (c, Proc.devRef .tc main_arg13))
    (m (c, Proc.devRef .tc main_arg14)) (m (c, Proc.devRef .tc main_arg15)) (m (c, Proc.devRef .tc main_arg16)) (m (c, Proc.devRef .tc main_arg17))
    (m (c, Proc.devRef .tc main_arg18)) (m (c, Proc.devRef .tc main_arg19))

/-- An argument is still the launch's before the second host operations, -/
theorem W2_arg (r : Ref sig .tc) (h : r ∈ args) : W2 m c (Proc.devRef .tc r) = m (c, Proc.devRef .tc r) := by
  obtain ⟨_, h0, h1, _⟩ := args_unwritten r h
  exact (W2_of m c r h1).trans (W1_of m c r h0)
/-- and after them. -/
theorem W3_arg (r : Ref sig .tc) (h : r ∈ args) : W3 m c (Proc.devRef .tc r) = m (c, Proc.devRef .tc r) :=
  (W3_of m c r (args_unwritten r h).2.2.2.1).trans (W2_arg m c r h)

/-! ## What the host operations leave -/

theorem v26_at (t : Fin 16) (q : Fin 512) (k : Fin 32) :
    (W3 m c main_v26 (ix3 t q k) : EReal) = feat (coords m c) (frames m c) (positions m c) (chains m c) ⟨512 * t.val + q.val, tile_mid t q⟩ k := by
  have hi : (⟨t.val * 512 + q.val, by omega⟩ : Fin 8192) = ⟨512 * t.val + q.val, tile_mid t q⟩ := Fin.ext (by show t.val * 512 + q.val = 512 * t.val + q.val; omega)
  rw [← hi]
  unfold feat
  by_cases h0 : k.val < 12
  · rw [dif_pos h0]
    refine Eq.trans ?_ (congrFun (W2_arg m c main_arg0 (by decide)) _)
    unfold W3; after_reads_at
    refine (dif_pos h0).trans ?_
    after_reads_at
  · rw [dif_neg h0]
    by_cases h1 : k.val < 21
    · have h1' : k.val - 12 < 9 := by omega
      rw [dif_pos h1]
      refine Eq.trans ?_ (congrFun (W2_arg m c main_arg1 (by decide)) _)
      unfold W3; after_reads_at
      refine (dif_neg h0).trans ?_
      refine (dif_pos h1').trans ?_
      after_reads_at
    · have h1' : ¬ k.val - 12 < 9 := by omega
      rw [dif_neg h1]
      by_cases h2 : k.val = 21
      · have h2' : k.val - 12 - 9 < 1 := by omega
        rw [if_pos h2]
        refine Eq.trans ?_ (congrArg (fun w : BitVec 32 => whole w.toInt) (congrFun (W2_arg m c main_arg2 (by decide)) _))
        unfold W3; after_reads_at
        refine (dif_neg h0).trans ?_
        refine (dif_neg h1').trans ?_
        refine (dif_pos h2').trans ?_
        after_reads_at
        rfl
      · have h2' : ¬ k.val - 12 - 9 < 1 := by omega
        rw [if_neg h2]
        by_cases h3 : k.val = 22
        · have h3' : k.val - 12 - 9 - 1 < 1 := by omega
          rw [if_pos h3]
          refine Eq.trans ?_ (congrArg (fun w : BitVec 32 => whole w.toInt) (congrFun (W2_arg m c main_arg3 (by decide)) _))
          unfold W3; after_reads_at
          refine (dif_neg h0).trans ?_
          refine (dif_neg h1').trans ?_
          refine (dif_neg h2').trans ?_
          refine (dif_pos h3').trans ?_
          after_reads_at
          rfl
        · have h3' : ¬ k.val - 12 - 9 - 1 < 1 := by omega
          rw [if_neg h3]
          unfold W3; after_reads_at
          refine (dif_neg h0).trans ?_
          refine (dif_neg h1').trans ?_
          refine (dif_neg h2').trans ?_
          refine (dif_neg h3').trans ?_
          after_reads_at

theorem v27_at (E : Fin 131072) (h : E.val / 16 < 8192) : W3 m c main_v27 (ix2 E 0) = W2 m c main_v14_0 (ix2 ⟨E.val / 16, h⟩ ⟨E.val % 16, Nat.mod_lt _ (by omega)⟩) := by
  unfold W3; after_reads_at
theorem v29_at (t : Fin 66) (d : Fin 256) (h : t.val < 128) : (W3 m c main_v29 (ix2 ⟨t.val, h⟩ d) : EReal) = table m c (ix2 t d) := by
  rw [table, ← W2_arg m c main_arg11 (by decide)]
  unfold W3; after_reads_at
theorem v30_at (j : Fin 256) : W3 m c main_v30 (ix2 0 j) = m (c, Proc.devRef .tc main_arg5) (ix1 j) := by
  rw [← W2_arg m c main_arg5 (by decide)]; unfold W3; after_reads_at
theorem v31_at (j : Fin 256) : W3 m c main_v31 (ix2 0 j) = m (c, Proc.devRef .tc main_arg6) (ix1 j) := by
  rw [← W2_arg m c main_arg6 (by decide)]; unfold W3; after_reads_at
theorem v32_at (j : Fin 256) : W3 m c main_v32 (ix2 0 j) = m (c, Proc.devRef .tc main_arg8) (ix1 j) := by
  rw [← W2_arg m c main_arg8 (by decide)]; unfold W3; after_reads_at
theorem v33_at (j : Fin 256) : W3 m c main_v33 (ix2 0 j) = m (c, Proc.devRef .tc main_arg10) (ix1 j) := by
  rw [← W2_arg m c main_arg10 (by decide)]; unfold W3; after_reads_at
theorem v34_at (j : Fin 768) : W3 m c main_v34 (ix2 0 j) = m (c, Proc.devRef .tc main_arg12) (ix1 j) := by
  rw [← W2_arg m c main_arg12 (by decide)]; unfold W3; after_reads_at
theorem v35_at (j : Fin 768) : W3 m c main_v35 (ix2 0 j) = m (c, Proc.devRef .tc main_arg13) (ix1 j) := by
  rw [← W2_arg m c main_arg13 (by decide)]; unfold W3; after_reads_at
theorem v36_at (j : Fin 256) : W3 m c main_v36 (ix2 0 j) = m (c, Proc.devRef .tc main_arg15) (ix1 j) := by
  rw [← W2_arg m c main_arg15 (by decide)]; unfold W3; after_reads_at
theorem v37_at (j : Fin 256) : W3 m c main_v37 (ix2 0 j) = m (c, Proc.devRef .tc main_arg17) (ix1 j) := by
  rw [← W2_arg m c main_arg17 (by decide)]; unfold W3; after_reads_at
theorem v38_at (j : Fin 256) : W3 m c main_v38 (ix2 0 j) = m (c, Proc.devRef .tc main_arg19) (ix1 j) := by
  rw [← W2_arg m c main_arg19 (by decide)]; unfold W3; after_reads_at

/-- The samples of a block's first and last points. -/
theorem v12_at (t : Fin 128) : W1 m c main_v12 (ix1 t) = samples m c (ix1 ⟨64 * t.val, part_first t⟩) := by
  unfold W1; after_reads_at
  exact congrArg (fun k => samples m c (ix1 k)) (Fin.ext (by show _ = 64 * t.val; simp))
theorem v13_at (t : Fin 128) : W1 m c main_v13 (ix1 t) = samples m c (ix1 ⟨64 * t.val + 63, part_last t⟩) := by
  unfold W1; after_reads_at
  exact congrArg (fun k => samples m c (ix1 k)) (Fin.ext (by show 63 + 64 * t.val = 64 * t.val + 63; omega))

theorem v40_at (i : Fin 8192) (k : Fin 16) (d : Fin 256) (h : 16 * i.val + k.val < 131072) :
    W5 m c main_v40 (ix3 i k d) = W4 m c main_v39 (ix2 ⟨16 * i.val + k.val, h⟩ d) := by
  unfold W5; after_reads_at
  exact congrArg (fun E => W4 m c main_v39 (ix2 E d)) (Fin.ext (by show i.val * 16 + k.val = 16 * i.val + k.val; omega))

end Cert.Proof.KernelIdeal
-- ==== Proof.Edges.lean ====
/-
  The features of all edges, as the second region leaves them: every entry is the specification's of its point and its
  neighbour.
-/
module

public import proofs.«01_k».proof.Proof.Features

@[expose] public section

set_option maxRecDepth 65536

noncomputable section

namespace Cert.Proof.KernelIdeal

open Cert.KernelIdeal Cert.KernelIdeal.Gen
open Idealize.ShloMosaic Idealize.ShloMosaic.TcCoe
open Idealize.ShloMosaic.Pipeline (Dat arrRef)
open Cert.Proof.Spec

/-! ## The region's blocks -/

section
variable (a : (pcfg1 (F := Ideal)).Adm)
theorem index1_0 : ∀ t : Fin grid1.N, (win1 a 0).index t = ![0, 0, 0] := of_decide_eq_true (Eq.refl true)
theorem index1_1 : ∀ t : Fin grid1.N, (win1 a 1).index t = ![(grid1.coords t 0).val, 0] := of_decide_eq_true (Eq.refl true)
theorem index1_2 : ∀ t : Fin grid1.N, (win1 a 2).index t = ![0, 0] := of_decide_eq_true (Eq.refl true)
theorem index1_3 : ∀ t : Fin grid1.N, (win1 a 3).index t = ![0, 0] := of_decide_eq_true (Eq.refl true)
theorem index1_4 : ∀ t : Fin grid1.N, (win1 a 4).index t = ![0, 0] := of_decide_eq_true (Eq.refl true)
theorem index1_5 : ∀ t : Fin grid1.N, (win1 a 5).index t = ![0, 0] := of_decide_eq_true (Eq.refl true)
theorem index1_6 : ∀ t : Fin grid1.N, (win1 a 6).index t = ![0, 0] := of_decide_eq_true (Eq.refl true)
theorem index1_7 : ∀ t : Fin grid1.N, (win1 a 7).index t = ![0, 0] := of_decide_eq_true (Eq.refl true)
theorem index1_8 : ∀ t : Fin grid1.N, (win1 a 8).index t = ![0, 0] := of_decide_eq_true (Eq.refl true)
theorem index1_9 : ∀ t : Fin grid1.N, (win1 a 9).index t = ![0, 0] := of_decide_eq_true (Eq.refl true)
theorem index1_10 : ∀ t : Fin grid1.N, (win1 a 10).index t = ![0, 0] := of_decide_eq_true (Eq.refl true)
theorem index1_11 : ∀ t : Fin grid1.N, (win1 a 11).index t = ![0, 0] := of_decide_eq_true (Eq.refl true)
theorem index1_12 : ∀ t : Fin grid1.N, (win1 a 12).index t = ![0, 0] := of_decide_eq_true (Eq.refl true)
theorem index1_13 : ∀ t : Fin grid1.N, (win1 a 13).index t = ![0, 0] := of_decide_eq_true (Eq.refl true)
theorem index1_14 : ∀ t : Fin grid1.N, (win1 a 14).index t = ![0, 0] := of_decide_eq_true (Eq.refl true)
theorem index1_15 : ∀ t : Fin grid1.N, (win1 a 15).index t = ![0, 0] := of_decide_eq_true (Eq.refl true)
theorem index1_16 : ∀ t : Fin grid1.N, (win1 a 16).index t = ![0, 0] := of_decide_eq_true (Eq.refl true)
theorem index1_17 : ∀ t : Fin grid1.N, (win1 a 17).index t = ![(grid1.coords t 0).val, 0] := of_decide_eq_true (Eq.refl true)
theorem flush1_17 : ∀ t : Fin grid1.N, (win1 a 17).flush t = true := of_decide_eq_true (Eq.refl true)
theorem coord1 : ∀ t : Fin grid1.N, (grid1.coords t 0).val = t.val := of_decide_eq_true (Eq.refl true)
theorem covers1_17 (i : S131072x256.Idx) : ∃ t : Fin grid1.N, (win1 a 17).flush t = true ∧ i ∈ ((win1 a 17).blk t).view.set := by
  have h0 : (i 0).val < 131072 := (i 0).isLt
  have h1 : (i 1).val < 256 := (i 1).isLt
  have hd : 1024 * ((i 0).val / 1024) ≤ (i 0).val ∧ (i 0).val < 1024 * ((i 0).val / 1024) + 1024 := by omega
  refine ⟨⟨(i 0).val / 1024, show _ < 128 by omega⟩, flush1_17 a _, ?_⟩
  mem_blk [index1_17 a, coord1]
  exact ⟨⟨by show (i 0).val / 1024 * 1024 ≤ _; omega, by show _ < (i 0).val / 1024 * 1024 + 1024; omega⟩, Nat.zero_le _, h1⟩
end

theorem part_lt (t : Fin grid1.N) : (grid1.coords t 0).val < 128 := (grid1.coords t 0).isLt
theorem edge_lt (t : Fin grid1.N) (e : Fin 1024) : 1024 * (grid1.coords t 0).val + e.val < 131072 := by have := part_lt t; omega
theorem row_lt (t : Fin grid1.N) (e : Fin 1024) : 64 * (grid1.coords t 0).val + e.val / 16 < 8192 := by have := part_lt t; omega
theorem point_of_edge (E : Fin 131072) : E.val / 16 < 8192 := by omega
theorem dir_inb (k : Fin 9) (x : Fin 2) : (![k.val, 0] : Fin 2 → Nat) x + S1x256.size x ≤ S9x256.size x := by
  fin_cases x
  · show k.val + 1 ≤ 9; omega
  · exact Nat.le_refl 256
theorem mod_sixteen (n : Nat) : n % 16 < 16 := Nat.mod_lt _ (by omega)

/-- The edge of a block's row, and its point. -/
abbrev edge1 (t : Fin grid1.N) (e : Fin 1024) : Fin 131072 := ⟨1024 * (grid1.coords t 0).val + e.val, edge_lt t e⟩
abbrev pt1 (t : Fin grid1.N) (e : Fin 1024) : Fin 8192 := ⟨64 * (grid1.coords t 0).val + e.val / 16, row_lt t e⟩

variable (m : (ℓ : Loc nD τ sig) → Buf (Elt Ideal) ℓ) (c : Dev nD)

theorem in1_0 (t : Fin grid1.N) (T : Fin 16) (q : Fin 512) (k : Fin 32) :
    (in1 m c 0 t (ix3 T q k) : EReal) = feat (coords m c) (frames m c) (positions m c) (chains m c) ⟨512 * T.val + q.val, tile_mid T q⟩ k := by
  refine Eq.trans ?_ (v26_at m c T q k)
  show ((win1 (a1 m) 0).blk t).view.read (Elt Ideal) (W3 m c main_v26) (ix3 T q k) = _
  blk_ext [index1_0 (a1 m) t]
theorem in1_1 (t : Fin grid1.N) (e : Fin 1024) :
    in1 m c 1 t (ix2 e 0) = W2 m c main_v14_0 (ix2 ⟨(edge1 t e).val / 16, point_of_edge _⟩ ⟨(edge1 t e).val % 16, mod_sixteen _⟩) := by
  refine Eq.trans ?_ (v27_at m c (edge1 t e) (point_of_edge _))
  show ((win1 (a1 m) 1).blk t).view.read (Elt Ideal) (W3 m c main_v27) (ix2 e 0) = _
  blk_ext [index1_1 (a1 m) t]
theorem in1_2 (t : Fin grid1.N) (j : Fin 256) : in1 m c 2 t (ix2 0 j) = m (c, Proc.devRef .tc main_arg5) (ix1 j) := by
  refine Eq.trans ?_ (v30_at m c j)
  show ((win1 (a1 m) 2).blk t).view.read (Elt Ideal) (W3 m c main_v30) (ix2 0 j) = _
  blk_ext [index1_2 (a1 m) t]
theorem in1_3 (t : Fin grid1.N) (j : Fin 256) : in1 m c 3 t (ix2 0 j) = m (c, Proc.devRef .tc main_arg6) (ix1 j) := by
  refine Eq.trans ?_ (v31_at m c j)
  show ((win1 (a1 m) 3).blk t).view.read (Elt Ideal) (W3 m c main_v31) (ix2 0 j) = _
  blk_ext [index1_3 (a1 m) t]
theorem in1_5 (t : Fin grid1.N) (j : Fin 256) : in1 m c 5 t (ix2 0 j) = m (c, Proc.devRef .tc main_arg8) (ix1 j) := by
  refine Eq.trans ?_ (v32_at m c j)
  show ((win1 (a1 m) 5).blk t).view.read (Elt Ideal) (W3 m c main_v32) (ix2 0 j) = _
  blk_ext [index1_5 (a1 m) t]
theorem in1_7 (t : Fin grid1.N) (j : Fin 256) : in1 m c 7 t (ix2 0 j) = m (c, Proc.devRef .tc main_arg10) (ix1 j) := by
  refine Eq.trans ?_ (v33_at m c j)
  show ((win1 (a1 m) 7).blk t).view.read (Elt Ideal) (W3 m c main_v33) (ix2 0 j) = _
  blk_ext [index1_7 (a1 m) t]
theorem in1_9 (t : Fin grid1.N) (j : Fin 768) : in1 m c 9 t (ix2 0 j) = m (c, Proc.devRef .tc main_arg12) (ix1 j) := by
  refine Eq.trans ?_ (v34_at m c j)
  show ((win1 (a1 m) 9).blk t).view.read (Elt Ideal) (W3 m c main_v34) (ix2 0 j) = _
  blk_ext [index1_9 (a1 m) t]
theorem in1_10 (t : Fin grid1.N) (j : Fin 768) : in1 m c 10 t (ix2 0 j) = m (c, Proc.devRef .tc main_arg13) (ix1 j) := by
  refine Eq.trans ?_ (v35_at m c j)
  show ((win1 (a1 m) 10).blk t).view.read (Elt Ideal) (W3 m c main_v35) (ix2 0 j) = _
  blk_ext [index1_10 (a1 m) t]
theorem in1_12 (t : Fin grid1.N) (j : Fin 256) : in1 m c 12 t (ix2 0 j) = m (c, Proc.devRef .tc main_arg15) (ix1 j) := by
  refine Eq.trans ?_ (v36_at m c j)
  show ((win1 (a1 m) 12).blk t).view.read (Elt Ideal) (W3 m c main_v36) (ix2 0 j) = _
  blk_ext [index1_12 (a1 m) t]
theorem in1_14 (t : Fin grid1.N) (j : Fin 256) : in1 m c 14 t (ix2 0 j) = m (c, Proc.devRef .tc main_arg17) (ix1 j) := by
  refine Eq.trans ?_ (v37_at m c j)
  show ((win1 (a1 m) 14).blk t).view.read (Elt Ideal) (W3 m c main_v37) (ix2 0 j) = _
  blk_ext [index1_14 (a1 m) t]
theorem in1_16 (t : Fin grid1.N) (j : Fin 256) : in1 m c 16 t (ix2 0 j) = m (c, Proc.devRef .tc main_arg19) (ix1 j) := by
  refine Eq.trans ?_ (v38_at m c j)
  show ((win1 (a1 m) 16).blk t).view.read (Elt Ideal) (W3 m c main_v38) (ix2 0 j) = _
  blk_ext [index1_16 (a1 m) t]
theorem in1_4 (t : Fin grid1.N) (j : Fin 256) (d : Fin 256) : in1 m c 4 t (ix2 j d) = m (c, Proc.devRef .tc main_arg7) (ix2 j d) := by
  refine Eq.trans ?_ (congrFun (W3_arg m c main_arg7 (by decide)) (ix2 j d))
  show ((win1 (a1 m) 4).blk t).view.read (Elt Ideal) (W3 m c main_arg7) (ix2 j d) = _
  blk_ext [index1_4 (a1 m) t]
theorem in1_6 (t : Fin grid1.N) (j : Fin 9) (d : Fin 256) : in1 m c 6 t (ix2 j d) = m (c, Proc.devRef .tc main_arg9) (ix2 j d) := by
  refine Eq.trans ?_ (congrFun (W3_arg m c main_arg9 (by decide)) (ix2 j d))
  show ((win1 (a1 m) 6).blk t).view.read (Elt Ideal) (W3 m c main_arg9) (ix2 j d) = _
  blk_ext [index1_6 (a1 m) t]
theorem in1_11 (t : Fin grid1.N) (j : Fin 768) (d : Fin 256) : in1 m c 11 t (ix2 j d) = m (c, Proc.devRef .tc main_arg14) (ix2 j d) := by
  refine Eq.trans ?_ (congrFun (W3_arg m c main_arg14 (by decide)) (ix2 j d))
  show ((win1 (a1 m) 11).blk t).view.read (Elt Ideal) (W3 m c main_arg14) (ix2 j d) = _
  blk_ext [index1_11 (a1 m) t]
theorem in1_13 (t : Fin grid1.N) (j : Fin 256) (d : Fin 256) : in1 m c 13 t (ix2 j d) = m (c, Proc.devRef .tc main_arg16) (ix2 j d) := by
  refine Eq.trans ?_ (congrFun (W3_arg m c main_arg16 (by decide)) (ix2 j d))
  show ((win1 (a1 m) 13).blk t).view.read (Elt Ideal) (W3 m c main_arg16) (ix2 j d) = _
  blk_ext [index1_13 (a1 m) t]
theorem in1_15 (t : Fin grid1.N) (j : Fin 256) (d : Fin 256) : in1 m c 15 t (ix2 j d) = m (c, Proc.devRef .tc main_arg18) (ix2 j d) := by
  refine Eq.trans ?_ (congrFun (W3_arg m c main_arg18 (by decide)) (ix2 j d))
  show ((win1 (a1 m) 15).blk t).view.read (Elt Ideal) (W3 m c main_arg18) (ix2 j d) = _
  blk_ext [index1_15 (a1 m) t]
theorem in1_8 (t : Fin grid1.N) (j : Fin 66) (d : Fin 256) (h : j.val < 128) : (in1 m c 8 t (ix2 ⟨j.val, h⟩ d) : EReal) = table m c (ix2 j d) := by
  refine Eq.trans ?_ (v29_at m c j d h)
  show ((win1 (a1 m) 8).blk t).view.read (Elt Ideal) (W3 m c main_v29) (ix2 ⟨j.val, h⟩ d) = _
  blk_ext [index1_8 (a1 m) t]

/-- The nine rows of the direction weights a block's body loads. -/
def dirRow (dw : Vec Ideal S9x256 .f32) (k : Fin 9) : Vec Ideal S1x256 .f32 :=
  sub dw (Rect.unit (s := S9x256) ![k.val, 0] S1x256.size (dir_inb k)).toLoadRect

/-- A block's edge, from what its windows hold. -/
theorem edgeBlock_apply (i : grid1.Coords) (a b : IVec S128 32) (lo hi : IVec S16 32) (slab : Vec Ideal S16x512x32 .f32) (ix : IVec S1024x1 32)
    (g1 : Vec Ideal S1x256 .f32) (b1 : Vec Ideal S1x256 .f32) (w1 : Vec Ideal S256x256 .f32) (c1 : Vec Ideal S1x256 .f32) (dw : Vec Ideal S9x256 .f32)
    (db : Vec Ideal S1x256 .f32) (se : Vec Ideal S128x256 .f32) (g2 : Vec Ideal S1x768 .f32) (b2 : Vec Ideal S1x768 .f32) (w2 : Vec Ideal S768x256 .f32)
    (c2 : Vec Ideal S1x256 .f32) (w3 : Vec Ideal S256x256 .f32) (c3 : Vec Ideal S1x256 .f32) (w4 : Vec Ideal S256x256 .f32) (c4 : Vec Ideal S1x256 .f32)
    (W : Weights) (A : Atoms) (Fr : Frames) (P C : Words) (T : Mat 66 256) (R n : Fin 8192) (e : Fin 1024) (d : Fin 256)
    (hW : W = { g1 := fun j => g1 (ix2 0 j), b1 := fun j => b1 (ix2 0 j), w1 := fun j d => w1 (ix2 j d), c1 := fun d => c1 (ix2 0 d),
                dw := fun k d => dw (ix2 k d), db := fun d => db (ix2 0 d), g2 := fun j => g2 (ix2 0 j), b2 := fun j => b2 (ix2 0 j),
                w2 := fun j d => w2 (ix2 j d), c2 := fun d => c2 (ix2 0 d), w3 := fun j d => w3 (ix2 j d), c3 := fun d => c3 (ix2 0 d),
                w4 := fun j d => w4 (ix2 j d), c4 := fun d => c4 (ix2 0 d) })
    (hT : ∀ (j : Fin 66) (d : Fin 256) (h : j.val < 128), (se (ix2 ⟨j.val, h⟩ d) : EReal) = T (ix2 j d))
    (hown : ∀ k, k1_pay3 (F := Ideal) (sub slab (Rect.unit (s := S16x512x32) (k1_off4 i) S1x64x32.size (k1_off4_inb i)).toLoadRect) (ix2 e k) = feat A Fr P C R k)
    (hnb : ∀ k, gathered (F := Ideal) i a b lo hi slab ix (ix2 e k) = feat A Fr P C n k) :
    edgeBlock (F := Ideal) i a b lo hi slab ix g1 b1 w1 c1 dw db se g2 b2 w2 c2 w3 c3 w4 c4 (ix2 e d) = between W A Fr P C T R n d := by
  unfold edgeBlock
  refine (edge_rows _ _ g1 b1 w1 c1 (dirRow dw) db se g2 b2 w2 c2 w3 c3 w4 c4 e d).trans ?_
  have hrel : ∀ d, relative (F := Ideal) (k1_pay3 (F := Ideal) (sub slab (Rect.unit (s := S16x512x32) (k1_off4 i) S1x64x32.size (k1_off4_inb i)).toLoadRect))
      (gathered (F := Ideal) i a b lo hi slab ix) se (ix2 e d)
      = T (ix2 ⟨Spec.place (P (ix1 R)) (P (ix1 n)) (C (ix1 R)) (C (ix1 n)), place_lt _ _ _ _⟩ d) := fun d =>
    (relative_apply _ _ se e d (P (ix1 R)) (P (ix1 n)) (C (ix1 R)) (C (ix1 n)) (hown 21) (hown 22) (hnb 21) (hnb 22)).trans (hT ⟨_, place_lt _ _ _ _⟩ d _)
  have hdw : ∀ (k : Fin 9) (d : Fin 256), dirRow dw k (ix2 0 d) = dw (ix2 k d) := fun k d => sub_row dw k (dir_inb k) d 0
  subst hW
  unfold between
  simp only [hrel, hdw, hown, hnb, feat_atom, feat_vec]

theorem weights1 (t : Fin grid1.N) : theWeights m c
    = { g1 := fun j => in1 m c 2 t (ix2 0 j), b1 := fun j => in1 m c 3 t (ix2 0 j), w1 := fun j d => in1 m c 4 t (ix2 j d), c1 := fun d => in1 m c 5 t (ix2 0 d),
        dw := fun k d => in1 m c 6 t (ix2 k d), db := fun d => in1 m c 7 t (ix2 0 d), g2 := fun j => in1 m c 9 t (ix2 0 j), b2 := fun j => in1 m c 10 t (ix2 0 j),
        w2 := fun j d => in1 m c 11 t (ix2 j d), c2 := fun d => in1 m c 12 t (ix2 0 d), w3 := fun j d => in1 m c 13 t (ix2 j d), c3 := fun d => in1 m c 14 t (ix2 0 d),
        w4 := fun j d => in1 m c 15 t (ix2 j d), c4 := fun d => in1 m c 16 t (ix2 0 d) } := by
  unfold theWeights weights
  refine (Weights.mk.injEq ..).mpr ⟨?_, ?_, ?_, ?_, ?_, ?_, ?_, ?_, ?_, ?_, ?_, ?_, ?_, ?_⟩
  · exact funext fun j => (in1_2 m c t j).symm
  · exact funext fun j => (in1_3 m c t j).symm
  · exact funext fun j => funext fun d => (in1_4 m c t j d).symm
  · exact funext fun j => (in1_5 m c t j).symm
  · exact funext fun j => funext fun d => (in1_6 m c t j d).symm
  · exact funext fun j => (in1_7 m c t j).symm
  · exact funext fun j => (in1_9 m c t j).symm
  · exact funext fun j => (in1_10 m c t j).symm
  · exact funext fun j => funext fun d => (in1_11 m c t j d).symm
  · exact funext fun j => (in1_12 m c t j).symm
  · exact funext fun j => funext fun d => (in1_13 m c t j d).symm
  · exact funext fun j => (in1_14 m c t j).symm
  · exact funext fun j => funext fun d => (in1_15 m c t j d).symm
  · exact funext fun j => (in1_16 m c t j).symm

variable (hS : ∀ a b : Fin 8192, a ≤ b → (samples m c (ix1 a)).toInt ≤ (samples m c (ix1 b)).toInt)
include hS

/-- A point's neighbour. -/
abbrev nbr1 (i : Fin 8192) (k : Fin 16) : Fin 8192 := nbr (coords m c) (samples m c) i k

/-- A block's edges are the specification's. -/
theorem edges_block (t : Fin grid1.N) (e : Fin 1024) (d : Fin 256) :
    edgeAt m c t (ix2 e d) = between (theWeights m c) (coords m c) (frames m c) (positions m c) (chains m c) (table m c) (pt1 t e)
      (nbr1 m c (pt1 t e) ⟨e.val % 16, mod_sixteen _⟩) d := by
  have hp : (⟨(edge1 t e).val / 16, point_of_edge _⟩ : Fin 8192) = pt1 t e :=
    Fin.ext (by show (1024 * (grid1.coords t 0).val + e.val) / 16 = 64 * (grid1.coords t 0).val + e.val / 16; omega)
  have hk : (⟨(edge1 t e).val % 16, mod_sixteen _⟩ : Fin 16) = ⟨e.val % 16, mod_sixteen _⟩ :=
    Fin.ext (by show (1024 * (grid1.coords t 0).val + e.val) % 16 = e.val % 16; omega)
  have hn : in1 m c 1 t (ix2 e 0) = BitVec.ofNat 32 (nbr1 m c (pt1 t e) ⟨e.val % 16, mod_sixteen _⟩).val := by
    rw [in1_1, hp, hk]
    exact nbrs_at m c hS _ _
  unfold edgeAt
  exact edgeBlock_apply (grid1.coords t) _ _ _ _ _ _ _ _ _ _ _ _ _ _ _ _ _ _ _ _ _ (theWeights m c) (coords m c) (frames m c) (positions m c) (chains m c)
    (table m c) (pt1 t e) (nbr1 m c (pt1 t e) ⟨e.val % 16, mod_sixteen _⟩) e d (weights1 m c t) (in1_8 m c t)
    (own_slab (grid1.coords t) (in1_0 m c t) e (pt1 t e) rfl)
    (gathered_apply (samples m c) hS (grid1.coords t) (v12_at m c) (v13_at m c) (v10_at m c) (v11_at m c) (in1_0 m c t) e (pt1 t e) _ rfl hn
      (sample_nbr (pt1 t e) _))

omit hS in
/-- What an entry of the array of all edges should be. -/
def edgeEntry (j : S131072x256.Idx) : EReal :=
  between (theWeights m c) (coords m c) (frames m c) (positions m c) (chains m c) (table m c)
    ⟨(j 0).val / 16, point_of_edge (j 0)⟩ (nbr1 m c ⟨(j 0).val / 16, point_of_edge (j 0)⟩ ⟨(j 0).val % 16, mod_sixteen _⟩) (j 1)

omit hS in
theorem edgeEntry_at (E : Fin 131072) (i : Fin 8192) (k : Fin 16) (hi : E.val / 16 = i.val) (hk : E.val % 16 = k.val) (d : Fin 256) :
    edgeEntry m c (ix2 E d)
      = between (theWeights m c) (coords m c) (frames m c) (positions m c) (chains m c) (table m c) i (nbr1 m c i k) d := by
  have e0 : (⟨E.val / 16, point_of_edge E⟩ : Fin 8192) = i := Fin.ext hi
  have e1 : (⟨E.val % 16, mod_sixteen _⟩ : Fin 16) = k := Fin.ext hk
  show between _ _ _ _ _ _ ⟨E.val / 16, point_of_edge E⟩ (nbr1 m c ⟨E.val / 16, point_of_edge E⟩ ⟨E.val % 16, mod_sixteen _⟩) d = _
  rw [e0, e1]

/-- The features of all edges. -/
theorem edges_at (i : Fin 8192) (k : Fin 16) (d : Fin 256) :
    W5 m c main_v40 (ix3 i k d)
      = between (theWeights m c) (coords m c) (frames m c) (positions m c) (chains m c) (table m c) i (nbr1 m c i k) d := by
  have hE : 16 * i.val + k.val < 131072 := by omega
  rw [v40_at m c i k d hE]
  refine (congrFun (W4_arr m c 17) (ix2 ⟨16 * i.val + k.val, hE⟩ d)).trans ?_
  refine Eq.trans ((dat1 m c).arrAt_forall_of_cover 17 (fun (j : S131072x256.Idx) (v : EReal) => v = edgeEntry m c j)
    (fun t _ (y : S1024x256.Idx) => ?_) (covers1_17 (a1 m)) (ix2 ⟨16 * i.val + k.val, hE⟩ d))
    (edgeEntry_at m c ⟨16 * i.val + k.val, hE⟩ i k (by show (16 * i.val + k.val) / 16 = i.val; omega) (by show (16 * i.val + k.val) % 16 = k.val; omega) d)
  have e : ((win1 (a1 m) 17).blk t).view.emb y = (ix2 (edge1 t (y 0)) (y 1) : S131072x256.Idx) := by blk_ext [index1_17 (a1 m) t]
  show edgeAt m c t y = edgeEntry m c (((win1 (a1 m) 17).blk t).view.emb y)
  rw [e, congrArg (edgeAt m c t) (eq_ix2 y)]
  have hy : (y 0).val < 1024 := (y 0).isLt
  refine (edges_block m c hS t (y 0) (y 1)).trans (edgeEntry_at m c (edge1 t (y 0)) (pt1 t (y 0)) ⟨(y 0).val % 16, mod_sixteen _⟩ ?_ ?_ (y 1)).symm
  · show (1024 * (grid1.coords t 0).val + (y 0).val) / 16 = 64 * (grid1.coords t 0).val + (y 0).val / 16
    omega
  · show (1024 * (grid1.coords t 0).val + (y 0).val) % 16 = (y 0).val % 16
    omega

end Cert.Proof.KernelIdeal
-- ==== Proof.Sorted.lean ====
/-
  A stable sort by value puts at place `k` the position of rank `k`, so the greatest entries of a row taken by a
  stable sort, and their positions, are those of the least ranks of the row's opposite (`topK_apply`).
-/
module

public import proofs.«01_k».proof.Proof.Rank
public import Idealize.ShloMosaic.Lib.Pointwise
public import Idealize.ShloMosaic.Lib.SortFacts

@[expose] public section

noncomputable section

namespace Cert.Proof.Rank

open Idealize.ShloMosaic
open scoped Classical

variable {n : Nat} {v : Fin n → EReal} {B : Fin n → Fin n → Bool} (hB : ∀ a b, B a b = true ↔ v a < v b)

include hB in
theorem pairwise_insert (a : Fin n) : ∀ l : List (Fin n), (∀ x ∈ l, a < x) → l.Pairwise (before v) → (insertBefore B a l).Pairwise (before v)
  | [], _, _ => by simp [insertBefore]
  | b :: l, hl, hp => by
    rw [List.pairwise_cons] at hp
    unfold insertBefore
    split_ifs with h
    · rw [List.pairwise_cons]
      refine ⟨fun x hx => ?_, pairwise_insert a l (fun x hx => hl x (List.mem_cons_of_mem _ hx)) hp.2⟩
      rcases List.mem_cons.mp ((perm_insertBefore B a l).mem_iff.mp hx) with e | hx
      · exact e ▸ Or.inl ((hB b a).mp h)
      · exact hp.1 x hx
    · have hab : before v a b := by
        have hle : v a ≤ v b := not_lt.mp fun c => h ((hB b a).mpr c)
        rcases hle.lt_or_eq with c | c
        · exact Or.inl c
        · exact Or.inr ⟨c, hl b List.mem_cons_self⟩
      rw [List.pairwise_cons, List.pairwise_cons]
      refine ⟨fun x hx => ?_, hp.1, hp.2⟩
      rcases List.mem_cons.mp hx with e | hx
      · exact e ▸ hab
      · exact before_trans hab (hp.1 x hx)

include hB in
theorem pairwise_sort : ∀ l : List (Fin n), l.Pairwise (· < ·) → (stableSort B l).Pairwise (before v)
  | [], _ => by simp [stableSort]
  | a :: l, h => by
    rw [List.pairwise_cons] at h
    exact pairwise_insert hB a _ (fun x hx => h.1 x ((perm_stableSort B l).mem_iff.mp hx)) (pairwise_sort l h.2)

include hB in
/-- The position sorted to place `k` has rank `k`. -/
theorem rk_sortedFrom (k : Fin n) : rk v (sortedFrom B k) = k.val := by
  have hp : (sortPositions n B).Pairwise (before v) := pairwise_sort hB _ (List.pairwise_lt_finRange n)
  have hlt : ∀ i j : Fin n, i < j → before v (sortedFrom B i) (sortedFrom B j) := fun i j h =>
    List.pairwise_iff_get.mp hp _ _ h
  have hiff : ∀ i j : Fin n, before v (sortedFrom B i) (sortedFrom B j) ↔ i < j := fun i j => by
    refine ⟨fun hb => ?_, hlt i j⟩
    rcases lt_trichotomy i j with h | h | h
    · exact h
    · exact absurd (h ▸ hb) (before_irrefl v _)
    · exact absurd (before_trans hb (hlt j i h)) (before_irrefl v _)
  have : rk v (sortedFrom B k) = (Finset.univ.filter fun i : Fin n => i < k).card := by
    symm
    refine Finset.card_bij (fun i _ => sortedFrom B i) (fun i hi => ?_) (fun i _ j _ h => sortedFrom_injective B h) (fun q hq => ?_)
    · exact Finset.mem_filter.mpr ⟨Finset.mem_univ _, (hiff i k).mpr (Finset.mem_filter.mp hi).2⟩
    · obtain ⟨i, rfl⟩ := sortedFrom_surjective B q
      exact ⟨i, Finset.mem_filter.mpr ⟨Finset.mem_univ _, (hiff i k).mp (Finset.mem_filter.mp hq).2⟩, rfl⟩
  rw [this]
  have e : (Finset.univ.filter fun i : Fin n => i < k) = Finset.Iio k := by ext i; simp
  rw [e, Fin.card_Iio]

/-- The positions of the greatest `K` of each row: the word at `(i, k)` is the position whose opposite has rank `k`. -/
theorem topK_apply {m K : Nat} (hK : K ≤ n) (x : (⟨2, ![m, n]⟩ : Shape).Idx → EReal) (h : (⟨2, ![m, n]⟩ : Shape).Slices (fun _ => 0) ⟨2, ![m, K]⟩)
    (i : Fin m) (k : Fin K) (w : Fin n → EReal) (hw : ∀ j, x (ix2 i j) = - w j) :
    ∃ j, rk w j = k.val ∧
      (Host.topK (⟨2, ![m, K]⟩ : Shape) 1 (FloatOps.cmpfTotal (F := Ideal) (φ := .f32) .gt) x h).2 (ix2 i k) = BitVec.ofNat 32 j.val := by
  let B : Fin n → Fin n → Bool := fun a b => FloatOps.cmpfTotal (F := Ideal) (φ := .f32) .gt (x (ix2 i a)) (x (ix2 i b)) == 1#1
  have hB : ∀ a b, B a b = true ↔ w a < w b := fun a b => by
    show (BitVec.ofBool (decide (x (ix2 i b) < x (ix2 i a))) == 1#1) = true ↔ _
    rw [hw, hw]
    by_cases h : w a < w b
    · simp [h]
    · simp [h]
  refine ⟨sortedFrom B ⟨k.val, by omega⟩, rk_sortedFrom hB _, ?_⟩
  have al : ∀ q : Fin n, (ix2 i (⟨k.val, by omega⟩ : Fin n) : (⟨2, ![m, n]⟩ : Shape).Idx).along 1 q = ix2 i q := fun q => by
    funext d
    match d with
    | ⟨0, _⟩ => rfl
    | ⟨1, _⟩ => rfl
  have es : ∀ z : IVec (⟨2, ![m, n]⟩ : Shape) 32,
      extractStridedSlice (⟨2, ![m, K]⟩ : Shape) (fun _ => 0) z h (ix2 i k) = z (ix2 i ⟨k.val, by omega⟩) := fun z => by
    refine congrArg z (funext fun d => ?_)
    match d with
    | ⟨0, _⟩ => exact Fin.ext (Nat.zero_add _)
    | ⟨1, _⟩ => exact Fin.ext (Nat.zero_add _)
  refine (es (Host.sort2 (⟨2, ![m, n]⟩ : Shape) 1 (fun l r => FloatOps.cmpfTotal (F := Ideal) (φ := .f32) .gt l.1 r.1) x
    (fun i => if hd : 1 < (⟨2, ![m, n]⟩ : Shape).rank then iotaInDim (⟨2, ![m, n]⟩ : Shape) 32 ⟨1, hd⟩ i else 0#32)).2).trans ?_
  have e2 : ∀ (y : IVec (⟨2, ![m, n]⟩ : Shape) 32) (j : (⟨2, ![m, n]⟩ : Shape).Idx),
      (Host.sort2 (⟨2, ![m, n]⟩ : Shape) 1 (fun l r => FloatOps.cmpfTotal (F := Ideal) (φ := .f32) .gt l.1 r.1) x y).2 j
        = y (j.along 1 (sortedFrom (fun a b => FloatOps.cmpfTotal (F := Ideal) (φ := .f32) .gt (x (j.along 1 a)) (x (j.along 1 b)) == 1#1) (j 1))) := fun y j => rfl
  refine (e2 _ _).trans ?_
  have eB : (fun a b : Fin n => FloatOps.cmpfTotal (F := Ideal) (φ := .f32) .gt (x ((ix2 i (⟨k.val, by omega⟩ : Fin n)).along 1 a)) (x ((ix2 i (⟨k.val, by omega⟩ : Fin n)).along 1 b)) == 1#1) = B :=
    funext fun a => funext fun b => by rw [al, al]
  have eq := (al (sortedFrom (fun a b : Fin n => FloatOps.cmpfTotal (F := Ideal) (φ := .f32) .gt (x ((ix2 i (⟨k.val, by omega⟩ : Fin n)).along 1 a)) (x ((ix2 i (⟨k.val, by omega⟩ : Fin n)).along 1 b)) == 1#1) ⟨k.val, by omega⟩)).trans
    (congrArg (fun z => ix2 i (sortedFrom z ⟨k.val, by omega⟩)) eB)
  exact congrArg (fun j : (⟨2, ![m, n]⟩ : Shape).Idx => BitVec.ofNat 32 (j 1).val) eq

end Cert.Proof.Rank
-- ==== Proof.RefSearch.lean ====
/-
  The reference's neighbours and mask, entry by entry: the neighbours of `Nearest.lean`.
-/
module

public import proofs.«01_k».proof.Proof.Gen.ReferenceIdeal.Read
public import proofs.«01_k».proof.Proof.Nearest
public import proofs.«01_k».proof.Proof.Sorted
public import Idealize.ShloMosaic.Lib.Routing.OpsPair
public import Idealize.ShloMosaic.Lib.Pointwise.IndexBridge

@[expose] public section

noncomputable section

namespace Cert.Proof.ReferenceIdeal

open Cert.ReferenceIdeal Cert.ReferenceIdeal.Gen Cert.ReferenceIdeal.Read
open Idealize.ShloMosaic Idealize.ShloMosaic.TcCoe
open Cert.Proof.Rank Cert.Proof.Spec

variable (A : Atoms) (S : Words)

theorem cmpi_ne_word (x y : BitVec 32) : IntOp.cmpi .ne x y = if x = y then 0#1 else 1#1 := by
  show BitVec.ofBool (x != y) = _
  by_cases h : x = y
  · simp [h]
  · have : (x == y) = false := beq_false_of_ne h
    rw [if_neg h, bne, this]; rfl

theorem cmpi_eq_word (x y : BitVec 32) : IntOp.cmpi .eq x y = if x = y then 1#1 else 0#1 := by
  show BitVec.ofBool (x == y) = _
  by_cases h : x = y
  · simp [h]
  · have : (x == y) = false := beq_false_of_ne h
    rw [if_neg h, this]; rfl

theorem inf_eq : FloatOps.ofBits (F := Ideal) .f32 0x7F800000#32 = (⊤ : EReal) := by
  simp [FloatOps.ofBits, Ideal.ofBits, Ideal.ieee]

theorem zero_eq : FloatOps.ofBits (F := Ideal) .f32 0x00000000#32 = (0 : EReal) := by
  simp [FloatOps.ofBits, Ideal.ofBits, Ideal.ieee]

/-- Two indices of a rank-three shape with the same coordinates. -/
theorem idx3_ext {a b c : Nat} {x y : (⟨3, ![a, b, c]⟩ : Shape).Idx} (h0 : (x 0).val = (y 0).val) (h1 : (x 1).val = (y 1).val) (h2 : (x 2).val = (y 2).val) : x = y :=
  funext fun d => match d with
    | ⟨0, _⟩ => Fin.ext h0
    | ⟨1, _⟩ => Fin.ext h1
    | ⟨2, _⟩ => Fin.ext h2

theorem diff_apply (i j : Fin 8192) (a : Fin 3) : val_main_v6 (F := Ideal) A (ix3 i j a) = A (ix3 j 1 a) - A (ix3 i 1 a) := by
  rw [val_main_v6_apply, val_main_v4_apply, val_main_v2_apply, val_main_v1_apply, val_main_v0_apply,
    val_main_v5_apply, val_main_v3_apply, val_main_v1_apply, val_main_v0_apply]
  refine congrArg₂ (fun x y : EReal => x - y) (congrArg A (idx3_ext ?_ ?_ ?_)) (congrArg A (idx3_ext ?_ ?_ ?_))
  all_goals
    have := i.isLt; have := j.isLt; have := a.isLt
    simp [idx_main_v0, idx_main_v1]
  all_goals omega

theorem dist_apply (i j : Fin 8192) : val_main_v15 (F := Ideal) A S (ix2 i j) = near A S i j := by
  rw [val_main_v15_apply, val_main_v14_apply, val_main_v12_apply, val_main_v10_apply, val_main_v13_apply, val_main_v11_apply, cmpi_ne_word,
    val_main_call0_v1_apply, val_main_call0_v0_apply, val_main_cst_0_apply, inf_eq, val_main_v9_apply, val_main_v8_apply, val_main_cst_apply, zero_eq]
  have e : ∀ a : Fin 3, val_main_v7 (F := Ideal) A (idx_main_v8 (ix2 i j) a) = (A (ix3 j 1 a) - A (ix3 i 1 a)) * (A (ix3 j 1 a) - A (ix3 i 1 a)) := fun a => by
    rw [val_main_v7_apply, show idx_main_v8 (ix2 i j) a = ix3 i j a from eq_ix3 _, diff_apply]; rfl
  rw [Finset.sum_congr rfl fun a _ => e a, Fin.sum_univ_three]
  rw [show idx_main_v10 (idx_main_v12 (ix2 i j)) = ix1 j from eq_ix1 _, show idx_main_v11 (idx_main_v13 (ix2 i j)) = ix1 i from eq_ix1 _]
  unfold near
  split_ifs with h
  · show Ideal.sqrt _ = _
    rw [zero_add]
  · rfl

/-- The reference's `k`-th position is the point of rank `k`. -/
theorem indices_apply (i : Fin 8192) (k : Fin 16) : val_main_indices (F := Ideal) A S (ix2 i k) = BitVec.ofNat 32 (nearest A S i k).val := by
  unfold val_main_indices
  obtain ⟨j, hj, e⟩ := topK_apply (n := 8192) (m := 8192) (K := 16) (by decide) (val_main_v16 (F := Ideal) A S) sliceFits_S8192x8192_S8192x16 i k (near A S i) (fun j => by
    rw [val_main_v16_apply, dist_apply]; rfl)
  rw [nearest_eq A S hj]
  exact e

theorem toInt_ofNat {a : Nat} (h : a < 2147483648) : (BitVec.ofNat 32 a).toInt = a := by
  rw [BitVec.toInt_eq_toNat_of_lt (by rw [BitVec.toNat_ofNat]; omega), BitVec.toNat_ofNat]
  omega

/-- A point's number is not negative, so it is not wrapped. -/
theorem wrap_point (j : Fin 8192) (a : BitVec 32) : Scalar.select (IntOp.cmpi .slt (BitVec.ofNat 32 j.val) 0#32) a (BitVec.ofNat 32 j.val) = BitVec.ofNat 32 j.val :=
  Routing.wrap_of_lt _ _ (by rw [BitVec.toNat_ofNat]; omega)

/-- Taking of a table of words by point numbers. -/
theorem take_apply (x : Words) (idx : IVec S8192x16x1 32) (i : Fin 8192) (k : Fin 16) (j : Fin 8192) (h : idx (ix3 i k 0) = BitVec.ofNat 32 j.val) :
    Host.gather gather_S8192_S8192x16x1_S8192x16_n_0_n_n_0_2_1 x idx (ix2 i k) = x (ix1 j) := by
  refine (ValueIdx.gather_take_apply (by decide) gather_S8192_S8192x16x1_S8192x16_n_0_n_n_0_2_1_wf x idx (ix2 i k)).trans ?_
  rw [← ix1_eq_valueIdx]
  refine congrArg (fun z => x (ix1 z)) (Fin.ext ?_)
  have ht : idx (ValueIdx.takeIdx (ix2 i k)) = BitVec.ofNat 32 j.val := (congrArg idx (eq_ix3 _)).trans h
  show min (idx (ValueIdx.takeIdx (ix2 i k))).toInt.toNat (8192 - 1) = j.val
  rw [ht, toInt_ofNat (by omega)]
  simp; omega

open scoped Classical in
/-- The reference's mask: whether there is a `k`-th neighbour, -/
theorem mask_apply (hA : Finite A) (i : Fin 8192) (k : Fin 16) : val_main_v26 (F := Ideal) A S (ix2 i k) = if has A S i k then 1#1 else 0#1 := by
  rw [val_main_v26_apply, val_main_v25_apply, val_main_v24_apply, cmpi_eq_word, show idx_main_v24 (idx_main_v25 (ix2 i k)) = ix1 i from eq_ix1 _]
  unfold val_main_v23
  rw [take_apply S _ i k (nearest A S i k)]
  · exact if_congr (near_lt_top hA).symm rfl rfl
  · rw [val_main_v22_apply, show idx_main_v22 (ix3 i k 0) = ix2 i k from eq_ix2 _, val_main_v21_apply, val_main_v18_apply, val_main_v17_apply, indices_apply]
    exact wrap_point _ _

/-- and the reference's neighbours. -/
theorem nbr_apply (hA : Finite A) (i : Fin 8192) (k : Fin 16) : val_main_v29 (F := Ideal) A S (ix2 i k) = BitVec.ofNat 32 (nbr A S i k).val := by
  rw [val_main_v29_apply, mask_apply A S hA, indices_apply, val_main_call1_v0_apply, val_main_v28_apply, val_main_v27_apply]
  unfold nbr
  split_ifs with h
  · rfl
  · rfl

end Cert.Proof.ReferenceIdeal
-- ==== Proof.RefTake.lean ====
/-
  Taking of rows by words, as the reference does it: of a stack of matrices, of a matrix, and of the reference's own
  tables by its neighbours.
-/
module

public import proofs.«01_k».proof.Proof.RefSearch
public import proofs.«01_k».proof.Proof.EdgeSpec

@[expose] public section

noncomputable section

namespace Cert.Proof.ReferenceIdeal

open Cert.ReferenceIdeal Cert.ReferenceIdeal.Gen Cert.ReferenceIdeal.Read
open Idealize.ShloMosaic Idealize.ShloMosaic.TcCoe
open Cert.Proof.Spec

section
variable {α : Type} {N R C a b : Nat}

/-- The dimensions of taking a matrix of a stack for every word of a table, -/
abbrev stackDims (wf : GatherDims.WF ⟨3, ![N, a, b]⟩ ⟨3, ![R, C, 1]⟩ ⟨4, ![R, C, a, b]⟩ [2, 3] [0] [] [0] [] 2 ![1, a, b]) :
    GatherDims ⟨3, ![N, a, b]⟩ ⟨3, ![R, C, 1]⟩ ⟨4, ![R, C, a, b]⟩ where
  offsetDims := [2, 3]
  collapsedSliceDims := [0]
  operandBatchingDims := []
  startIndicesBatchingDims := []
  startIndexMap := [0]
  indexVectorDim := 2
  sliceSizes := ![1, a, b]
  wf := wf

/-- and a row of a matrix. -/
abbrev rowDims (wf : GatherDims.WF ⟨2, ![N, b]⟩ ⟨3, ![R, C, 1]⟩ ⟨3, ![R, C, b]⟩ [2] [0] [] [0] [] 2 ![1, b]) :
    GatherDims ⟨2, ![N, b]⟩ ⟨3, ![R, C, 1]⟩ ⟨3, ![R, C, b]⟩ where
  offsetDims := [2]
  collapsedSliceDims := [0]
  operandBatchingDims := []
  startIndicesBatchingDims := []
  startIndexMap := [0]
  indexVectorDim := 2
  sliceSizes := ![1, b]
  wf := wf

theorem stack_apply (wf : GatherDims.WF ⟨3, ![N, a, b]⟩ ⟨3, ![R, C, 1]⟩ ⟨4, ![R, C, a, b]⟩ [2, 3] [0] [] [0] [] 2 ![1, a, b])
    (x : (⟨3, ![N, a, b]⟩ : Shape).Idx → α) (idx : IVec ⟨3, ![R, C, 1]⟩ 32) (i : Fin R) (k : Fin C) (p : Fin a) (q : Fin b) (n : Fin N)
    (h : min (idx (ix3 i k 0)).toInt.toNat (N - 1) = n.val) :
    Host.gather (stackDims wf) x idx (ix4 i k p q) = x (ix3 n p q) := by
  unfold Host.gather
  refine congrArg x (funext fun d => Fin.ext ?_)
  show (stackDims wf).start (ix4 i k p q) idx d + (stackDims wf).batchCoord (ix4 i k p q) d + (stackDims wf).offCoord (ix4 i k p q) d = (ix3 n p q d).val
  rw [GatherDims.batchCoord_eq_zero _ _ _ List.not_mem_nil, Nat.add_zero]
  match d with
  | ⟨0, _⟩ =>
    rw [GatherDims.offCoord_eq_zero _ _ _ (fun e => ((GatherDims.mem_sKept _ _).mp e).1 (List.mem_singleton.mpr rfl)), Nat.add_zero]
    have hs : (stackDims wf).siIdx (ix4 i k p q) ⟨List.idxOf (0 : Fin 3) (stackDims wf).startIndexMap,
        List.idxOf_lt_length_iff.2 (List.mem_singleton.mpr rfl)⟩ = ix3 i k 0 := idx3_ext rfl rfl rfl
    exact Eq.trans (congrArg (fun z => min (idx z).toInt.toNat (N - 1)) hs) h
  | ⟨1, _⟩ =>
    exact Nat.zero_add _
  | ⟨2, _⟩ =>
    exact Nat.zero_add _

theorem row_apply (wf : GatherDims.WF ⟨2, ![N, b]⟩ ⟨3, ![R, C, 1]⟩ ⟨3, ![R, C, b]⟩ [2] [0] [] [0] [] 2 ![1, b])
    (x : (⟨2, ![N, b]⟩ : Shape).Idx → α) (idx : IVec ⟨3, ![R, C, 1]⟩ 32) (i : Fin R) (k : Fin C) (q : Fin b) (n : Fin N)
    (h : min (idx (ix3 i k 0)).toInt.toNat (N - 1) = n.val) :
    Host.gather (rowDims wf) x idx (ix3 i k q) = x (ix2 n q) := by
  unfold Host.gather
  refine congrArg x (funext fun d => Fin.ext ?_)
  show (rowDims wf).start (ix3 i k q) idx d + (rowDims wf).batchCoord (ix3 i k q) d + (rowDims wf).offCoord (ix3 i k q) d = (ix2 n q d).val
  rw [GatherDims.batchCoord_eq_zero _ _ _ List.not_mem_nil, Nat.add_zero]
  match d with
  | ⟨0, _⟩ =>
    rw [GatherDims.offCoord_eq_zero _ _ _ (fun e => ((GatherDims.mem_sKept _ _).mp e).1 (List.mem_singleton.mpr rfl)), Nat.add_zero]
    have hs : (rowDims wf).siIdx (ix3 i k q) ⟨List.idxOf (0 : Fin 2) (rowDims wf).startIndexMap,
        List.idxOf_lt_length_iff.2 (List.mem_singleton.mpr rfl)⟩ = ix3 i k 0 := idx3_ext rfl rfl rfl
    exact Eq.trans (congrArg (fun z => min (idx z).toInt.toNat (N - 1)) hs) h
  | ⟨1, _⟩ =>
    exact Nat.zero_add _
end

/-- A word of a number below the table's length is the number. -/
theorem clamp_word {N : Nat} (hN : N < 2147483648) (n : Fin N) : min (BitVec.ofNat 32 n.val).toInt.toNat (N - 1) = n.val := by
  have := n.isLt
  rw [toInt_ofNat (by omega)]
  simp; omega

variable (A : Atoms) (S : Words) (hA : Finite A) (i : Fin 8192) (k : Fin 16)
include hA

/-- The words the four tables are taken by are the neighbours'. -/
theorem v35_apply : val_main_v35 (F := Ideal) A S (ix3 i k 0) = BitVec.ofNat 32 (nbr A S i k).val := by
  rw [val_main_v35_apply, show idx_main_v35 (ix3 i k 0) = ix2 i k from eq_ix2 _, val_main_v34_apply, val_main_v31_apply, val_main_v30_apply, nbr_apply A S hA]
  exact wrap_point _ _
theorem v97_apply : val_main_v97 (F := Ideal) A S (ix3 i k 0) = BitVec.ofNat 32 (nbr A S i k).val := by
  rw [val_main_v97_apply, show idx_main_v97 (ix3 i k 0) = ix2 i k from eq_ix2 _, val_main_v96_apply, val_main_v93_apply, val_main_v92_apply, nbr_apply A S hA]
  exact wrap_point _ _
theorem v114_apply : val_main_v114 (F := Ideal) A S (ix3 i k 0) = BitVec.ofNat 32 (nbr A S i k).val := by
  rw [val_main_v114_apply, show idx_main_v114 (ix3 i k 0) = ix2 i k from eq_ix2 _, val_main_v113_apply, val_main_v110_apply, val_main_v109_apply, nbr_apply A S hA]
  exact wrap_point _ _
theorem v121_apply : val_main_v121 (F := Ideal) A S (ix3 i k 0) = BitVec.ofNat 32 (nbr A S i k).val := by
  rw [val_main_v121_apply, show idx_main_v121 (ix3 i k 0) = ix2 i k from eq_ix2 _, val_main_v120_apply, val_main_v117_apply, val_main_v116_apply, nbr_apply A S hA]
  exact wrap_point _ _

/-- The neighbours' coordinates, -/
theorem v36_apply (a : Fin 4) (x : Fin 3) : val_main_v36 (F := Ideal) A S (ix4 i k a x) = A (ix3 (nbr A S i k) a x) := by
  unfold val_main_v36
  exact stack_apply gather_S8192x4x3_S8192x16x1_S8192x16x4x3_23_0_n_n_0_2_143_wf A _ i k a x (nbr A S i k)
    (by rw [v35_apply A S hA]; exact clamp_word (by norm_num) _)
/-- frames, -/
theorem v98_apply (Fr : Frames) (a : Fin 3) (x : Fin 3) : val_main_v98 (F := Ideal) A Fr S (ix4 i k a x) = Fr (ix3 (nbr A S i k) a x) := by
  unfold val_main_v98
  exact stack_apply gather_S8192x3x3_S8192x16x1_S8192x16x3x3_23_0_n_n_0_2_133_wf Fr _ i k a x (nbr A S i k)
    (by rw [v97_apply A S hA]; exact clamp_word (by norm_num) _)
/-- positions -/
theorem v115_apply (P : Words) : val_main_v115 (F := Ideal) A P S (ix2 i k) = P (ix1 (nbr A S i k)) := by
  unfold val_main_v115
  exact take_apply P _ i k _ (v114_apply A S hA i k)
/-- and chains. -/
theorem v122_apply (C : Words) : val_main_v122 (F := Ideal) A C S (ix2 i k) = C (ix1 (nbr A S i k)) := by
  unfold val_main_v122
  exact take_apply C _ i k _ (v121_apply A S hA i k)

end Cert.Proof.ReferenceIdeal
-- ==== Proof.RefRadial.lean ====
/-
  The reference's place of a neighbour in the table of relative positions, and its radial features, by entry.
-/
module

public import proofs.«01_k».proof.Proof.RefTake

@[expose] public section

noncomputable section

namespace Cert.Proof.ReferenceIdeal

open Cert.ReferenceIdeal Cert.ReferenceIdeal.Gen Cert.ReferenceIdeal.Read
open Idealize.ShloMosaic Idealize.ShloMosaic.TcCoe
open Cert.Proof.Spec

/-! ### Places in the table -/

theorem toInt_minsi (x y : BitVec 32) : (IntOp.minsi x y).toInt = min x.toInt y.toInt := by
  unfold IntOp.minsi
  by_cases h : x.toInt < y.toInt
  · rw [if_pos (BitVec.slt_iff_toInt_lt.2 h)]; omega
  · rw [if_neg (fun e => h (BitVec.slt_iff_toInt_lt.1 e))]; omega

theorem toInt_maxsi (x y : BitVec 32) : (IntOp.maxsi x y).toInt = max x.toInt y.toInt := by
  unfold IntOp.maxsi
  by_cases h : y.toInt < x.toInt
  · rw [if_pos (BitVec.slt_iff_toInt_lt.2 h)]; omega
  · rw [if_neg (fun e => h (BitVec.slt_iff_toInt_lt.1 e))]; omega

/-- The difference of two positions does not wrap, -/
theorem toInt_diff {x y : BitVec 32} (hx : 0 ≤ x.toInt) (hy : 0 ≤ y.toInt) : (IntOp.subi x y).toInt = x.toInt - y.toInt := by
  show (x - y).toInt = _
  have := x.toInt_lt
  have := y.toInt_lt
  rw [BitVec.toInt_sub, Int.bmod_eq_of_le] <;> omega

/-- and neither does the place. -/
theorem place_word {pi pn : BitVec 32} (ci cn : BitVec 32) (hi : 0 ≤ pi.toInt) (hn : 0 ≤ pn.toInt) :
    IntOp.addi (Scalar.select (IntOp.cmpi .ne cn ci) 33#32 (IntOp.minsi 32#32 (IntOp.maxsi 4294967264#32 (IntOp.subi pn pi)))) 32#32
      = BitVec.ofNat 32 (place pi pn ci cn) := by
  apply BitVec.eq_of_toInt_eq
  have hp := place_lt pi pn ci cn
  rw [toInt_ofNat (by omega)]
  unfold place
  rw [cmpi_ne_word]
  by_cases h : cn = ci
  · rw [if_pos h, if_pos h]
    show (IntOp.minsi 32#32 (IntOp.maxsi 4294967264#32 (IntOp.subi pn pi)) + 32#32).toInt = _
    have e : (IntOp.minsi 32#32 (IntOp.maxsi 4294967264#32 (IntOp.subi pn pi))).toInt = min 32 (max (-32) (pn.toInt - pi.toInt)) := by
      rw [toInt_minsi, toInt_maxsi, toInt_diff hn hi]; rfl
    rw [BitVec.toInt_add, e, show (32#32 : BitVec 32).toInt = 32 from rfl, Int.bmod_eq_of_le] <;> omega
  · rw [if_neg h, if_neg h]
    rfl

section
variable (A : Atoms) (Fr : Frames) (P C S : Words) (hA : Finite A)

include hA in
theorem v132_apply (hP : ∀ i : Fin 8192, 0 ≤ (P (ix1 i)).toInt) (i : Fin 8192) (k : Fin 16) :
    val_main_v132 (F := Ideal) A P C S (ix2 i k) = BitVec.ofNat 32 (place (P (ix1 i)) (P (ix1 (nbr A S i k))) (C (ix1 i)) (C (ix1 (nbr A S i k)))) := by
  rw [val_main_v132_apply, val_main_v130_apply, val_main_v129_apply, val_main_v126_apply, val_main_call2_v2_apply, val_main_v125_apply,
    v115_apply A S hA, v122_apply A S hA, val_main_v124_apply, val_main_v123_apply, val_main_v128_apply, val_main_v127_apply]
  rw [show idx_main_v123 (idx_main_v124 (ix2 i k)) = ix1 i from eq_ix1 _, show idx_main_v127 (idx_main_v128 (ix2 i k)) = ix1 i from eq_ix1 _]
  rw [val_main_call2_v4_apply, val_main_call2_v3_apply, val_main_c_21_apply, val_main_call2_v1_apply, val_main_call2_v0_apply, val_main_c_20_apply,
    val_main_call3_v1_apply, val_main_call3_v0_apply, val_main_c_22_apply, val_main_v131_apply, val_main_c_23_apply]
  exact place_word _ _ (hP _) (hP _)

include hA in
/-- The table's row for each neighbour. -/
theorem v139_apply (hP : ∀ i : Fin 8192, 0 ≤ (P (ix1 i)).toInt) (T : Mat 66 256) (i : Fin 8192) (k : Fin 16) (d : Fin 256) :
    val_main_v139 (F := Ideal) A P C S T (ix3 i k d)
      = T (ix2 ⟨place (P (ix1 i)) (P (ix1 (nbr A S i k))) (C (ix1 i)) (C (ix1 (nbr A S i k))), place_lt _ _ _ _⟩ d) := by
  have hp := place_lt (P (ix1 i)) (P (ix1 (nbr A S i k))) (C (ix1 i)) (C (ix1 (nbr A S i k)))
  refine row_apply gather_S66x256_S8192x16x1_S8192x16x256_2_0_n_n_0_2_1256_wf T _ i k d _ ?_
  rw [val_main_v138_apply, show idx_main_v138 (ix3 i k 0) = ix2 i k from eq_ix2 _, val_main_v137_apply, val_main_v134_apply, v132_apply A P C S hA hP,
    val_main_v133_apply, val_main_c_24_apply]
  rw [Routing.wrap_of_lt _ _ (by rw [BitVec.toNat_ofNat]; omega)]
  exact clamp_word (by omega) ⟨_, hp⟩

/-! ### Radial features -/

theorem idx4_ext {a b c d : Nat} {x y : (⟨4, ![a, b, c, d]⟩ : Shape).Idx} (h0 : (x 0).val = (y 0).val) (h1 : (x 1).val = (y 1).val)
    (h2 : (x 2).val = (y 2).val) (h3 : (x 3).val = (y 3).val) : x = y :=
  funext fun e => match e with
    | ⟨0, _⟩ => Fin.ext h0
    | ⟨1, _⟩ => Fin.ext h1
    | ⟨2, _⟩ => Fin.ext h2
    | ⟨3, _⟩ => Fin.ext h3

include hA in
/-- The distances of the pairs of atoms. -/
theorem v44_apply (i : Fin 8192) (k : Fin 16) (a b : Fin 4) :
    val_main_v44 (F := Ideal) A S (ix4 i k a b) = dist (fun a x => A (ix3 i a x)) (fun a x => A (ix3 (nbr A S i k) a x)) a b := by
  rw [val_main_v44_apply, val_main_v43_apply, val_main_cst_4_apply, zero_eq, zero_add]
  have e : ∀ x : Fin 3, val_main_v42 (F := Ideal) A S (idx_main_v43 (ix4 i k a b) x)
      = (A (ix3 i a x) - A (ix3 (nbr A S i k) b x)) * (A (ix3 i a x) - A (ix3 (nbr A S i k) b x)) := fun x => by
    rw [val_main_v42_apply, val_main_v41_apply, val_main_v39_apply, val_main_v37_apply, val_main_v40_apply, val_main_v38_apply]
    rw [show idx_main_v37 (idx_main_v39 (idx_main_v43 (ix4 i k a b) x)) = ix3 i a x from eq_ix3 _,
      show idx_main_v38 (idx_main_v40 (idx_main_v43 (ix4 i k a b) x)) = ix4 i k b x from eq_ix4 _, v36_apply A S hA]
    rfl
  rw [Finset.sum_congr rfl fun x _ => e x, Fin.sum_univ_three]
  rfl

theorem lit_two : lit 0x40000000#32 = ((2 : ℝ) : EReal) := by
  simp [FloatOps.ofBits, Ideal.ofBits, Ideal.ieee, -EReal.coe_mul]; norm_num
theorem lit_fifteen : lit 0x41700000#32 = ((15 : ℝ) : EReal) := by
  simp [FloatOps.ofBits, Ideal.ofBits, Ideal.ieee, -EReal.coe_mul]; norm_num
theorem lit_twenty : lit 0x41A00000#32 = ((20 : ℝ) : EReal) := by
  simp [FloatOps.ofBits, Ideal.ofBits, Ideal.ieee, -EReal.coe_mul]; norm_num
theorem lit_spread : lit 0x3FC80000#32 = ((25 / 16 : ℝ) : EReal) := by
  simp [FloatOps.ofBits, Ideal.ofBits, Ideal.ieee, -EReal.coe_mul]; norm_num

/-- The centres of the radial features. -/
theorem v52_apply (r : Fin 16) : val_main_v52 (F := Ideal) (ix1 r) = center r.val := by
  rw [val_main_v52_apply, val_main_v51_apply, val_main_cst_7_apply, val_main_v50_apply, val_main_v48_apply, val_main_v49_apply,
    val_main_cst_6_apply, val_main_v47_apply, val_main_cst_5_apply, val_main_v46_apply, val_main_v45_apply]
  show lit 0x40000000#32 + Ideal.div (lit 0x41A00000#32 * (((BitVec.ofNat 32 r.val).toInt : ℝ) : EReal)) (lit 0x41700000#32) = _
  rw [lit_two, lit_fifteen, lit_twenty, toInt_ofNat (by omega), Ideal.div_coe (by norm_num)]
  unfold center
  rw [← EReal.coe_mul, ← EReal.coe_mul, ← EReal.coe_add]
  congr 1
  push_cast
  ring

include hA in
/-- The radial features. -/
theorem v63_apply (i : Fin 8192) (k : Fin 16) (j : Fin 256) :
    val_main_v63 (F := Ideal) A S (ix3 i k j) = radials (fun a x => A (ix3 i a x)) (fun a x => A (ix3 (nbr A S i k) a x)) j := by
  rw [val_main_v63_apply, val_main_v62_apply, val_main_v61_apply, val_main_v59_apply, val_main_v58_apply, val_main_v57_apply, val_main_v55_apply,
    val_main_v53_apply, val_main_v56_apply, val_main_v54_apply, val_main_v60_apply, val_main_cst_8_apply]
  have e : idx_main_v53 (idx_main_v55 (idx_main_v63 (ix3 i k j))) = ix4 i k (atomA j) (atomB j) := by
    have := i.isLt; have := k.isLt; have := j.isLt
    apply idx4_ext
    · show ((i.val * 16 + k.val) * 256 + j.val) / 4096 = i.val; omega
    · show ((i.val * 16 + k.val) * 256 + j.val) / 256 % 16 = k.val; omega
    · show ((i.val * 16 + k.val) * 256 + j.val) / 64 % 4 = j.val / 64; omega
    · show ((i.val * 16 + k.val) * 256 + j.val) / 16 % 4 = j.val / 16 % 4; omega
  have e' : idx_main_v54 (idx_main_v56 (idx_main_v63 (ix3 i k j))) = ix1 ⟨j.val % 16, Nat.mod_lt _ (by norm_num)⟩ := by
    refine (eq_ix1 _).trans (congrArg ix1 (Fin.ext ?_))
    show (((0 * 1 + 0) * 1 + 0) * 1 + 0) * 16 + ((i.val * 16 + k.val) * 256 + j.val) % 16 = j.val % 16
    omega
  rw [e, e', v44_apply A S hA, v52_apply]
  show Ideal.exp (Ideal.div (-_) (lit 0x3FC80000#32)) = _
  rw [lit_spread, Ideal.div_coe (by norm_num), show (1 / (25 / 16) : ℝ) = 16 / 25 by norm_num]
  rfl

end

end Cert.Proof.ReferenceIdeal
-- ==== Proof.RefLayers.lean ====
/-
  The reference's layers by entry: the radial features' layer, the frame vectors' products and their layer, and the three
  shares side by side.
-/
module

public import proofs.«01_k».proof.Proof.RefRadial

@[expose] public section

noncomputable section

namespace Cert.Proof.ReferenceIdeal

open Cert.ReferenceIdeal Cert.ReferenceIdeal.Gen Cert.ReferenceIdeal.Read
open Idealize.ShloMosaic Idealize.ShloMosaic.TcCoe
open Cert.Proof.Spec

theorem layer_of {n : Nat} {cn m v : EReal} (x g b : Fin n → EReal) (j : Fin n) (hm : m = mean cn x)
    (hv : v = mean cn fun l => (x l - m) * (x l - m)) :
    Ideal.div (x j - m) (Ideal.sqrt (v + lit 0x3727C5AC#32)) * g j + b j = layer cn x g b j := by
  subst hm; subst hv; rfl

section
variable (A : Atoms) (Fr : Frames) (P C S : Words)

/-! ### The radial features' layer -/

theorem v67_apply (i : Fin 8192) (k : Fin 16) :
    val_main_v67 (F := Ideal) A S (ix3 i k 0) = mean (lit 0x43800000#32) fun l : Fin 256 => val_main_v63 (F := Ideal) A S (ix3 i k l) := by
  rw [val_main_v67_apply, val_main_v66_apply, val_main_cst_10_apply, val_main_v65_apply, show idx_main_v65 (ix3 i k 0) = ix2 i k from eq_ix2 _,
    val_main_v64_apply, val_main_cst_9_apply, zero_eq, zero_add]
  exact congrArg (fun s => Ideal.div s (lit 0x43800000#32)) (Finset.sum_congr rfl fun l _ => congrArg (val_main_v63 (F := Ideal) A S) (eq_ix3 _))

theorem v74_apply (i : Fin 8192) (k : Fin 16) :
    val_main_v74 (F := Ideal) A S (ix3 i k 0) = mean (lit 0x43800000#32) fun l : Fin 256 =>
      (val_main_v63 (F := Ideal) A S (ix3 i k l) - val_main_v67 (F := Ideal) A S (ix3 i k 0))
        * (val_main_v63 (F := Ideal) A S (ix3 i k l) - val_main_v67 (F := Ideal) A S (ix3 i k 0)) := by
  rw [val_main_v74_apply, val_main_v73_apply, val_main_cst_12_apply, val_main_v72_apply, show idx_main_v72 (ix3 i k 0) = ix2 i k from eq_ix2 _,
    val_main_v71_apply, val_main_cst_11_apply, zero_eq, zero_add]
  refine congrArg (fun s => Ideal.div s (lit 0x43800000#32)) (Finset.sum_congr rfl fun l _ => ?_)
  rw [show idx_main_v71 (ix2 i k) l = ix3 i k l from eq_ix3 _, val_main_v70_apply, val_main_v69_apply, val_main_v68_apply,
    show idx_main_v68 (ix3 i k l) = ix3 i k 0 from eq_ix3 _]
  rfl

theorem v87_apply (g b : List1 256) (i : Fin 8192) (k : Fin 16) (j : Fin 256) :
    val_main_v87 (F := Ideal) A S g b (ix3 i k j)
      = layer (lit 0x43800000#32) (fun l => val_main_v63 (F := Ideal) A S (ix3 i k l)) (fun l => g (ix1 l)) (fun l => b (ix1 l)) j := by
  rw [val_main_v87_apply, val_main_v86_apply, val_main_v85_apply, val_main_v84_apply, val_main_v83_apply, val_main_v82_apply, val_main_v81_apply,
    val_main_v76_apply, val_main_v75_apply, val_main_v80_apply, val_main_v79_apply, val_main_v78_apply, val_main_v77_apply, val_main_cst_13_apply]
  rw [show idx_main_v85 (idx_main_v86 (ix3 i k j)) = ix1 j from eq_ix1 _, show idx_main_v82 (idx_main_v83 (ix3 i k j)) = ix1 j from eq_ix1 _,
    show idx_main_v75 (ix3 i k j) = ix3 i k 0 from eq_ix3 _, show idx_main_v80 (ix3 i k j) = ix3 i k 0 from eq_ix3 _]
  exact layer_of (fun l => val_main_v63 (F := Ideal) A S (ix3 i k l)) (fun l => g (ix1 l)) (fun l => b (ix1 l)) j (v67_apply A S i k) (v74_apply A S i k)

theorem v91_apply (hA : Finite A) (g b : List1 256) (w : Mat 256 256) (c : List1 256) (i : Fin 8192) (k : Fin 16) (d : Fin 256) :
    val_main_v91 (F := Ideal) A S g b w c (ix3 i k d)
      = dense (layer (lit 0x43800000#32) (radials (fun a x => A (ix3 i a x)) (fun a x => A (ix3 (nbr A S i k) a x))) (fun l => g (ix1 l)) (fun l => b (ix1 l)))
        (fun j d => w (ix2 j d)) (fun d => c (ix1 d)) d := by
  rw [val_main_v91_apply, val_main_v90_apply, val_main_v89_apply, show idx_main_v89 (idx_main_v90 (ix3 i k d)) = ix1 d from eq_ix1 _, val_main_v88_apply]
  refine congrArg (fun s : EReal => s + c (ix1 d)) (Finset.sum_congr rfl fun j _ => ?_)
  rw [show lidx_main_v88 (ix3 i k d) j = ix3 i k j from eq_ix3 _, show ridx_main_v88 (ix3 i k d) j = ix2 j d from eq_ix2 _, v87_apply,
    show (fun l => val_main_v63 (F := Ideal) A S (ix3 i k l)) = radials (fun a x => A (ix3 i a x)) (fun a x => A (ix3 (nbr A S i k) a x)) from
      funext fun l => v63_apply A S hA i k l]

/-! ### The frame vectors' products -/

theorem v101_apply (i : Fin 8192) (a x : Fin 3) : val_main_v101 (F := Ideal) Fr (ix3 i a x) = Fr (ix3 i x a) := by
  rw [val_main_v101_apply, val_main_v100_apply, val_main_v99_apply]
  refine congrArg Fr (idx3_ext ?_ ?_ ?_)
  all_goals have := i.isLt; have := a.isLt; have := x.isLt
  · show ((i.val * 3 + a.val) * 3 + x.val) / 9 = i.val; omega
  · show ((i.val * 3 + a.val) * 3 + x.val) % 3 = x.val; omega
  · show ((i.val * 3 + a.val) * 3 + x.val) / 3 % 3 = a.val; omega

theorem v104_apply (hA : Finite A) (i : Fin 8192) (k : Fin 16) (j : Fin 9) :
    val_main_v104 (F := Ideal) A Fr S (ix3 i k j) = directions (fun a x => Fr (ix3 i a x)) (fun a x => Fr (ix3 (nbr A S i k) a x)) j := by
  rw [val_main_v104_apply, val_main_v103_apply]
  have e : idx_main_v103 (idx_main_v104 (ix3 i k j)) = ix4 i (vecA j) k (vecB j) := by
    have := i.isLt; have := k.isLt; have := j.isLt
    apply idx4_ext
    · show ((i.val * 16 + k.val) * 9 + j.val) / 144 = i.val; omega
    · show ((i.val * 16 + k.val) * 9 + j.val) / 3 % 3 = j.val / 3; omega
    · show ((i.val * 16 + k.val) * 9 + j.val) / 9 % 16 = k.val; omega
    · show ((i.val * 16 + k.val) * 9 + j.val) % 3 = j.val % 3; omega
  rw [e, val_main_v102_apply]
  have f : ∀ x : Fin 3, val_main_v101 (F := Ideal) Fr (lidx_main_v102 (ix4 i (vecA j) k (vecB j)) x)
        * val_main_v98 (F := Ideal) A Fr S (ridx_main_v102 (ix4 i (vecA j) k (vecB j)) x)
      = Fr (ix3 i x (vecA j)) * Fr (ix3 (nbr A S i k) x (vecB j)) := fun x => by
    rw [show lidx_main_v102 (ix4 i (vecA j) k (vecB j)) x = ix3 i (vecA j) x from eq_ix3 _,
      show ridx_main_v102 (ix4 i (vecA j) k (vecB j)) x = ix4 i k x (vecB j) from eq_ix4 _, v101_apply, v98_apply A S hA]
  rw [Finset.sum_congr rfl fun x _ => f x, Fin.sum_univ_three]
  rfl

theorem v108_apply (hA : Finite A) (w : Mat 9 256) (c : List1 256) (i : Fin 8192) (k : Fin 16) (d : Fin 256) :
    val_main_v108 (F := Ideal) A Fr S w c (ix3 i k d)
      = dense (directions (fun a x => Fr (ix3 i a x)) (fun a x => Fr (ix3 (nbr A S i k) a x))) (fun j d => w (ix2 j d)) (fun d => c (ix1 d)) d := by
  rw [val_main_v108_apply, val_main_v107_apply, val_main_v106_apply, show idx_main_v106 (idx_main_v107 (ix3 i k d)) = ix1 d from eq_ix1 _, val_main_v105_apply]
  refine congrArg (fun s : EReal => s + c (ix1 d)) (Finset.sum_congr rfl fun j _ => ?_)
  rw [show lidx_main_v105 (ix3 i k d) j = ix3 i k j from eq_ix3 _, show ridx_main_v105 (ix3 i k d) j = ix2 j d from eq_ix2 _, v104_apply A Fr S hA]

/-! ### The three shares side by side -/

/-- The three arrays laid side by side. -/
abbrev shares (x y z : S8192x16x256.Idx → EReal) : List ((s : Shape) × (s.Idx → EReal)) :=
  [⟨S8192x16x256, x⟩, ⟨S8192x16x256, y⟩, ⟨S8192x16x256, z⟩]

theorem beside_apply (x y z : S8192x16x256.Idx → EReal) (h : Shape.Concatenates ((shares x y z).map (·.1)) S8192x16x768 2) (i : Fin 8192) (k : Fin 16) (j : Fin 768) :
    concatenate S8192x16x768 2 (shares x y z) h (ix3 i k j)
      = beside (fun l => x (ix3 i k l)) (fun l => y (ix3 i k l)) (fun l => z (ix3 i k l)) j := by
  have off : ∀ l : Fin 256, ∀ b : Fin 3, b ≠ 2 → ((ix3 i k l : S8192x16x256.Idx) b).val = ((ix3 i k j : S8192x16x768.Idx) b).val := fun l b hb =>
    match b with
    | ⟨0, _⟩ => rfl
    | ⟨1, _⟩ => rfl
    | ⟨2, _⟩ => absurd rfl hb
  have hj := j.isLt
  unfold beside
  by_cases h1 : j.val < 256
  · refine Eq.trans ?_ (dif_pos h1).symm
    refine concatenate_apply_piece (t := S8192x16x768) 2 (shares x y z) h (ix3 i k j) 0 (by show 0 < 3; omega) S8192x16x256 x rfl rfl 0 rfl (ix3 i k ⟨j.val, h1⟩) (off _) ?_
    exact Nat.zero_add _
  · refine Eq.trans ?_ (dif_neg h1).symm
    by_cases h2 : j.val < 512
    · refine Eq.trans ?_ (dif_pos h2).symm
      refine concatenate_apply_piece (t := S8192x16x768) 2 (shares x y z) h (ix3 i k j) 1 (by show 1 < 3; omega) S8192x16x256 y rfl rfl 256 rfl (ix3 i k ⟨j.val - 256, by omega⟩) (off _) ?_
      show 256 + (j.val - 256) = j.val
      omega
    · refine Eq.trans ?_ (dif_neg h2).symm
      refine concatenate_apply_piece (t := S8192x16x768) 2 (shares x y z) h (ix3 i k j) 2 (by show 2 < 3; omega) S8192x16x256 z rfl rfl 512 rfl (ix3 i k ⟨j.val - 512, by omega⟩) (off _) ?_
      show 512 + (j.val - 512) = j.val
      omega

end

/-- The reference's form of the activation. -/
theorem silu_of (x : EReal) : x * Ideal.div (lit 0x3F800000#32) (lit 0x3F800000#32 + Ideal.exp (-x)) = silu x := by
  have h1 : lit 0x3F800000#32 = 1 := by
    simp [FloatOps.ofBits, Ideal.ofBits, Ideal.ieee, -EReal.coe_mul]; norm_num
  rw [h1]
  unfold silu Ideal.div
  have hne : (1 + Ideal.exp (-x) : EReal) ≠ 0 := by
    have : (0 : EReal) ≤ Ideal.exp (-x) := by
      generalize -x = y
      induction y using EReal.rec with
      | bot => exact le_refl _
      | top => exact le_top
      | coe r => exact EReal.coe_nonneg.2 (Real.exp_pos r).le
    exact ne_of_gt (lt_of_lt_of_le zero_lt_one (le_add_of_nonneg_right this))
  rw [if_neg hne, if_neg hne, one_mul]

end Cert.Proof.ReferenceIdeal
-- ==== Proof.RefEdges.lean ====
/-
  The reference's edge array by entry: the network over the three shares.
-/
module

public import proofs.«01_k».proof.Proof.RefLayers

@[expose] public section

noncomputable section

namespace Cert.Proof.ReferenceIdeal

open Cert.ReferenceIdeal Cert.ReferenceIdeal.Gen Cert.ReferenceIdeal.Read
open Idealize.ShloMosaic Idealize.ShloMosaic.TcCoe
open Cert.Proof.Spec

section
variable (A : Atoms) (Fr : Frames) (P C S : Words) (g1 b1 : List1 256) (w1 : Mat 256 256) (c1 : List1 256) (dw : Mat 9 256) (db : List1 256)
  (T : Mat 66 256) (g2 b2 : List1 768) (w2 : Mat 768 256) (c2 : List1 256) (w3 : Mat 256 256) (c3 : List1 256) (w4 : Mat 256 256) (c4 : List1 256)

/-- The three shares of an edge, as one row. -/
def row (i : Fin 8192) (k : Fin 16) (l : Fin 768) : EReal := val_main_v140 (F := Ideal) A Fr P C S g1 b1 w1 c1 dw db T (ix3 i k l)

theorem row_eq (hA : Finite A) (hP : ∀ i : Fin 8192, 0 ≤ (P (ix1 i)).toInt) (i : Fin 8192) (k : Fin 16) :
    row A Fr P C S g1 b1 w1 c1 dw db T i k
      = beside (dense (layer (lit 0x43800000#32) (radials (fun a x => A (ix3 i a x)) (fun a x => A (ix3 (nbr A S i k) a x))) (fun l => g1 (ix1 l)) (fun l => b1 (ix1 l)))
          (fun j d => w1 (ix2 j d)) (fun d => c1 (ix1 d)))
        (dense (directions (fun a x => Fr (ix3 i a x)) (fun a x => Fr (ix3 (nbr A S i k) a x))) (fun j d => dw (ix2 j d)) (fun d => db (ix1 d)))
        (fun d => T (ix2 ⟨place (P (ix1 i)) (P (ix1 (nbr A S i k))) (C (ix1 i)) (C (ix1 (nbr A S i k))), place_lt _ _ _ _⟩ d)) := by
  funext l
  refine (beside_apply (val_main_v91 (F := Ideal) A S g1 b1 w1 c1) (val_main_v108 (F := Ideal) A Fr S dw db) (val_main_v139 (F := Ideal) A P C S T)
    concatenates_S8192x16x256_S8192x16x256_S8192x16x256_S8192x16x768_d2 i k l).trans ?_
  rw [funext fun d => v91_apply A S hA g1 b1 w1 c1 i k d, funext fun d => v108_apply A Fr S hA dw db i k d, funext fun d => v139_apply A P C S hA hP T i k d]

theorem v144_apply (i : Fin 8192) (k : Fin 16) :
    val_main_v144 (F := Ideal) A Fr P C S g1 b1 w1 c1 dw db T (ix3 i k 0) = mean (lit 0x44400000#32) (row A Fr P C S g1 b1 w1 c1 dw db T i k) := by
  rw [val_main_v144_apply, val_main_v143_apply, val_main_cst_27_apply, val_main_v142_apply, show idx_main_v142 (ix3 i k 0) = ix2 i k from eq_ix2 _,
    val_main_v141_apply, val_main_cst_26_apply, zero_eq, zero_add]
  exact congrArg (fun s => Ideal.div s (lit 0x44400000#32)) (Finset.sum_congr rfl fun l _ => congrArg (val_main_v140 (F := Ideal) A Fr P C S g1 b1 w1 c1 dw db T) (eq_ix3 _))

theorem v151_apply (i : Fin 8192) (k : Fin 16) :
    val_main_v151 (F := Ideal) A Fr P C S g1 b1 w1 c1 dw db T (ix3 i k 0) = mean (lit 0x44400000#32) fun l : Fin 768 =>
      (row A Fr P C S g1 b1 w1 c1 dw db T i k l - val_main_v144 (F := Ideal) A Fr P C S g1 b1 w1 c1 dw db T (ix3 i k 0))
        * (row A Fr P C S g1 b1 w1 c1 dw db T i k l - val_main_v144 (F := Ideal) A Fr P C S g1 b1 w1 c1 dw db T (ix3 i k 0)) := by
  rw [val_main_v151_apply, val_main_v150_apply, val_main_cst_29_apply, val_main_v149_apply, show idx_main_v149 (ix3 i k 0) = ix2 i k from eq_ix2 _,
    val_main_v148_apply, val_main_cst_28_apply, zero_eq, zero_add]
  refine congrArg (fun s => Ideal.div s (lit 0x44400000#32)) (Finset.sum_congr rfl fun l _ => ?_)
  rw [show idx_main_v148 (ix2 i k) l = ix3 i k l from eq_ix3 _, val_main_v147_apply, val_main_v146_apply, val_main_v145_apply,
    show idx_main_v145 (ix3 i k l) = ix3 i k 0 from eq_ix3 _]
  rfl

theorem v164_apply (i : Fin 8192) (k : Fin 16) (j : Fin 768) :
    val_main_v164 (F := Ideal) A Fr P C S g1 b1 w1 c1 dw db T g2 b2 (ix3 i k j)
      = layer (lit 0x44400000#32) (row A Fr P C S g1 b1 w1 c1 dw db T i k) (fun l => g2 (ix1 l)) (fun l => b2 (ix1 l)) j := by
  rw [val_main_v164_apply, val_main_v163_apply, val_main_v162_apply, val_main_v161_apply, val_main_v160_apply, val_main_v159_apply, val_main_v158_apply,
    val_main_v153_apply, val_main_v152_apply, val_main_v157_apply, val_main_v156_apply, val_main_v155_apply, val_main_v154_apply, val_main_cst_30_apply]
  rw [show idx_main_v162 (idx_main_v163 (ix3 i k j)) = ix1 j from eq_ix1 _, show idx_main_v159 (idx_main_v160 (ix3 i k j)) = ix1 j from eq_ix1 _,
    show idx_main_v152 (ix3 i k j) = ix3 i k 0 from eq_ix3 _, show idx_main_v157 (ix3 i k j) = ix3 i k 0 from eq_ix3 _]
  exact layer_of (row A Fr P C S g1 b1 w1 c1 dw db T i k) (fun l => g2 (ix1 l)) (fun l => b2 (ix1 l)) j
    (v144_apply A Fr P C S g1 b1 w1 c1 dw db T i k) (v151_apply A Fr P C S g1 b1 w1 c1 dw db T i k)

/-! ### The network -/

theorem v168_apply (i : Fin 8192) (k : Fin 16) (d : Fin 256) :
    val_main_v168 (F := Ideal) A Fr P C S g1 b1 w1 c1 dw db T g2 b2 w2 c2 (ix3 i k d)
      = dense (layer (lit 0x44400000#32) (row A Fr P C S g1 b1 w1 c1 dw db T i k) (fun l => g2 (ix1 l)) (fun l => b2 (ix1 l)))
        (fun j d => w2 (ix2 j d)) (fun d => c2 (ix1 d)) d := by
  rw [val_main_v168_apply, val_main_v167_apply, val_main_v166_apply, show idx_main_v166 (idx_main_v167 (ix3 i k d)) = ix1 d from eq_ix1 _, val_main_v165_apply]
  refine congrArg (fun s : EReal => s + c2 (ix1 d)) (Finset.sum_congr rfl fun j _ => ?_)
  rw [show lidx_main_v165 (ix3 i k d) j = ix3 i k j from eq_ix3 _, show ridx_main_v165 (ix3 i k d) j = ix2 j d from eq_ix2 _, v164_apply]

theorem v169_apply (i : Fin 8192) (k : Fin 16) (d : Fin 256) :
    val_main_v169 (F := Ideal) A Fr P C S g1 b1 w1 c1 dw db T g2 b2 w2 c2 (ix3 i k d) = silu (val_main_v168 (F := Ideal) A Fr P C S g1 b1 w1 c1 dw db T g2 b2 w2 c2 (ix3 i k d)) := by
  rw [val_main_v169_apply, val_main_call4_v5_apply, val_main_call4_v4_apply, val_main_call4_cst_0_apply, val_main_call4_v3_apply, val_main_call4_v2_apply,
    val_main_call4_cst_apply, val_main_call4_v1_apply, val_main_call4_v0_apply]
  exact silu_of _

theorem v173_apply (i : Fin 8192) (k : Fin 16) (d : Fin 256) :
    val_main_v173 (F := Ideal) A Fr P C S g1 b1 w1 c1 dw db T g2 b2 w2 c2 w3 c3 (ix3 i k d)
      = dense (fun l => silu (val_main_v168 (F := Ideal) A Fr P C S g1 b1 w1 c1 dw db T g2 b2 w2 c2 (ix3 i k l))) (fun j d => w3 (ix2 j d)) (fun d => c3 (ix1 d)) d := by
  rw [val_main_v173_apply, val_main_v172_apply, val_main_v171_apply, show idx_main_v171 (idx_main_v172 (ix3 i k d)) = ix1 d from eq_ix1 _, val_main_v170_apply]
  refine congrArg (fun s : EReal => s + c3 (ix1 d)) (Finset.sum_congr rfl fun j _ => ?_)
  rw [show lidx_main_v170 (ix3 i k d) j = ix3 i k j from eq_ix3 _, show ridx_main_v170 (ix3 i k d) j = ix2 j d from eq_ix2 _, v169_apply]

theorem v174_apply (i : Fin 8192) (k : Fin 16) (d : Fin 256) :
    val_main_v174 (F := Ideal) A Fr P C S g1 b1 w1 c1 dw db T g2 b2 w2 c2 w3 c3 (ix3 i k d) = silu (val_main_v173 (F := Ideal) A Fr P C S g1 b1 w1 c1 dw db T g2 b2 w2 c2 w3 c3 (ix3 i k d)) := by
  rw [val_main_v174_apply, val_main_call5_v5_apply, val_main_call5_v4_apply, val_main_call5_cst_0_apply, val_main_call5_v3_apply, val_main_call5_v2_apply,
    val_main_call5_cst_apply, val_main_call5_v1_apply, val_main_call5_v0_apply]
  exact silu_of _

theorem v178_apply (i : Fin 8192) (k : Fin 16) (d : Fin 256) :
    val_main_v178 (F := Ideal) A Fr P C S g1 b1 w1 c1 dw db T g2 b2 w2 c2 w3 c3 w4 c4 (ix3 i k d)
      = dense (fun l => silu (val_main_v173 (F := Ideal) A Fr P C S g1 b1 w1 c1 dw db T g2 b2 w2 c2 w3 c3 (ix3 i k l))) (fun j d => w4 (ix2 j d)) (fun d => c4 (ix1 d)) d := by
  rw [val_main_v178_apply, val_main_v177_apply, val_main_v176_apply, show idx_main_v176 (idx_main_v177 (ix3 i k d)) = ix1 d from eq_ix1 _, val_main_v175_apply]
  refine congrArg (fun s : EReal => s + c4 (ix1 d)) (Finset.sum_congr rfl fun j _ => ?_)
  rw [show lidx_main_v175 (ix3 i k d) j = ix3 i k j from eq_ix3 _, show ridx_main_v175 (ix3 i k d) j = ix2 j d from eq_ix2 _, v174_apply]

/-- The reference's edges. -/
theorem edges_apply (hA : Finite A) (hP : ∀ i : Fin 8192, 0 ≤ (P (ix1 i)).toInt) (i : Fin 8192) (k : Fin 16) (d : Fin 256) :
    val_main_v178 (F := Ideal) A Fr P C S g1 b1 w1 c1 dw db T g2 b2 w2 c2 w3 c3 w4 c4 (ix3 i k d)
      = between (weights g1 b1 w1 c1 dw db g2 b2 w2 c2 w3 c3 w4 c4) A Fr P C T i (nbr A S i k) d := by
  rw [v178_apply, funext fun l => congrArg silu (v173_apply A Fr P C S g1 b1 w1 c1 dw db T g2 b2 w2 c2 w3 c3 i k l),
    funext fun l => congrArg silu (v168_apply A Fr P C S g1 b1 w1 c1 dw db T g2 b2 w2 c2 i k l), row_eq A Fr P C S g1 b1 w1 c1 dw db T hA hP]
  rfl

end

end Cert.Proof.ReferenceIdeal
-- ==== Proof.Algebraic.lean ====
/-
  The value claim: over the extended reals, and on the arguments the precondition allows, the kernel's three results are
  the reference's.
-/
module

public import proofs.«01_k».proof.Defs
public import proofs.«01_k».proof.Proof.Frames
public import proofs.«01_k».proof.Proof.Drawn
public import proofs.«01_k».proof.Proof.Edges
public import proofs.«01_k».proof.Proof.RefEdges

@[expose] public section

set_option maxRecDepth 65536

noncomputable section

namespace Cert.Proof.KernelIdeal

open Cert.KernelIdeal Cert.KernelIdeal.Gen
open Idealize.ShloMosaic Idealize.ShloMosaic.TcCoe
open Idealize.ShloMosaic.Pipeline (arrRef)

variable (m : (ℓ : Loc nD τ sig) → Buf (Elt Ideal) ℓ) (c : Dev nD)

/-- The neighbours are not written after the first region, -/
theorem W5_nbrs : W5 m c (Proc.devRef .tc main_v14_0) = W2 m c (Proc.devRef .tc main_v14_0) :=
  (W5_of m c main_v14_0 (by decide)).trans ((W4_of m c main_v14_0 (by decide)).trans (W3_of m c main_v14_0 (by decide)))

/-- nor the mask after the host operations that follow it. -/
theorem W5_mask : W5 m c (Proc.devRef .tc main_v17) = W3 m c (Proc.devRef .tc main_v17) :=
  (W5_of m c main_v17 (by decide)).trans (W4_of m c main_v17 (by decide))

/-- A result at the end of a run. -/
theorem result_kept (s : MemSt nD τ sig (Elt Ideal)) (h : ∀ b ∈ Pipeline.ucRefs τ sig, s.mem (c, b) = W5 m c b) (r : Ref sig .tc)
    (hs : r.isScoped = false) : s.mem (c, Proc.devRef .tc r) = W5 m c (Proc.devRef .tc r) :=
  h _ (Finset.mem_filter.mpr ⟨StableHlo.devRef_mem_tcRefs r, by simpa using hs⟩)

variable (h : Cert.Pre_KernelIdeal_drawn m)
include h

/-- The reference's edges are the kernel's, -/
theorem edges_agree : Cert.ReferenceIdeal.Read.val_main_v178 (F := Ideal) (coords m c) (frames m c) (positions m c) (chains m c) (samples m c)
      (m (c, Proc.devRef .tc main_arg5)) (m (c, Proc.devRef .tc main_arg6)) (m (c, Proc.devRef .tc main_arg7)) (m (c, Proc.devRef .tc main_arg8))
      (m (c, Proc.devRef .tc main_arg9)) (m (c, Proc.devRef .tc main_arg10)) (m (c, Proc.devRef .tc main_arg11)) (m (c, Proc.devRef .tc main_arg12))
      (m (c, Proc.devRef .tc main_arg13)) (m (c, Proc.devRef .tc main_arg14)) (m (c, Proc.devRef .tc main_arg15)) (m (c, Proc.devRef .tc main_arg16))
      (m (c, Proc.devRef .tc main_arg17)) (m (c, Proc.devRef .tc main_arg18)) (m (c, Proc.devRef .tc main_arg19))
    = W5 m c (Proc.devRef .tc main_v40) := by
  funext (y : S8192x16x256.Idx)
  rw [eq_ix3 y]
  exact (ReferenceIdeal.edges_apply (coords m c) (frames m c) (positions m c) (chains m c) (samples m c)
    (m (c, Proc.devRef .tc main_arg5)) (m (c, Proc.devRef .tc main_arg6)) (m (c, Proc.devRef .tc main_arg7)) (m (c, Proc.devRef .tc main_arg8))
    (m (c, Proc.devRef .tc main_arg9)) (m (c, Proc.devRef .tc main_arg10)) (m (c, Proc.devRef .tc main_arg11)) (m (c, Proc.devRef .tc main_arg12))
    (m (c, Proc.devRef .tc main_arg13)) (m (c, Proc.devRef .tc main_arg14)) (m (c, Proc.devRef .tc main_arg15)) (m (c, Proc.devRef .tc main_arg16))
    (m (c, Proc.devRef .tc main_arg17)) (m (c, Proc.devRef .tc main_arg18)) (m (c, Proc.devRef .tc main_arg19))
    (drawn_finite m c h) (drawn_placed m c h) (y 0) (y 1) (y 2)).trans (edges_at m c (drawn_sorted m c h) (y 0) (y 1) (y 2)).symm

/-- its neighbours are, -/
theorem nbrs_agree : Cert.ReferenceIdeal.Read.val_main_v29 (F := Ideal) (coords m c) (samples m c) = W5 m c (Proc.devRef .tc main_v14_0) := by
  rw [W5_nbrs]
  funext (y : S8192x16.Idx)
  rw [eq_ix2 y]
  exact (ReferenceIdeal.nbr_apply (coords m c) (samples m c) (drawn_finite m c h) (y 0) (y 1)).trans (nbrs_at m c (drawn_sorted m c h) (y 0) (y 1)).symm

/-- and its mask is. -/
theorem mask_agree : Cert.ReferenceIdeal.Read.val_main_v26 (F := Ideal) (coords m c) (samples m c) = W5 m c (Proc.devRef .tc main_v17) := by
  rw [W5_mask]
  funext (y : S8192x16.Idx)
  rw [eq_ix2 y]
  exact (ReferenceIdeal.mask_apply (coords m c) (samples m c) (drawn_finite m c h) (y 0) (y 1)).trans (mask_at m c (drawn_sorted m c h) (y 0) (y 1)).symm

end Cert.Proof.KernelIdeal

namespace Cert.Proof

open Idealize.ShloMosaic Idealize.ShloMosaic.TcCoe Idealize.SL.Sem

theorem algebraic : Cert.algebraic_KernelIdeal_ReferenceIdeal_pre_drawn := fun m g m' g' hp agree =>
  ⟨fun c => KernelIdeal.W5 m c (Proc.devRef .tc Cert.KernelIdeal.main_v40), fun c => KernelIdeal.W5 m c (Proc.devRef .tc Cert.KernelIdeal.main_v14_0),
    fun c => KernelIdeal.W5 m c (Proc.devRef .tc Cert.KernelIdeal.main_v17),
    (θ_run Cert.KernelIdeal.defs _ _).mono (fun r h c =>
      ⟨KernelIdeal.result_kept m c r.2 (h.1 c) Cert.KernelIdeal.main_v40 (by decide), KernelIdeal.result_kept m c r.2 (h.1 c) Cert.KernelIdeal.main_v14_0 (by decide),
        KernelIdeal.result_kept m c r.2 (h.1 c) Cert.KernelIdeal.main_v17 (by decide), KernelIdeal_kept m c r.2 (h.1 c)⟩) (KernelIdeal.run_main m g),
    (θ_run Cert.ReferenceIdeal.defs _ _).mono (fun r h c => by
      obtain ⟨h1, h2, h3, hargs⟩ := h c
      obtain ⟨e0, e1, e2, e3, e4, e5, e6, e7, e8, e9, e10, e11, e12, e13, e14, e15, e16, e17, e18, e19⟩ := agree c
      refine ⟨h1.trans ((Cert.ReferenceIdeal.Read.val_main_v178_eq (StableHlo.launchContents m' c)).trans ?_),
        h2.trans ((Cert.ReferenceIdeal.Read.val_main_v29_eq (StableHlo.launchContents m' c)).trans ?_),
        h3.trans ((Cert.ReferenceIdeal.Read.val_main_v26_eq (StableHlo.launchContents m' c)).trans ?_), hargs⟩
      · refine Eq.trans ?_ (KernelIdeal.edges_agree m c hp)
        show Cert.ReferenceIdeal.Read.val_main_v178 (F := Ideal)
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = _
        rw [e0, e1, e2, e3, e4, e5, e6, e7, e8, e9, e10, e11, e12, e13, e14, e15, e16, e17, e18, e19]
      · refine Eq.trans ?_ (KernelIdeal.nbrs_agree m c hp)
        show Cert.ReferenceIdeal.Read.val_main_v29 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg4)) = _
        rw [e0, e4]
      · refine Eq.trans ?_ (KernelIdeal.mask_agree m c hp)
        show Cert.ReferenceIdeal.Read.val_main_v26 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg4)) = _
        rw [e0, e4]) (Cert.ReferenceIdeal.Value.run m' g')⟩

end Cert.Proof
-- ==== Proof.lean ====
/-
  The proof of `Cert.Claim`: the programs' stated facts, the frames, the named constants and the value claim.
-/
module

public import proofs.«01_k».proof.Defs
public import proofs.«01_k».proof.Proof.Frames
public import proofs.«01_k».proof.Proof.Algebraic
public import proofs.«01_k».proof.Proof.Gen.Pre_drawn
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

theorem claim : Cert.Claim := ⟨Cert.Kernel.Gen.facts, Cert.KernelIdeal.Gen.facts, Cert.ReferenceIdeal.Gen.facts, Cert.Pre_drawn.Gen.facts,
  frame_printed, frame_kernel, frame_kernel_drawn, frame_reference, frame_reference_drawn, preserves, algebraic⟩

end Cert.Proof
